-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v45)) (v1 : (c : Dev Cert.Kernel2Ideal.nD) → Buf (Elt Ideal) ((c.tc : Thread Cert.Kernel2Ideal.nD Cert.Kernel2Ideal.τ).loc Cert.Kernel2Ideal.main_v47)) (v2 : (c : Dev Cert.Kernel2Ideal.nD) → Buf (Elt Ideal) ((c.tc : Thread Cert.Kernel2Ideal.nD Cert.Kernel2Ideal.τ).loc Cert.Kernel2Ideal.main_v48)) (v3 : (c : Dev Cert.Kernel2Ideal.nD) → Buf (Elt Ideal) ((c.tc : Thread Cert.Kernel2Ideal.nD Cert.Kernel2Ideal.τ).loc Cert.Kernel2Ideal.main_v60)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v45) = v0 c
          ∧ r.2.mem ((c.tc : Thread Cert.Kernel2Ideal.nD Cert.Kernel2Ideal.τ).loc Cert.Kernel2Ideal.main_v47) = v1 c
          ∧ r.2.mem ((c.tc : Thread Cert.Kernel2Ideal.nD Cert.Kernel2Ideal.τ).loc Cert.Kernel2Ideal.main_v48) = v2 c
          ∧ r.2.mem ((c.tc : Thread Cert.Kernel2Ideal.nD Cert.Kernel2Ideal.τ).loc Cert.Kernel2Ideal.main_v60) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v71) = v0 c
          ∧ r.2.mem ((c.tc : Thread Cert.Reference2Ideal.nD Cert.Reference2Ideal.τ).loc Cert.Reference2Ideal.main_v66) = v1 c
          ∧ r.2.mem ((c.tc : Thread Cert.Reference2Ideal.nD Cert.Reference2Ideal.τ).loc Cert.Reference2Ideal.main_v72) = v2 c
          ∧ r.2.mem ((c.tc : Thread Cert.Reference2Ideal.nD Cert.Reference2Ideal.τ).loc Cert.Reference2Ideal.main_v67) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  IdealRules.named_const.Statement Cert.Kernel3Ideal.κ "mask" .f32 0xF149F2CA#32 ⊥

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_v26) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v7) = v2 c
          ∧ r.2.mem ((c.tc : Thread Cert.Reference5Ideal.nD Cert.Reference5Ideal.τ).loc Cert.Reference5Ideal.main_v13) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v17)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v17) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v15_0)) (v1 : (c : Dev Cert.Kernel7Ideal.nD) → Buf (Elt Ideal) ((c.tc : Thread Cert.Kernel7Ideal.nD Cert.Kernel7Ideal.τ).loc Cert.Kernel7Ideal.main_v15_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15_0) = v0 c
          ∧ r.2.mem ((c.tc : Thread Cert.Kernel7Ideal.nD Cert.Kernel7Ideal.τ).loc Cert.Kernel7Ideal.main_v15_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_v22) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
-- ==== Pre_finite.lean ====
abbrev S4x2048x1024 : Shape := ⟨3, ![4, 2048, 1024]⟩
abbrev S1x1024 : Shape := ⟨2, ![1, 1024]⟩
abbrev S1x1024x3136 : Shape := ⟨3, ![1, 1024, 3136]⟩
abbrev S4x2048x448 : Shape := ⟨3, ![4, 2048, 448]⟩
abbrev S4x2048x1664 : Shape := ⟨3, ![4, 2048, 1664]⟩
abbrev S_ : Shape := ⟨0, ![]⟩

class Facts : Prop where
  bcast_S_S4x2048x1024 : S_.BroadcastsInDim S4x2048x1024 (![] : Fin 0 → Fin S4x2048x1024.rank)
  bcast_S_S1x1024 : S_.BroadcastsInDim S1x1024 (![] : Fin 0 → Fin S1x1024.rank)
  bcast_S_S1x1024x3136 : S_.BroadcastsInDim S1x1024x3136 (![] : Fin 0 → Fin S1x1024x3136.rank)
  bcast_S_S4x2048x448 : S_.BroadcastsInDim S4x2048x448 (![] : Fin 0 → Fin S4x2048x448.rank)
  bcast_S_S4x2048x1664 : S_.BroadcastsInDim S4x2048x1664 (![] : Fin 0 → Fin S4x2048x1664.rank)

variable [Facts]

def fn_part1 {F : FTy → Type} [FloatOps F] (main_arg6 : FVec F S4x2048x1024 .f32) (main_v2 : IVec S4x2048x1024 1) (main_v5 : IVec S1x1024 1) (main_v8 : IVec S1x1024x3136 1) (main_v11 : IVec S4x2048x448 1) (main_v14 : IVec S4x2048x1664 1) (main_v17 : IVec S4x2048x1664 1) : IVec S4x2048x1024 1 × IVec S1x1024 1 × IVec S1x1024x3136 1 × IVec S4x2048x448 1 × IVec S4x2048x1664 1 × IVec S4x2048x1664 1 × IVec S4x2048x1024 1 :=
  let main_v18 : FVec F S4x2048x1024 .f32 := Host.absf main_arg6
  let main_cst_5 : FVec F S_ .f32 := constant S_ .f32 0x7F800000#32
  let main_v19 : FVec F S4x2048x1024 .f32 := broadcastInDim S4x2048x1024 ![] bcast_S_S4x2048x1024 main_cst_5
  let main_v20 : IVec S4x2048x1024 1 := cmpf .olt main_v18 main_v19
  (main_v2, main_v5, main_v8, main_v11, main_v14, main_v17, main_v20)

def fn {F : FTy → Type} [FloatOps F] (main_arg0 : FVec F S4x2048x1024 .f32) (main_arg1 : FVec F S1x1024 .f32) (main_arg2 : FVec F S1x1024x3136 .f32) (main_arg3 : FVec F S4x2048x448 .f32) (main_arg4 : FVec F S4x2048x1664 .f32) (main_arg5 : FVec F S4x2048x1664 .f32) (main_arg6 : FVec F S4x2048x1024 .f32) (main_arg7 : FVec F S4x2048x1024 .f32) : IVec S4x2048x1024 1 × IVec S1x1024 1 × IVec S1x1024x3136 1 × IVec S4x2048x448 1 × IVec S4x2048x1664 1 × IVec S4x2048x1664 1 × IVec S4x2048x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x3136 .f32 := Host.absf main_arg2
  let main_cst_1 : FVec F S_ .f32 := constant S_ .f32 0x7F800000#32
  let main_v7 : FVec F S1x1024x3136 .f32 := broadcastInDim S1x1024x3136 ![] bcast_S_S1x1024x3136 main_cst_1
  let main_v8 : IVec S1x1024x3136 1 := cmpf .olt main_v6 main_v7
  let main_v9 : FVec F S4x2048x448 .f32 := Host.absf main_arg3
  let main_cst_2 : FVec F S_ .f32 := constant S_ .f32 0x7F800000#32
  let main_v10 : FVec F S4x2048x448 .f32 := broadcastInDim S4x2048x448 ![] bcast_S_S4x2048x448 main_cst_2
  let main_v11 : IVec S4x2048x448 1 := cmpf .olt main_v9 main_v10
  let main_v12 : FVec F S4x2048x1664 .f32 := Host.absf main_arg4
  let main_cst_3 : FVec F S_ .f32 := constant S_ .f32 0x7F800000#32
  let main_v13 : FVec F S4x2048x1664 .f32 := broadcastInDim S4x2048x1664 ![] bcast_S_S4x2048x1664 main_cst_3
  let main_v14 : IVec S4x2048x1664 1 := cmpf .olt main_v12 main_v13
  let main_v15 : FVec F S4x2048x1664 .f32 := Host.absf main_arg5
  let main_cst_4 : FVec F S_ .f32 := constant S_ .f32 0x7F800000#32
  let main_v16 : FVec F S4x2048x1664 .f32 := broadcastInDim S4x2048x1664 ![] bcast_S_S4x2048x1664 main_cst_4
  let main_v17 : IVec S4x2048x1664 1 := cmpf .olt main_v15 main_v16
  fn_part1 (F := F) main_arg6 main_v2 main_v5 main_v8 main_v11 main_v14 main_v17
-- ==== Pre_finite2.lean ====
abbrev S4x2048x4x128 : Shape := ⟨4, ![4, 2048, 4, 128]⟩
abbrev S4x2048x4x64 : Shape := ⟨4, ![4, 2048, 4, 64]⟩
abbrev S4x2048x4x256 : Shape := ⟨4, ![4, 2048, 4, 256]⟩
abbrev S4x2048x64 : Shape := ⟨3, ![4, 2048, 64]⟩
abbrev S_ : Shape := ⟨0, ![]⟩

class Facts : Prop where
  bcast_S_S4x2048x4x128 : S_.BroadcastsInDim S4x2048x4x128 (![] : Fin 0 → Fin S4x2048x4x128.rank)
  bcast_S_S4x2048x4x64 : S_.BroadcastsInDim S4x2048x4x64 (![] : Fin 0 → Fin S4x2048x4x64.rank)
  bcast_S_S4x2048x4x256 : S_.BroadcastsInDim S4x2048x4x256 (![] : Fin 0 → Fin S4x2048x4x256.rank)
  bcast_S_S4x2048x64 : S_.BroadcastsInDim S4x2048x64 (![] : Fin 0 → Fin S4x2048x64.rank)

variable [Facts]

def fn {F : FTy → Type} [FloatOps F] (main_arg0 : FVec F S4x2048x4x128 .f32) (main_arg1 : FVec F S4x2048x4x64 .f32) (main_arg2 : FVec F S4x2048x4x256 .f32) (main_arg3 : FVec F S4x2048x64 .f32) (main_arg4 : FVec F S4x2048x4x128 .f32) : IVec S4x2048x4x128 1 × IVec S4x2048x4x64 1 × IVec S4x2048x4x256 1 × IVec S4x2048x64 1 × IVec S4x2048x4x128 1 :=
  let main_v0 : FVec F S4x2048x4x128 .f32 := Host.absf main_arg0
  let main_cst : FVec F S_ .f32 := constant S_ .f32 0x7F800000#32
  let main_v1 : FVec F S4x2048x4x128 .f32 := broadcastInDim S4x2048x4x128 ![] bcast_S_S4x2048x4x128 main_cst
  let main_v2 : IVec S4x2048x4x128 1 := cmpf .olt main_v0 main_v1
  let main_v3 : FVec F S4x2048x4x64 .f32 := Host.absf main_arg1
  let main_cst_0 : FVec F S_ .f32 := constant S_ .f32 0x7F800000#32
  let main_v4 : FVec F S4x2048x4x64 .f32 := broadcastInDim S4x2048x4x64 ![] bcast_S_S4x2048x4x64 main_cst_0
  let main_v5 : IVec S4x2048x4x64 1 := cmpf .olt main_v3 main_v4
  let main_v6 : FVec F S4x2048x4x256 .f32 := Host.absf main_arg2
  let main_cst_1 : FVec F S_ .f32 := constant S_ .f32 0x7F800000#32
  let main_v7 : FVec F S4x2048x4x256 .f32 := broadcastInDim S4x2048x4x256 ![] bcast_S_S4x2048x4x256 main_cst_1
  let main_v8 : IVec S4x2048x4x256 1 := cmpf .olt main_v6 main_v7
  let main_v9 : FVec F S4x2048x64 .f32 := Host.absf main_arg3
  let main_cst_2 : FVec F S_ .f32 := constant S_ .f32 0x7F800000#32
  let main_v10 : FVec F S4x2048x64 .f32 := broadcastInDim S4x2048x64 ![] bcast_S_S4x2048x64 main_cst_2
  let main_v11 : IVec S4x2048x64 1 := cmpf .olt main_v9 main_v10
  let main_v12 : FVec F S4x2048x4x128 .f32 := Host.absf main_arg4
  let main_cst_3 : FVec F S_ .f32 := constant S_ .f32 0x7F800000#32
  let main_v13 : FVec F S4x2048x4x128 .f32 := broadcastInDim S4x2048x4x128 ![] bcast_S_S4x2048x4x128 main_cst_3
  let main_v14 : IVec S4x2048x4x128 1 := cmpf .olt main_v12 main_v13
  (main_v2, main_v5, main_v8, main_v11, main_v14)
-- ==== Pre_finite3.lean ====
abbrev S4x2048x4x128 : Shape := ⟨4, ![4, 2048, 4, 128]⟩
abbrev S4x2048x4x64 : Shape := ⟨4, ![4, 2048, 4, 64]⟩
abbrev S4x2048x4x256 : Shape := ⟨4, ![4, 2048, 4, 256]⟩
abbrev S4x2048x64 : Shape := ⟨3, ![4, 2048, 64]⟩
abbrev S_ : Shape := ⟨0, ![]⟩

class Facts : Prop where
  bcast_S_S4x2048x4x128 : S_.BroadcastsInDim S4x2048x4x128 (![] : Fin 0 → Fin S4x2048x4x128.rank)
  bcast_S_S4x2048x4x64 : S_.BroadcastsInDim S4x2048x4x64 (![] : Fin 0 → Fin S4x2048x4x64.rank)
  bcast_S_S4x2048x4x256 : S_.BroadcastsInDim S4x2048x4x256 (![] : Fin 0 → Fin S4x2048x4x256.rank)
  bcast_S_S4x2048x64 : S_.BroadcastsInDim S4x2048x64 (![] : Fin 0 → Fin S4x2048x64.rank)

variable [Facts]

def fn {F : FTy → Type} [FloatOps F] (main_arg0 : FVec F S4x2048x4x128 .f32) (main_arg1 : FVec F S4x2048x4x64 .f32) (main_arg2 : FVec F S4x2048x4x256 .f32) (main_arg3 : FVec F S4x2048x64 .f32) : IVec S4x2048x4x128 1 × IVec S4x2048x4x64 1 × IVec S4x2048x4x256 1 × IVec S4x2048x64 1 :=
  let main_v0 : FVec F S4x2048x4x128 .f32 := Host.absf main_arg0
  let main_cst : FVec F S_ .f32 := constant S_ .f32 0x7F800000#32
  let main_v1 : FVec F S4x2048x4x128 .f32 := broadcastInDim S4x2048x4x128 ![] bcast_S_S4x2048x4x128 main_cst
  let main_v2 : IVec S4x2048x4x128 1 := cmpf .olt main_v0 main_v1
  let main_v3 : FVec F S4x2048x4x64 .f32 := Host.absf main_arg1
  let main_cst_0 : FVec F S_ .f32 := constant S_ .f32 0x7F800000#32
  let main_v4 : FVec F S4x2048x4x64 .f32 := broadcastInDim S4x2048x4x64 ![] bcast_S_S4x2048x4x64 main_cst_0
  let main_v5 : IVec S4x2048x4x64 1 := cmpf .olt main_v3 main_v4
  let main_v6 : FVec F S4x2048x4x256 .f32 := Host.absf main_arg2
  let main_cst_1 : FVec F S_ .f32 := constant S_ .f32 0x7F800000#32
  let main_v7 : FVec F S4x2048x4x256 .f32 := broadcastInDim S4x2048x4x256 ![] bcast_S_S4x2048x4x256 main_cst_1
  let main_v8 : IVec S4x2048x4x256 1 := cmpf .olt main_v6 main_v7
  let main_v9 : FVec F S4x2048x64 .f32 := Host.absf main_arg3
  let main_cst_2 : FVec F S_ .f32 := constant S_ .f32 0x7F800000#32
  let main_v10 : FVec F S4x2048x64 .f32 := broadcastInDim S4x2048x64 ![] bcast_S_S4x2048x64 main_cst_2
  let main_v11 : IVec S4x2048x64 1 := cmpf .olt main_v9 main_v10
  (main_v2, main_v5, main_v8, main_v11)
-- ==== Kernel.lean ====
abbrev S4x2048x1024 : Shape := ⟨3, ![4, 2048, 1024]⟩
abbrev S1x1024 : Shape := ⟨2, ![1, 1024]⟩
abbrev S1x1024x3136 : Shape := ⟨3, ![1, 1024, 3136]⟩
abbrev S4x2048x448 : Shape := ⟨3, ![4, 2048, 448]⟩
abbrev S4x2048x1664 : Shape := ⟨3, ![4, 2048, 1664]⟩
abbrev S1024x3136 : Shape := ⟨2, ![1024, 3136]⟩
abbrev S1024x448 : Shape := ⟨2, ![1024, 448]⟩
abbrev S_ : Shape := ⟨0, ![]⟩
abbrev S1024x64 : Shape := ⟨2, ![1024, 64]⟩
abbrev S1024x2688 : Shape := ⟨2, ![1024, 2688]⟩
abbrev S1024x3200 : Shape := ⟨2, ![1024, 3200]⟩
abbrev S8192x448 : Shape := ⟨2, ![8192, 448]⟩
abbrev S8192x64 : Shape := ⟨2, ![8192, 64]⟩
abbrev S8192x512 : Shape := ⟨2, ![8192, 512]⟩
abbrev S8192x1024 : Shape := ⟨2, ![8192, 1024]⟩
abbrev S8192x1664 : Shape := ⟨2, ![8192, 1664]⟩
abbrev S8192x3200 : Shape := ⟨2, ![8192, 3200]⟩
abbrev S256x1024 : Shape := ⟨2, ![256, 1024]⟩
abbrev S256x512 : Shape := ⟨2, ![256, 512]⟩
abbrev S256x1664 : Shape := ⟨2, ![256, 1664]⟩
abbrev S8x1664 : Shape := ⟨2, ![8, 1664]⟩
abbrev S256x3200 : Shape := ⟨2, ![256, 3200]⟩
abbrev S1x1664 : Shape := ⟨2, ![1, 1664]⟩
abbrev S1024x512 : Shape := ⟨2, ![1024, 512]⟩
abbrev S1024x1664 : Shape := ⟨2, ![1024, 1664]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 27
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024x3136, .f32⟩
  | .hbm, ⟨3, _⟩ => ⟨S4x2048x448, .f32⟩
  | .hbm, ⟨4, _⟩ => ⟨S4x2048x1664, .f32⟩
  | .hbm, ⟨5, _⟩ => ⟨S4x2048x1664, .f32⟩
  | .hbm, ⟨6, _⟩ => ⟨S4x2048x1024, .f32⟩
  | .hbm, ⟨7, _⟩ => ⟨S4x2048x1024, .f32⟩
  | .hbm, ⟨8, _⟩ => ⟨S1024x3136, .f32⟩
  | .hbm, ⟨9, _⟩ => ⟨S1024x3136, .bf16⟩
  | .hbm, ⟨10, _⟩ => ⟨S1024x448, .bf16⟩
  | .hbm, ⟨11, _⟩ => ⟨S_, .bf16⟩
  | .hbm, ⟨12, _⟩ => ⟨S1024x64, .bf16⟩
  | .hbm, ⟨13, _⟩ => ⟨S1024x2688, .bf16⟩
  | .hbm, ⟨14, _⟩ => ⟨S1024x3200, .bf16⟩
  | .hbm, ⟨15, _⟩ => ⟨S8192x448, .f32⟩
  | .hbm, ⟨16, _⟩ => ⟨S_, .f32⟩
  | .hbm, ⟨17, _⟩ => ⟨S8192x64, .f32⟩
  | .hbm, ⟨18, _⟩ => ⟨S8192x512, .f32⟩
  | .hbm, ⟨19, _⟩ => ⟨S8192x1024, .f32⟩
  | .hbm, ⟨20, _⟩ => ⟨S8192x1664, .f32⟩
  | .hbm, ⟨21, _⟩ => ⟨S8192x1664, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x3200, .bf16⟩
  | .hbm, ⟨26, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3200, .bf16⟩
  | .local _ .vmem, ⟨4, _⟩ => ⟨S256x512, .f32⟩
  | .local _ .vmem, ⟨5, _⟩ => ⟨S256x512, .f32⟩
  | .local _ .vmem, ⟨6, _⟩ => ⟨S256x1664, .f32⟩
  | .local _ .vmem, ⟨7, _⟩ => ⟨S256x1664, .f32⟩
  | .local _ .vmem, ⟨8, _⟩ => ⟨S256x1664, .f32⟩
  | .local _ .vmem, ⟨9, _⟩ => ⟨S256x1664, .f32⟩
  | .local _ .vmem, ⟨10, _⟩ => ⟨S8x1664, .f32⟩
  | .local _ .vmem, ⟨11, _⟩ => ⟨S8x1664, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x3200, .bf16⟩
  | .local _ .vmem, ⟨19, _⟩ => ⟨S256x3200, .bf16⟩
  | .local _ .vmem, ⟨20, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_46 : BitVec 32 := 0#32
  let v90 : BitVec 1 := Scalar.cmpi .eq arg0 c0_i32_46
  let v91 : BitVec 32 := Scalar.extui v90
  let c0_i32_47 : BitVec 32 := 0#32
  let v92 : BitVec 1 := Scalar.cmpi .ne v91 c0_i32_47
  v92

def k0_cond2 (i : grid0.Coords) : BitVec 1 :=
  let arg0 : BitVec 32 := BitVec.ofNat 32 (i 0).val
  let c0_i32_46 : BitVec 32 := 0#32
  let v90 : BitVec 1 := Scalar.cmpi .eq arg0 c0_i32_46
  let v_true : BitVec 1 := 1#1
  let v93 : BitVec 1 := Scalar.xori v90 v_true
  let v94 : BitVec 32 := Scalar.extui v93
  let c0_i32_48 : BitVec 32 := 0#32
  let v95 : BitVec 1 := Scalar.cmpi .ne v94 c0_i32_48
  v95

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3200 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4x2048x1024 : Shape := ⟨3, ![4, 2048, 1024]⟩
abbrev S1x1024 : Shape := ⟨2, ![1, 1024]⟩
abbrev S1x1024x3136 : Shape := ⟨3, ![1, 1024, 3136]⟩
abbrev S4x2048x448 : Shape := ⟨3, ![4, 2048, 448]⟩
abbrev S4x2048x1664 : Shape := ⟨3, ![4, 2048, 1664]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x3136 : Shape := ⟨2, ![1024, 3136]⟩
abbrev S4x2048x3136 : Shape := ⟨3, ![4, 2048, 3136]⟩
abbrev S4x1x1664 : Shape := ⟨3, ![4, 1, 1664]⟩
abbrev S4x2047x1664 : Shape := ⟨3, ![4, 2047, 1664]⟩
abbrev S4x2048x64 : Shape := ⟨3, ![4, 2048, 64]⟩
abbrev S4x2048x2688 : Shape := ⟨3, ![4, 2048, 2688]⟩
abbrev S4x2048x3200 : Shape := ⟨3, ![4, 2048, 3200]⟩
abbrev S8192x1024 : Shape := ⟨2, ![8192, 1024]⟩
abbrev S8192x3200 : Shape := ⟨2, ![8192, 3200]⟩

abbrev nBuf : Space → Nat
  | .hbm => 82
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024x3136, .f32⟩
  | .hbm, ⟨3, _⟩ => ⟨S4x2048x448, .f32⟩
  | .hbm, ⟨4, _⟩ => ⟨S4x2048x1664, .f32⟩
  | .hbm, ⟨5, _⟩ => ⟨S4x2048x1664, .f32⟩
  | .hbm, ⟨6, _⟩ => ⟨S4x2048x1024, .f32⟩
  | .hbm, ⟨7, _⟩ => ⟨S4x2048x1024, .f32⟩
  | .hbm, ⟨8, _⟩ => ⟨S1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1x1x1024, .f32⟩
  | .hbm, ⟨27, _⟩ => ⟨S4x2048x1024, .f32⟩
  | .hbm, ⟨28, _⟩ => ⟨S4x2048x1024, .f32⟩
  | .hbm, ⟨29, _⟩ => ⟨S1024x3136, .f32⟩
  | .hbm, ⟨30, _⟩ => ⟨S4x2048x3136, .f32⟩
  | .hbm, ⟨31, _⟩ => ⟨S4x2048x448, .f32⟩
  | .hbm, ⟨32, _⟩ => ⟨S4x2048x1664, .f32⟩
  | .hbm, ⟨33, _⟩ => ⟨S4x2048x1024, .f32⟩
  | .hbm, ⟨34, _⟩ => ⟨S_, .f32⟩
  | .hbm, ⟨35, _⟩ => ⟨S4x1x1664, .f32⟩
  | .hbm, ⟨36, _⟩ => ⟨S4x2047x1664, .f32⟩
  | .hbm, ⟨37, _⟩ => ⟨S4x2048x1664, .f32⟩
  | .hbm, ⟨38, _⟩ => ⟨S_, .f32⟩
  | .hbm, ⟨39, _⟩ => ⟨S4x1x1664, .f32⟩
  | .hbm, ⟨40, _⟩ => ⟨S4x1x1664, .f32⟩
  | .hbm, ⟨41, _⟩ => ⟨S4x2047x1664, .f32⟩
  | .hbm, ⟨42, _⟩ => ⟨S_, .f32⟩
  | .hbm, ⟨43, _⟩ => ⟨S4x2048x1664, .f32⟩
  | .hbm, ⟨44, _⟩ => ⟨S4x2048x1664, .f32⟩
  | .hbm, ⟨45, _⟩ => ⟨S4x2048x3136, .f32⟩
  | .hbm, ⟨46, _⟩ => ⟨S4x2048x1024, .f32⟩
  | .hbm, ⟨47, _⟩ => ⟨S4x2048x1024, .f32⟩
  | .hbm, ⟨48, _⟩ => ⟨S_, .f32⟩
  | .hbm, ⟨49, _⟩ => ⟨S1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | .hbm, ⟨53, _⟩ => ⟨S_, .f32⟩
  | .hbm, ⟨54, _⟩ => ⟨S1024, .f32⟩
  | .hbm, ⟨55, _⟩ => ⟨S4x2048x1024, .f32⟩
  | .hbm, ⟨56, _⟩ => ⟨S_, .f32⟩
  | .hbm, ⟨57, _⟩ => ⟨S4x2048, .f32⟩
  | .hbm, ⟨58, _⟩ => ⟨S4x2048x1, .f32⟩
  | .hbm, ⟨59, _⟩ => ⟨S4x2048x1024, .f32⟩
  | .hbm, ⟨60, _⟩ => ⟨S4x2048x1024, .f32⟩
  | .hbm, ⟨61, _⟩ => ⟨S4x2048x1024, .f32⟩
  | .hbm, ⟨62, _⟩ => ⟨S4x2048x1, .f32⟩
  | .hbm, ⟨63, _⟩ => ⟨S_, .f32⟩
  | .hbm, ⟨64, _⟩ => ⟨S4x2048x1, .f32⟩
  | .hbm, ⟨65, _⟩ => ⟨S4x2048x1, .f32⟩
  | .hbm, ⟨66, _⟩ => ⟨S_, .f32⟩
  | .hbm, ⟨67, _⟩ => ⟨S4x2048, .f32⟩
  | .hbm, ⟨68, _⟩ => ⟨S4x2048x1024, .f32⟩
  | .hbm, ⟨69, _⟩ => ⟨S4x2048x1024, .f32⟩
  | .hbm, ⟨70, _⟩ => ⟨S4x2048x1024, .f32⟩
  | .hbm, ⟨71, _⟩ => ⟨S4x2048x1024, .f32⟩
  | .hbm, ⟨72, _⟩ => ⟨S4x2048x1024, .f32⟩
  | .hbm, ⟨73, _⟩ => ⟨S1x1024, .f32⟩
  | .hbm, ⟨74, _⟩ => ⟨S4x2048x448, .f32⟩
  | .hbm, ⟨75, _⟩ => ⟨S_, .f32⟩
  | .hbm, ⟨76, _⟩ => ⟨S4x2048x64, .f32⟩
  | .hbm, ⟨77, _⟩ => ⟨S4x2048x2688, .f32⟩
  | .hbm, ⟨78, _⟩ => ⟨S4x2048x3200, .f32⟩
  | .hbm, ⟨79, _⟩ => ⟨S8192x1024, .f32⟩
  | .hbm, ⟨80, _⟩ => ⟨S8192x3200, .f32⟩
  | .hbm, ⟨81, _⟩ => ⟨S8192x3200, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== Kernel2.lean ====
abbrev S4x2048x4x128 : Shape := ⟨4, ![4, 2048, 4, 128]⟩
abbrev S4x2048x4x64 : Shape := ⟨4, ![4, 2048, 4, 64]⟩
abbrev S4x2048x4x256 : Shape := ⟨4, ![4, 2048, 4, 256]⟩
abbrev S4x2048x64 : Shape := ⟨3, ![4, 2048, 64]⟩
abbrev S4x4x2048x2048 : Shape := ⟨4, ![4, 4, 2048, 2048]⟩
abbrev S4x2048x2048x4 : Shape := ⟨4, ![4, 2048, 2048, 4]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x2048x512 : Shape := ⟨3, ![4, 2048, 512]⟩
abbrev S4x4x2048x128 : Shape := ⟨4, ![4, 4, 2048, 128]⟩
abbrev S4x2048x1024 : Shape := ⟨3, ![4, 2048, 1024]⟩
abbrev S4x2048x128 : Shape := ⟨3, ![4, 2048, 128]⟩
abbrev S1x2048x128 : Shape := ⟨3, ![1, 2048, 128]⟩
abbrev S1x1x2048x128 : Shape := ⟨4, ![1, 1, 2048, 128]⟩
abbrev S1x2048x256 : Shape := ⟨3, ![1, 2048, 256]⟩
abbrev S2048x256 : Shape := ⟨2, ![2048, 256]⟩
abbrev S2048x128 : Shape := ⟨2, ![2048, 128]⟩
abbrev S256x256 : Shape := ⟨2, ![256, 256]⟩
abbrev S1x256x128 : Shape := ⟨3, ![1, 256, 128]⟩
abbrev S256x128 : Shape := ⟨2, ![256, 128]⟩
abbrev S1x1x256x1 : Shape := ⟨4, ![1, 1, 256, 1]⟩
abbrev S256x1 : Shape := ⟨2, ![256, 1]⟩
abbrev S1x1x256x128 : Shape := ⟨4, ![1, 1, 256, 128]⟩
abbrev S1x4x2048x128 : Shape := ⟨4, ![1, 4, 2048, 128]⟩

abbrev nBuf : Space → Nat
  | .hbm => 78
  | .vmem => 26
  | .smem => 0
  | _ => 0

abbrev bufTy : (tb : Table) → Fin (tcTables nBuf tb) → BufTy
  | .hbm, ⟨0, _⟩ => ⟨S4x2048x4x128, .f32⟩
  | .hbm, ⟨1, _⟩ => ⟨S4x2048x4x64, .f32⟩
  | .hbm, ⟨2, _⟩ => ⟨S4x2048x4x256, .f32⟩
  | .hbm, ⟨3, _⟩ => ⟨S4x2048x64, .f32⟩
  | .hbm, ⟨4, _⟩ => ⟨S4x2048x4x128, .f32⟩
  | .hbm, ⟨5, _⟩ => ⟨S4x2048x4x128, .f32⟩
  | .hbm, ⟨6, _⟩ => ⟨S4x2048x4x128, .f32⟩
  | .hbm, ⟨7, _⟩ => ⟨S4x4x2048x2048, .f32⟩
  | .hbm, ⟨8, _⟩ => ⟨S4x2048x2048x4, .f32⟩
  | .hbm, ⟨9, _⟩ => ⟨S4x4x2048x2048, .f32⟩
  | .hbm, ⟨10, _⟩ => ⟨S4x4x2048x2048, .f32⟩
  | .hbm, ⟨11, _⟩ => ⟨S_, .f32⟩
  | .hbm, ⟨12, _⟩ => ⟨S4x4x2048x2048, .f32⟩
  | .hbm, ⟨13, _⟩ => ⟨S4x4x2048x2048, .f32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S4x4x2048x2048, .i1⟩
  | .hbm, ⟨24, _⟩ => ⟨S4x4x2048x2048, .f32⟩
  | .hbm, ⟨25, _⟩ => ⟨S4x4x2048x2048, .f32⟩
  | .hbm, ⟨26, _⟩ => ⟨S_, .f32⟩
  | .hbm, ⟨27, _⟩ => ⟨S4x4x2048, .f32⟩
  | .hbm, ⟨28, _⟩ => ⟨S4x4x2048x1, .f32⟩
  | .hbm, ⟨29, _⟩ => ⟨S4x4x2048x2048, .f32⟩
  | .hbm, ⟨30, _⟩ => ⟨S4x4x2048x2048, .f32⟩
  | .hbm, ⟨31, _⟩ => ⟨S4x4x2048x2048, .f32⟩
  | .hbm, ⟨32, _⟩ => ⟨S_, .f32⟩
  | .hbm, ⟨33, _⟩ => ⟨S4x4x2048, .f32⟩
  | .hbm, ⟨34, _⟩ => ⟨S4x4x2048x1, .f32⟩
  | .hbm, ⟨35, _⟩ => ⟨S4x4x2048x2048, .f32⟩
  | .hbm, ⟨36, _⟩ => ⟨S4x4x2048x2048, .f32⟩
  | .hbm, ⟨37, _⟩ => ⟨S4x4x128x2048, .f32⟩
  | .hbm, ⟨38, _⟩ => ⟨S4x2048x4x128, .f32⟩
  | .hbm, ⟨39, _⟩ => ⟨S4x2048x512, .f32⟩
  | .hbm, ⟨40, _⟩ => ⟨S4x4x2048x1, .f32⟩
  | .hbm, ⟨41, _⟩ => ⟨S4x4x2048x1, .f32⟩
  | .hbm, ⟨42, _⟩ => ⟨S4x4x2048x128, .f32⟩
  | .hbm, ⟨43, _⟩ => ⟨S4x2048x512, .f32⟩
  | .hbm, ⟨44, _⟩ => ⟨S4x2048x512, .bf16⟩
  | .hbm, ⟨45, _⟩ => ⟨S_, .f32⟩
  | .hbm, ⟨46, _⟩ => ⟨S4x2048x4x64, .f32⟩
  | .hbm, ⟨47, _⟩ => ⟨S4x2048x4x128, .f32⟩
  | .hbm, ⟨48, _⟩ => ⟨S4x2048x4x128, .bf16⟩
  | .hbm, ⟨49, _⟩ => ⟨S4x2048x512, .bf16⟩
  | .hbm, ⟨50, _⟩ => ⟨S4x2048x1024, .f32⟩
  | .hbm, ⟨51, _⟩ => ⟨S4x2048x1024, .bf16⟩
  | .hbm, ⟨52, _⟩ => ⟨S_, .f32⟩
  | .hbm, ⟨53, _⟩ => ⟨S4x2048x64, .f32⟩
  | .hbm, ⟨54, _⟩ => ⟨S4x2048x128, .f32⟩
  | .hbm, ⟨55, _⟩ => ⟨S4x2048x128, .bf16⟩
  | .hbm, ⟨56, _⟩ => ⟨S4x2048x512, .f32⟩
  | .hbm, ⟨57, _⟩ => ⟨S4x2048x512, .bf16⟩
  | .hbm, ⟨58, _⟩ => ⟨S4x2048x512, .f32⟩
  | .hbm, ⟨59, _⟩ => ⟨S4x2048x512, .f32⟩
  | .hbm, ⟨60, _⟩ => ⟨S4x2048x1024, .f32⟩
  | .hbm, ⟨61, _⟩ => ⟨S4x4x2048x128, .f32⟩
  | .hbm, ⟨62, _⟩ => ⟨S4x2048x4x128, .f32⟩
  | .hbm, ⟨63, _⟩ => ⟨S4x2048x4x128, .f32⟩
  | .hbm, ⟨64, _⟩ => ⟨S4x2048x4x64, .f32⟩
  | .hbm, ⟨65, _⟩ => ⟨S4x2048x4x256, .f32⟩
  | .hbm, ⟨66, _⟩ => ⟨S1x4x2048x128, .f32⟩
  | .hbm, ⟨67, _⟩ => ⟨S4x2048x128, .f32⟩
  | .hbm, ⟨68, _⟩ => ⟨S1x4x2048x128, .f32⟩
  | .hbm, ⟨69, _⟩ => ⟨S4x2048x128, .f32⟩
  | .hbm, ⟨70, _⟩ => ⟨S4x2048x128, .f32⟩
  | .hbm, ⟨71, _⟩ => ⟨S1x4x2048x128, .f32⟩
  | .hbm, ⟨72, _⟩ => ⟨S4x2048x128, .f32⟩
  | .hbm, ⟨73, _⟩ => ⟨S4x2048x128, .f32⟩
  | .hbm, ⟨74, _⟩ => ⟨S1x4x2048x128, .f32⟩
  | .hbm, ⟨75, _⟩ => ⟨S4x2048x128, .f32⟩
  | .hbm, ⟨76, _⟩ => ⟨S4x2048x128, .f32⟩
  | .hbm, ⟨77, _⟩ => ⟨S4x2048x64, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .f32⟩
  | .local _ .vmem, ⟨11, _⟩ => ⟨S1x2048x128, .f32⟩
  | .local _ .vmem, ⟨12, _⟩ => ⟨S1x2048x128, .bf16⟩
  | .local _ .vmem, ⟨13, _⟩ => ⟨S1x2048x128, .bf16⟩
  | .local _ .vmem, ⟨14, _⟩ => ⟨S1x1x2048x128, .f32⟩
  | .local _ .vmem, ⟨15, _⟩ => ⟨S1x1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S1x2048x128, .f32⟩
  | .local _ .vmem, ⟨19, _⟩ => ⟨S1x2048x128, .f32⟩
  | .local _ .vmem, ⟨20, _⟩ => ⟨S1x2048x256, .f32⟩
  | .local _ .vmem, ⟨21, _⟩ => ⟨S1x2048x256, .f32⟩
  | .local _ .vmem, ⟨22, _⟩ => ⟨S1x1x2048x128, .f32⟩
  | .local _ .vmem, ⟨23, _⟩ => ⟨S1x1x2048x128, .f32⟩
  | .local _ .vmem, ⟨24, _⟩ => ⟨S2048x256, .f32⟩
  | .local _ .vmem, ⟨25, _⟩ => ⟨S2048x1, .f32⟩
  | _, _ => ⟨S4x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44_0 : Ref sig .tc := ⟨.hbm, 58, rfl⟩
abbrev main_v44_1 : Ref sig .tc := ⟨.hbm, 59, rfl⟩
abbrev main_v44_2 : Ref sig .tc := ⟨.hbm, 60, rfl⟩
abbrev main_v44_3 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 4], ![false, false]⟩

def k0_mult1 : BitVec 32 :=
  let c2_i32 : BitVec 32 := 2#32
  let c1_i32 : BitVec 32 := 1#32
  let v101 : BitVec 32 := Scalar.muli c2_i32 c1_i32
  let c256_i32 : BitVec 32 := 256#32
  let v104 : BitVec 32 := Scalar.muli v101 c256_i32
  v104
def k0_mult2 : BitVec 32 :=
  let c2_i32_74 : BitVec 32 := 2#32
  let c1_i32 : BitVec 32 := 1#32
  let v102 : BitVec 32 := Scalar.muli c2_i32_74 c1_i32
  let c1_i32_75 : BitVec 32 := 1#32
  let v103 : BitVec 32 := Scalar.addi v102 c1_i32_75
  let c256_i32_76 : BitVec 32 := 256#32
  let v106 : BitVec 32 := Scalar.muli v103 c256_i32_76
  v106
def k0_off1 (c1_i32 : BitVec 32) : Fin 3 → Nat :=
  let c0_77 : Index := 0#32
  let c2_i32 : BitVec 32 := 2#32
  let v101 : BitVec 32 := Scalar.muli c2_i32 c1_i32
  let c256_i32 : BitVec 32 := 256#32
  let v104 : BitVec 32 := Scalar.muli v101 c256_i32
  let v105 : BitVec 32 := v104
  let v108 : Index := Scalar.indexCast v105
  let c0_78 : Index := 0#32
  ![0, v108.toNat, 0]
def k0_off2 (c1_i32 : BitVec 32) : Fin 3 → Nat :=
  let c0_81 : Index := 0#32
  let c2_i32_74 : BitVec 32 := 2#32
  let v102 : BitVec 32 := Scalar.muli c2_i32_74 c1_i32
  let c1_i32_75 : BitVec 32 := 1#32
  let v103 : BitVec 32 := Scalar.addi v102 c1_i32_75
  let c256_i32_76 : BitVec 32 := 256#32
  let v106 : BitVec 32 := Scalar.muli v103 c256_i32_76
  let v107 : BitVec 32 := v106
  let v115 : Index := Scalar.indexCast v107
  let c0_82 : Index := 0#32
  ![0, v115.toNat, 0]
def k0_off3 (c1_i32 : BitVec 32) : Fin 4 → Nat :=
  let c0_94 : Index := 0#32
  let c0_95 : Index := 0#32
  let c2_i32 : BitVec 32 := 2#32
  let v101 : BitVec 32 := Scalar.muli c2_i32 c1_i32
  let c256_i32 : BitVec 32 := 256#32
  let v104 : BitVec 32 := Scalar.muli v101 c256_i32
  let v105 : BitVec 32 := v104
  let v134 : Index := Scalar.indexCast v105
  let c0_96 : Index := 0#32
  ![0, 0, v134.toNat, 0]
def k0_off4 (c1_i32 : BitVec 32) : Fin 2 → Nat :=
  let c2_i32 : BitVec 32 := 2#32
  let v101 : BitVec 32 := Scalar.muli c2_i32 c1_i32
  let c256_i32 : BitVec 32 := 256#32
  let v104 : BitVec 32 := Scalar.muli v101 c256_i32
  let v105 : BitVec 32 := v104
  let v141 : Index := Scalar.indexCast v105
  let c0_97 : Index := 0#32
  ![v141.toNat, 0]
def k0_off5 (c1_i32 : BitVec 32) : Fin 4 → Nat :=
  let c0_100 : Index := 0#32
  let c0_101 : Index := 0#32
  let c2_i32_74 : BitVec 32 := 2#32
  let v102 : BitVec 32 := Scalar.muli c2_i32_74 c1_i32
  let c1_i32_75 : BitVec 32 := 1#32
  let v103 : BitVec 32 := Scalar.addi v102 c1_i32_75
  let c256_i32_76 : BitVec 32 := 256#32
  let v106 : BitVec 32 := Scalar.muli v103 c256_i32_76
  let v107 : BitVec 32 := v106
  let v151 : Index := Scalar.indexCast v107
  let c0_102 : Index := 0#32
  ![0, 0, v151.toNat, 0]
def k0_off6 (c1_i32 : BitVec 32) : Fin 2 → Nat :=
  let c2_i32_74 : BitVec 32 := 2#32
  let v102 : BitVec 32 := Scalar.muli c2_i32_74 c1_i32
  let c1_i32_75 : BitVec 32 := 1#32
  let v103 : BitVec 32 := Scalar.addi v102 c1_i32_75
  let c256_i32_76 : BitVec 32 := 256#32
  let v106 : BitVec 32 := Scalar.muli v103 c256_i32_76
  let v107 : BitVec 32 := v106
  let v158 : Index := Scalar.indexCast v107
  let c0_103 : Index := 0#32
  ![v158.toNat, 0]
def k0_off7 (c1_i32 : BitVec 32) : Fin 2 → Nat :=
  let c2_i32 : BitVec 32 := 2#32
  let v101 : BitVec 32 := Scalar.muli c2_i32 c1_i32
  let c256_i32 : BitVec 32 := 256#32
  let v104 : BitVec 32 := Scalar.muli v101 c256_i32
  let v105 : BitVec 32 := v104
  let v170 : Index := Scalar.indexCast v105
  let c0_107 : Index := 0#32
  ![v170.toNat, 0]
def k0_off8 (c1_i32 : BitVec 32) : Fin 2 → Nat :=
  let c2_i32_74 : BitVec 32 := 2#32
  let v102 : BitVec 32 := Scalar.muli c2_i32_74 c1_i32
  let c1_i32_75 : BitVec 32 := 1#32
  let v103 : BitVec 32 := Scalar.addi v102 c1_i32_75
  let c256_i32_76 : BitVec 32 := 256#32
  let v106 : BitVec 32 := Scalar.muli v103 c256_i32_76
  let v107 : BitVec 32 := v106
  let v180 : Index := Scalar.indexCast v107
  let c0_111 : Index := 0#32
  ![v180.toNat, 0]
def k0_mult3 : BitVec 32 :=
  let c2_i32_116 : BitVec 32 := 2#32
  let c2_i32_115 : BitVec 32 := 2#32
  let v190 : BitVec 32 := Scalar.muli c2_i32_116 c2_i32_115
  let c256_i32_119 : BitVec 32 := 256#32
  let v193 : BitVec 32 := Scalar.muli v190 c256_i32_119
  v193
def k0_mult4 : BitVec 32 :=
  let c2_i32_117 : BitVec 32 := 2#32
  let c2_i32_115 : BitVec 32 := 2#32
  let v191 : BitVec 32 := Scalar.muli c2_i32_117 c2_i32_115
  let c1_i32_118 : BitVec 32 := 1#32
  let v192 : BitVec 32 := Scalar.addi v191 c1_i32_118
  let c256_i32_120 : BitVec 32 := 256#32
  let v195 : BitVec 32 := Scalar.muli v192 c256_i32_120
  v195
def k0_mult5 : BitVec 32 :=
  let c2_i32_159 : BitVec 32 := 2#32
  let c3_i32 : BitVec 32 := 3#32
  let v279 : BitVec 32 := Scalar.muli c2_i32_159 c3_i32
  let c256_i32_162 : BitVec 32 := 256#32
  let v282 : BitVec 32 := Scalar.muli v279 c256_i32_162
  v282
def k0_mult6 : BitVec 32 :=
  let c2_i32_160 : BitVec 32 := 2#32
  let c3_i32 : BitVec 32 := 3#32
  let v280 : BitVec 32 := Scalar.muli c2_i32_160 c3_i32
  let c1_i32_161 : BitVec 32 := 1#32
  let v281 : BitVec 32 := Scalar.addi v280 c1_i32_161
  let c256_i32_163 : BitVec 32 := 256#32
  let v284 : BitVec 32 := Scalar.muli v281 c256_i32_163
  v284
def k0_mult7 : BitVec 32 :=
  let c2_i32_251 : BitVec 32 := 2#32
  let c1_i32_250 : BitVec 32 := 1#32
  let v424 : BitVec 32 := Scalar.muli c2_i32_251 c1_i32_250
  let c256_i32_254 : BitVec 32 := 256#32
  let v427 : BitVec 32 := Scalar.muli v424 c256_i32_254
  v427
def k0_mult8 : BitVec 32 :=
  let c2_i32_252 : BitVec 32 := 2#32
  let c1_i32_250 : BitVec 32 := 1#32
  let v425 : BitVec 32 := Scalar.muli c2_i32_252 c1_i32_250
  let c1_i32_253 : BitVec 32 := 1#32
  let v426 : BitVec 32 := Scalar.addi v425 c1_i32_253
  let c256_i32_255 : BitVec 32 := 256#32
  let v429 : BitVec 32 := Scalar.muli v426 c256_i32_255
  v429
def k0_mult9 : BitVec 32 :=
  let c2_i32_295 : BitVec 32 := 2#32
  let c2_i32_294 : BitVec 32 := 2#32
  let v513 : BitVec 32 := Scalar.muli c2_i32_295 c2_i32_294
  let c256_i32_298 : BitVec 32 := 256#32
  let v516 : BitVec 32 := Scalar.muli v513 c256_i32_298
  v516
def k0_mult10 : BitVec 32 :=
  let c2_i32_296 : BitVec 32 := 2#32
  let c2_i32_294 : BitVec 32 := 2#32
  let v514 : BitVec 32 := Scalar.muli c2_i32_296 c2_i32_294
  let c1_i32_297 : BitVec 32 := 1#32
  let v515 : BitVec 32 := Scalar.addi v514 c1_i32_297
  let c256_i32_299 : BitVec 32 := 256#32
  let v518 : BitVec 32 := Scalar.muli v515 c256_i32_299
  v518
def k0_mult11 : BitVec 32 :=
  let c2_i32_339 : BitVec 32 := 2#32
  let c3_i32_338 : BitVec 32 := 3#32
  let v602 : BitVec 32 := Scalar.muli c2_i32_339 c3_i32_338
  let c256_i32_342 : BitVec 32 := 256#32
  let v605 : BitVec 32 := Scalar.muli v602 c256_i32_342
  v605
def k0_mult12 : BitVec 32 :=
  let c2_i32_340 : BitVec 32 := 2#32
  let c3_i32_338 : BitVec 32 := 3#32
  let v603 : BitVec 32 := Scalar.muli c2_i32_340 c3_i32_338
  let c1_i32_341 : BitVec 32 := 1#32
  let v604 : BitVec 32 := Scalar.addi v603 c1_i32_341
  let c256_i32_343 : BitVec 32 := 256#32
  let v607 : BitVec 32 := Scalar.muli v604 c256_i32_343
  v607
def k0_mult13 : BitVec 32 :=
  let c2_i32_456 : BitVec 32 := 2#32
  let c2_i32_455 : BitVec 32 := 2#32
  let v781 : BitVec 32 := Scalar.muli c2_i32_456 c2_i32_455
  let c256_i32_459 : BitVec 32 := 256#32
  let v784 : BitVec 32 := Scalar.muli v781 c256_i32_459
  v784
def k0_mult14 : BitVec 32 :=
  let c2_i32_457 : BitVec 32 := 2#32
  let c2_i32_455 : BitVec 32 := 2#32
  let v782 : BitVec 32 := Scalar.muli c2_i32_457 c2_i32_455
  let c1_i32_458 : BitVec 32 := 1#32
  let v783 : BitVec 32 := Scalar.addi v782 c1_i32_458
  let c256_i32_460 : BitVec 32 := 256#32
  let v786 : BitVec 32 := Scalar.muli v783 c256_i32_460
  v786
def k0_mult15 : BitVec 32 :=
  let c2_i32_500 : BitVec 32 := 2#32
  let c3_i32_499 : BitVec 32 := 3#32
  let v870 : BitVec 32 := Scalar.muli c2_i32_500 c3_i32_499
  let c256_i32_503 : BitVec 32 := 256#32
  let v873 : BitVec 32 := Scalar.muli v870 c256_i32_503
  v873
def k0_mult16 : BitVec 32 :=
  let c2_i32_501 : BitVec 32 := 2#32
  let c3_i32_499 : BitVec 32 := 3#32
  let v871 : BitVec 32 := Scalar.muli c2_i32_501 c3_i32_499
  let c1_i32_502 : BitVec 32 := 1#32
  let v872 : BitVec 32 := Scalar.addi v871 c1_i32_502
  let c256_i32_504 : BitVec 32 := 256#32
  let v875 : BitVec 32 := Scalar.muli v872 c256_i32_504
  v875
def k0_mult17 : BitVec 32 :=
  let c2_i32_593 : BitVec 32 := 2#32
  let c2_i32_592 : BitVec 32 := 2#32
  let v1015 : BitVec 32 := Scalar.muli c2_i32_593 c2_i32_592
  let c256_i32_596 : BitVec 32 := 256#32
  let v1018 : BitVec 32 := Scalar.muli v1015 c256_i32_596
  v1018
def k0_mult18 : BitVec 32 :=
  let c2_i32_594 : BitVec 32 := 2#32
  let c2_i32_592 : BitVec 32 := 2#32
  let v1016 : BitVec 32 := Scalar.muli c2_i32_594 c2_i32_592
  let c1_i32_595 : BitVec 32 := 1#32
  let v1017 : BitVec 32 := Scalar.addi v1016 c1_i32_595
  let c256_i32_597 : BitVec 32 := 256#32
  let v1020 : BitVec 32 := Scalar.muli v1017 c256_i32_597
  v1020
def k0_mult19 : BitVec 32 :=
  let c2_i32_637 : BitVec 32 := 2#32
  let c3_i32_636 : BitVec 32 := 3#32
  let v1104 : BitVec 32 := Scalar.muli c2_i32_637 c3_i32_636
  let c256_i32_640 : BitVec 32 := 256#32
  let v1107 : BitVec 32 := Scalar.muli v1104 c256_i32_640
  v1107
def k0_mult20 : BitVec 32 :=
  let c2_i32_638 : BitVec 32 := 2#32
  let c3_i32_636 : BitVec 32 := 3#32
  let v1105 : BitVec 32 := Scalar.muli c2_i32_638 c3_i32_636
  let c1_i32_639 : BitVec 32 := 1#32
  let v1106 : BitVec 32 := Scalar.addi v1105 c1_i32_639
  let c256_i32_641 : BitVec 32 := 256#32
  let v1109 : BitVec 32 := Scalar.muli v1106 c256_i32_641
  v1109
def k0_mult21 : BitVec 32 :=
  let c2_i32_754 : BitVec 32 := 2#32
  let c3_i32_753 : BitVec 32 := 3#32
  let v1283 : BitVec 32 := Scalar.muli c2_i32_754 c3_i32_753
  let c256_i32_757 : BitVec 32 := 256#32
  let v1286 : BitVec 32 := Scalar.muli v1283 c256_i32_757
  v1286
def k0_mult22 : BitVec 32 :=
  let c2_i32_755 : BitVec 32 := 2#32
  let c3_i32_753 : BitVec 32 := 3#32
  let v1284 : BitVec 32 := Scalar.muli c2_i32_755 c3_i32_753
  let c1_i32_756 : BitVec 32 := 1#32
  let v1285 : BitVec 32 := Scalar.addi v1284 c1_i32_756
  let c256_i32_758 : BitVec 32 := 256#32
  let v1288 : BitVec 32 := Scalar.muli v1285 c256_i32_758
  v1288
def k0_mult23 : BitVec 32 :=
  let c2_i32_847 : BitVec 32 := 2#32
  let c3_i32_846 : BitVec 32 := 3#32
  let v1428 : BitVec 32 := Scalar.muli c2_i32_847 c3_i32_846
  let c256_i32_850 : BitVec 32 := 256#32
  let v1431 : BitVec 32 := Scalar.muli v1428 c256_i32_850
  v1431
def k0_mult24 : BitVec 32 :=
  let c2_i32_848 : BitVec 32 := 2#32
  let c3_i32_846 : BitVec 32 := 3#32
  let v1429 : BitVec 32 := Scalar.muli c2_i32_848 c3_i32_846
  let c1_i32_849 : BitVec 32 := 1#32
  let v1430 : BitVec 32 := Scalar.addi v1429 c1_i32_849
  let c256_i32_851 : BitVec 32 := 256#32
  let v1433 : BitVec 32 := Scalar.muli v1430 c256_i32_851
  v1433
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, c0_i32.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S4x2048x4x128 : Shape := ⟨4, ![4, 2048, 4, 128]⟩
abbrev S4x2048x4x64 : Shape := ⟨4, ![4, 2048, 4, 64]⟩
abbrev S4x2048x4x256 : Shape := ⟨4, ![4, 2048, 4, 256]⟩
abbrev S4x2048x64 : Shape := ⟨3, ![4, 2048, 64]⟩
abbrev S4x4x2048x2048 : Shape := ⟨4, ![4, 4, 2048, 2048]⟩
abbrev S4x2048x2048x4 : Shape := ⟨4, ![4, 2048, 2048, 4]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x4x2048x128 : Shape := ⟨4, ![4, 4, 2048, 128]⟩

abbrev nBuf : Space → Nat
  | .hbm => 100
  | .vmem => 0
  | .smem => 0
  | _ => 0

abbrev bufTy : (tb : Table) → Fin (tcTables nBuf tb) → BufTy
  | .hbm, ⟨0, _⟩ => ⟨S4x2048x4x128, .f32⟩
  | .hbm, ⟨1, _⟩ => ⟨S4x2048x4x64, .f32⟩
  | .hbm, ⟨2, _⟩ => ⟨S4x2048x4x256, .f32⟩
  | .hbm, ⟨3, _⟩ => ⟨S4x2048x64, .f32⟩
  | .hbm, ⟨4, _⟩ => ⟨S4x2048x4x128, .f32⟩
  | .hbm, ⟨5, _⟩ => ⟨S4x2048x4x128, .f32⟩
  | .hbm, ⟨6, _⟩ => ⟨S4x2048x4x128, .f32⟩
  | .hbm, ⟨7, _⟩ => ⟨S4x4x2048x2048, .f32⟩
  | .hbm, ⟨8, _⟩ => ⟨S4x2048x2048x4, .f32⟩
  | .hbm, ⟨9, _⟩ => ⟨S4x4x2048x2048, .f32⟩
  | .hbm, ⟨10, _⟩ => ⟨S4x4x2048x2048, .f32⟩
  | .hbm, ⟨11, _⟩ => ⟨S_, .f32⟩
  | .hbm, ⟨12, _⟩ => ⟨S4x4x2048x2048, .f32⟩
  | .hbm, ⟨13, _⟩ => ⟨S4x4x2048x2048, .f32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S4x4x2048x2048, .i1⟩
  | .hbm, ⟨24, _⟩ => ⟨S4x4x2048x2048, .f32⟩
  | .hbm, ⟨25, _⟩ => ⟨S4x4x2048x2048, .f32⟩
  | .hbm, ⟨26, _⟩ => ⟨S_, .f32⟩
  | .hbm, ⟨27, _⟩ => ⟨S4x4x2048x2048, .f32⟩
  | .hbm, ⟨28, _⟩ => ⟨S_, .f32⟩
  | .hbm, ⟨29, _⟩ => ⟨S4x4x2048, .f32⟩
  | .hbm, ⟨30, _⟩ => ⟨S4x4x2048x1, .f32⟩
  | .hbm, ⟨31, _⟩ => ⟨S4x4x2048x2048, .f32⟩
  | .hbm, ⟨32, _⟩ => ⟨S4x4x2048x2048, .i1⟩
  | .hbm, ⟨33, _⟩ => ⟨S4x4x2048x2048, .f32⟩
  | .hbm, ⟨34, _⟩ => ⟨S_, .f32⟩
  | .hbm, ⟨35, _⟩ => ⟨S4x4x2048, .f32⟩
  | .hbm, ⟨36, _⟩ => ⟨S_, .f32⟩
  | .hbm, ⟨37, _⟩ => ⟨S4x4x2048, .f32⟩
  | .hbm, ⟨38, _⟩ => ⟨S4x4x2048, .f32⟩
  | .hbm, ⟨39, _⟩ => ⟨S_, .f32⟩
  | .hbm, ⟨40, _⟩ => ⟨S4x4x2048, .f32⟩
  | .hbm, ⟨41, _⟩ => ⟨S4x4x2048, .i1⟩
  | .hbm, ⟨42, _⟩ => ⟨S_, .f32⟩
  | .hbm, ⟨43, _⟩ => ⟨S4x4x2048, .f32⟩
  | .hbm, ⟨44, _⟩ => ⟨S4x4x2048, .i1⟩
  | .hbm, ⟨45, _⟩ => ⟨S_, .f32⟩
  | .hbm, ⟨46, _⟩ => ⟨S4x4x2048, .f32⟩
  | .hbm, ⟨47, _⟩ => ⟨S_, .f32⟩
  | .hbm, ⟨48, _⟩ => ⟨S4x4x2048, .f32⟩
  | .hbm, ⟨49, _⟩ => ⟨S_, .f32⟩
  | .hbm, ⟨50, _⟩ => ⟨S4x4x2048, .f32⟩
  | .hbm, ⟨51, _⟩ => ⟨S4x4x2048, .f32⟩
  | .hbm, ⟨52, _⟩ => ⟨S4x4x2048, .f32⟩
  | .hbm, ⟨53, _⟩ => ⟨S4x4x2048x1, .f32⟩
  | .hbm, ⟨54, _⟩ => ⟨S4x4x2048x2048, .f32⟩
  | .hbm, ⟨55, _⟩ => ⟨S4x4x2048x2048, .f32⟩
  | .hbm, ⟨56, _⟩ => ⟨S4x4x2048x2048, .f32⟩
  | .hbm, ⟨57, _⟩ => ⟨S_, .f32⟩
  | .hbm, ⟨58, _⟩ => ⟨S4x4x2048, .f32⟩
  | .hbm, ⟨59, _⟩ => ⟨S4x4x2048x1, .f32⟩
  | .hbm, ⟨60, _⟩ => ⟨S4x4x2048x2048, .f32⟩
  | .hbm, ⟨61, _⟩ => ⟨S4x4x2048x2048, .f32⟩
  | .hbm, ⟨62, _⟩ => ⟨S4x4x2048x1, .f32⟩
  | .hbm, ⟨63, _⟩ => ⟨S_, .f32⟩
  | .hbm, ⟨64, _⟩ => ⟨S4x4x2048x1, .f32⟩
  | .hbm, ⟨65, _⟩ => ⟨S4x4x2048x1, .f32⟩
  | .hbm, ⟨66, _⟩ => ⟨S4x4x128x2048, .f32⟩
  | .hbm, ⟨67, _⟩ => ⟨S4x2048x4x128, .f32⟩
  | .hbm, ⟨68, _⟩ => ⟨S4x4x128x2048, .f32⟩
  | .hbm, ⟨69, _⟩ => ⟨S4x4x2048x2048, .f32⟩
  | .hbm, ⟨70, _⟩ => ⟨S4x4x128x2048, .f32⟩
  | .hbm, ⟨71, _⟩ => ⟨S4x2048x4x128, .f32⟩
  | .hbm, ⟨72, _⟩ => ⟨S4x4x2048x2048, .f32⟩
  | .hbm, ⟨73, _⟩ => ⟨S4x4x2048x2048, .f32⟩
  | .hbm, ⟨74, _⟩ => ⟨S4x4x2048x2048, .f32⟩
  | .hbm, ⟨75, _⟩ => ⟨S_, .f32⟩
  | .hbm, ⟨76, _⟩ => ⟨S4x4x2048, .f32⟩
  | .hbm, ⟨77, _⟩ => ⟨S4x4x2048x1, .f32⟩
  | .hbm, ⟨78, _⟩ => ⟨S4x4x2048x1, .f32⟩
  | .hbm, ⟨79, _⟩ => ⟨S4x4x2048x2048, .f32⟩
  | .hbm, ⟨80, _⟩ => ⟨S4x4x2048x2048, .f32⟩
  | .hbm, ⟨81, _⟩ => ⟨S_, .f32⟩
  | .hbm, ⟨82, _⟩ => ⟨S4x4x2048, .f32⟩
  | .hbm, ⟨83, _⟩ => ⟨S4x4x2048x2048, .f32⟩
  | .hbm, ⟨84, _⟩ => ⟨S4x4x2048x2048, .f32⟩
  | .hbm, ⟨85, _⟩ => ⟨S4x4x2048x2048, .f32⟩
  | .hbm, ⟨86, _⟩ => ⟨S_, .f32⟩
  | .hbm, ⟨87, _⟩ => ⟨S4x4x2048x2048, .f32⟩
  | .hbm, ⟨88, _⟩ => ⟨S4x4x2048x2048, .f32⟩
  | .hbm, ⟨89, _⟩ => ⟨S_, .f32⟩
  | .hbm, ⟨90, _⟩ => ⟨S4x4x2048x2048, .f32⟩
  | .hbm, ⟨91, _⟩ => ⟨S4x4x2048x2048, .f32⟩
  | .hbm, ⟨92, _⟩ => ⟨S4x2048x2048x4, .f32⟩
  | .hbm, ⟨93, _⟩ => ⟨S4x2048x4x64, .f32⟩
  | .hbm, ⟨94, _⟩ => ⟨S4x2048x64, .f32⟩
  | .hbm, ⟨95, _⟩ => ⟨S4x4x2048x128, .f32⟩
  | .hbm, ⟨96, _⟩ => ⟨S4x2048x4x128, .f32⟩
  | .hbm, ⟨97, _⟩ => ⟨S4x4x2048x128, .f32⟩
  | .hbm, ⟨98, _⟩ => ⟨S4x2048x4x128, .f32⟩
  | .hbm, ⟨99, _⟩ => ⟨S4x2048x4x256, .f32⟩
  | _, _ => ⟨S4x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== Kernel3.lean ====
abbrev S4x2048x4x128 : Shape := ⟨4, ![4, 2048, 4, 128]⟩
abbrev S4x2048x4x64 : Shape := ⟨4, ![4, 2048, 4, 64]⟩
abbrev S4x2048x4x256 : Shape := ⟨4, ![4, 2048, 4, 256]⟩
abbrev S4x2048x64 : Shape := ⟨3, ![4, 2048, 64]⟩
abbrev S4x2048x512 : Shape := ⟨3, ![4, 2048, 512]⟩
abbrev S_ : Shape := ⟨0, ![]⟩
abbrev S4x2048x1024 : Shape := ⟨3, ![4, 2048, 1024]⟩
abbrev S4x2048x128 : Shape := ⟨3, ![4, 2048, 128]⟩
abbrev S4x4x2048x128 : Shape := ⟨4, ![4, 4, 2048, 128]⟩
abbrev S1x256x512 : Shape := ⟨3, ![1, 256, 512]⟩
abbrev S1x2048x1024 : Shape := ⟨3, ![1, 2048, 1024]⟩
abbrev S1x2048x128 : Shape := ⟨3, ![1, 2048, 128]⟩
abbrev S1x4x256x128 : Shape := ⟨4, ![1, 4, 256, 128]⟩
abbrev S1x256x128 : Shape := ⟨3, ![1, 256, 128]⟩
abbrev S256x128 : Shape := ⟨2, ![256, 128]⟩
abbrev S256x256 : Shape := ⟨2, ![256, 256]⟩
abbrev S256x1 : Shape := ⟨2, ![256, 1]⟩
abbrev S256 : Shape := ⟨1, ![256]⟩
abbrev S1x1x256x128 : Shape := ⟨4, ![1, 1, 256, 128]⟩

abbrev nBuf : Space → Nat
  | .hbm => 19
  | .vmem => 12
  | .smem => 0
  | _ => 0

abbrev bufTy : (tb : Table) → Fin (tcTables nBuf tb) → BufTy
  | .hbm, ⟨0, _⟩ => ⟨S4x2048x4x128, .f32⟩
  | .hbm, ⟨1, _⟩ => ⟨S4x2048x4x64, .f32⟩
  | .hbm, ⟨2, _⟩ => ⟨S4x2048x4x256, .f32⟩
  | .hbm, ⟨3, _⟩ => ⟨S4x2048x64, .f32⟩
  | .hbm, ⟨4, _⟩ => ⟨S4x2048x512, .f32⟩
  | .hbm, ⟨5, _⟩ => ⟨S4x2048x512, .bf16⟩
  | .hbm, ⟨6, _⟩ => ⟨S_, .f32⟩
  | .hbm, ⟨7, _⟩ => ⟨S4x2048x4x64, .f32⟩
  | .hbm, ⟨8, _⟩ => ⟨S4x2048x4x128, .f32⟩
  | .hbm, ⟨9, _⟩ => ⟨S4x2048x4x128, .bf16⟩
  | .hbm, ⟨10, _⟩ => ⟨S4x2048x512, .bf16⟩
  | .hbm, ⟨11, _⟩ => ⟨S4x2048x1024, .f32⟩
  | .hbm, ⟨12, _⟩ => ⟨S4x2048x1024, .bf16⟩
  | .hbm, ⟨13, _⟩ => ⟨S_, .f32⟩
  | .hbm, ⟨14, _⟩ => ⟨S4x2048x64, .f32⟩
  | .hbm, ⟨15, _⟩ => ⟨S4x2048x128, .f32⟩
  | .hbm, ⟨16, _⟩ => ⟨S4x2048x128, .bf16⟩
  | .hbm, ⟨17, _⟩ => ⟨S4x2048x512, .f32⟩
  | .hbm, ⟨18, _⟩ => ⟨S4x4x2048x128, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x256x512, .f32⟩
  | .local _ .vmem, ⟨9, _⟩ => ⟨S1x256x512, .f32⟩
  | .local _ .vmem, ⟨10, _⟩ => ⟨S1x4x256x128, .f32⟩
  | .local _ .vmem, ⟨11, _⟩ => ⟨S1x4x256x128, .f32⟩
  | _, _ => ⟨S4x2048x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_30 : BitVec 32 := 1#32
  ⟨c0_i32_28, v51, c1_i32_30⟩
def k0_mult1 (i : grid0.Coords) (k0_t1 : Fin (k0_t1_loop i).trips) : BitVec 32 :=
  let c2_i32_105 : BitVec 32 := 2#32
  let c0_i32_28 : BitVec 32 := 0#32
  let c1_i32_30 : BitVec 32 := 1#32
  let arg8 : BitVec 32 := Scf.iv c0_i32_28 c1_i32_30 k0_t1
  let v239 : BitVec 32 := Scalar.muli c2_i32_105 arg8
  let c256_i32_106 : BitVec 32 := 256#32
  let v240 : BitVec 32 := Scalar.muli v239 c256_i32_106
  v240
def k0_off1 (i : grid0.Coords) (k0_t1 : Fin (k0_t1_loop i).trips) : Fin 3 → Nat :=
  let c0_107 : Index := 0#32
  let c2_i32_105 : BitVec 32 := 2#32
  let c0_i32_28 : BitVec 32 := 0#32
  let c1_i32_30 : BitVec 32 := 1#32
  let arg8 : BitVec 32 := Scf.iv c0_i32_28 c1_i32_30 k0_t1
  let v239 : BitVec 32 := Scalar.muli c2_i32_105 arg8
  let c256_i32_106 : BitVec 32 := 256#32
  let v240 : BitVec 32 := Scalar.muli v239 c256_i32_106
  let v241 : BitVec 32 := v240
  let v242 : Index := Scalar.indexCast v241
  let c0_108 : Index := 0#32
  ![0, v242.toNat, 0]
def k0_off2 (i : grid0.Coords) (k0_t1 : Fin (k0_t1_loop i).trips) : Fin 3 → Nat :=
  let c0_109 : Index := 0#32
  let c2_i32_105 : BitVec 32 := 2#32
  let c0_i32_28 : BitVec 32 := 0#32
  let c1_i32_30 : BitVec 32 := 1#32
  let arg8 : BitVec 32 := Scf.iv c0_i32_28 c1_i32_30 k0_t1
  let v239 : BitVec 32 := Scalar.muli c2_i32_105 arg8
  let c256_i32_106 : BitVec 32 := 256#32
  let v240 : BitVec 32 := Scalar.muli v239 c256_i32_106
  let v241 : BitVec 32 := v240
  let v245 : Index := Scalar.indexCast v241
  let c0_110 : Index := 0#32
  ![0, v245.toNat, 0]
def k0_off3 (i : grid0.Coords) (k0_t1 : Fin (k0_t1_loop i).trips) : Fin 3 → Nat :=
  let c0_113 : Index := 0#32
  let c2_i32_105 : BitVec 32 := 2#32
  let c0_i32_28 : BitVec 32 := 0#32
  let c1_i32_30 : BitVec 32 := 1#32
  let arg8 : BitVec 32 := Scf.iv c0_i32_28 c1_i32_30 k0_t1
  let v239 : BitVec 32 := Scalar.muli c2_i32_105 arg8
  let c256_i32_106 : BitVec 32 := 256#32
  let v240 : BitVec 32 := Scalar.muli v239 c256_i32_106
  let v241 : BitVec 32 := v240
  let v252 : Index := Scalar.indexCast v241
  let c256_114 : Index := 256#32
  ![0, v252.toNat, 256]
def k0_off4 (i : grid0.Coords) (k0_t1 : Fin (k0_t1_loop i).trips) : Fin 3 → Nat :=
  let c0_118 : Index := 0#32
  let c2_i32_105 : BitVec 32 := 2#32
  let c0_i32_28 : BitVec 32 := 0#32
  let c1_i32_30 : BitVec 32 := 1#32
  let arg8 : BitVec 32 := Scf.iv c0_i32_28 c1_i32_30 k0_t1
  let v239 : BitVec 32 := Scalar.muli c2_i32_105 arg8
  let c256_i32_106 : BitVec 32 := 256#32
  let v240 : BitVec 32 := Scalar.muli v239 c256_i32_106
  let v241 : BitVec 32 := v240
  let v269 : Index := Scalar.indexCast v241
  let c128_119 : Index := 128#32
  ![0, v269.toNat, 128]
def k0_off5 (i : grid0.Coords) (k0_t1 : Fin (k0_t1_loop i).trips) : Fin 3 → Nat :=
  let c0_122 : Index := 0#32
  let c2_i32_105 : BitVec 32 := 2#32
  let c0_i32_28 : BitVec 32 := 0#32
  let c1_i32_30 : BitVec 32 := 1#32
  let arg8 : BitVec 32 := Scf.iv c0_i32_28 c1_i32_30 k0_t1
  let v239 : BitVec 32 := Scalar.muli c2_i32_105 arg8
  let c256_i32_106 : BitVec 32 := 256#32
  let v240 : BitVec 32 := Scalar.muli v239 c256_i32_106
  let v241 : BitVec 32 := v240
  let v279 : Index := Scalar.indexCast v241
  let c512_123 : Index := 512#32
  ![0, v279.toNat, 512]
def k0_off6 (i : grid0.Coords) (k0_t1 : Fin (k0_t1_loop i).trips) : Fin 3 → Nat :=
  let c0_127 : Index := 0#32
  let c2_i32_105 : BitVec 32 := 2#32
  let c0_i32_28 : BitVec 32 := 0#32
  let c1_i32_30 : BitVec 32 := 1#32
  let arg8 : BitVec 32 := Scf.iv c0_i32_28 c1_i32_30 k0_t1
  let v239 : BitVec 32 := Scalar.muli c2_i32_105 arg8
  let c256_i32_106 : BitVec 32 := 256#32
  let v240 : BitVec 32 := Scalar.muli v239 c256_i32_106
  let v241 : BitVec 32 := v240
  let v296 : Index := Scalar.indexCast v241
  let c384_128 : Index := 384#32
  ![0, v296.toNat, 384]
def k0_off7 (i : grid0.Coords) (k0_t1 : Fin (k0_t1_loop i).trips) : Fin 3 → Nat :=
  let c0_131 : Index := 0#32
  let c2_i32_105 : BitVec 32 := 2#32
  let c0_i32_28 : BitVec 32 := 0#32
  let c1_i32_30 : BitVec 32 := 1#32
  let arg8 : BitVec 32 := Scf.iv c0_i32_28 c1_i32_30 k0_t1
  let v239 : BitVec 32 := Scalar.muli c2_i32_105 arg8
  let c256_i32_106 : BitVec 32 := 256#32
  let v240 : BitVec 32 := Scalar.muli v239 c256_i32_106
  let v241 : BitVec 32 := v240
  let v306 : Index := Scalar.indexCast v241
  let c768_132 : Index := 768#32
  ![0, v306.toNat, 768]
def k0_off8 (i : grid0.Coords) (k0_t1 : Fin (k0_t1_loop i).trips) : Fin 3 → Nat :=
  let c0_136 : Index := 0#32
  let c2_i32_105 : BitVec 32 := 2#32
  let c0_i32_28 : BitVec 32 := 0#32
  let c1_i32_30 : BitVec 32 := 1#32
  let arg8 : BitVec 32 := Scf.iv c0_i32_28 c1_i32_30 k0_t1
  let v239 : BitVec 32 := Scalar.muli c2_i32_105 arg8
  let c256_i32_106 : BitVec 32 := 256#32
  let v240 : BitVec 32 := Scalar.muli v239 c256_i32_106
  let v241 : BitVec 32 := v240
  let v323 : Index := Scalar.indexCast v241
  let c640_137 : Index := 640#32
  ![0, v323.toNat, 640]
def k0_off9 (i : grid0.Coords) (k0_t1 : Fin (k0_t1_loop i).trips) : Fin 3 → Nat :=
  let c0_142 : Index := 0#32
  let c2_i32_105 : BitVec 32 := 2#32
  let c0_i32_28 : BitVec 32 := 0#32
  let c1_i32_30 : BitVec 32 := 1#32
  let arg8 : BitVec 32 := Scf.iv c0_i32_28 c1_i32_30 k0_t1
  let v239 : BitVec 32 := Scalar.muli c2_i32_105 arg8
  let c256_i32_106 : BitVec 32 := 256#32
  let v240 : BitVec 32 := Scalar.muli v239 c256_i32_106
  let v241 : BitVec 32 := v240
  let v345 : Index := Scalar.indexCast v241
  let c896_143 : Index := 896#32
  ![0, v345.toNat, 896]
def k0_mult2 (i : grid0.Coords) (k0_t1 : Fin (k0_t1_loop i).trips) : BitVec 32 :=
  let c2_i32_103 : BitVec 32 := 2#32
  let c0_i32_28 : BitVec 32 := 0#32
  let c1_i32_30 : BitVec 32 := 1#32
  let arg8 : BitVec 32 := Scf.iv c0_i32_28 c1_i32_30 k0_t1
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  v353
def k0_off10 (i : grid0.Coords) (k0_t1 : Fin (k0_t1_loop i).trips) : Fin 3 → Nat :=
  let c0_146 : Index := 0#32
  let c2_i32_103 : BitVec 32 := 2#32
  let c0_i32_28 : BitVec 32 := 0#32
  let c1_i32_30 : BitVec 32 := 1#32
  let arg8 : BitVec 32 := Scf.iv c0_i32_28 c1_i32_30 k0_t1
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v355 : Index := Scalar.indexCast v354
  let c0_147 : Index := 0#32
  ![0, v355.toNat, 0]
def k0_off11 (i : grid0.Coords) (k0_t1 : Fin (k0_t1_loop i).trips) : Fin 3 → Nat :=
  let c0_148 : Index := 0#32
  let c2_i32_103 : BitVec 32 := 2#32
  let c0_i32_28 : BitVec 32 := 0#32
  let c1_i32_30 : BitVec 32 := 1#32
  let arg8 : BitVec 32 := Scf.iv c0_i32_28 c1_i32_30 k0_t1
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v358 : Index := Scalar.indexCast v354
  let c0_149 : Index := 0#32
  ![0, v358.toNat, 0]
def k0_off12 (i : grid0.Coords) (k0_t1 : Fin (k0_t1_loop i).trips) : Fin 3 → Nat :=
  let c0_152 : Index := 0#32
  let c2_i32_103 : BitVec 32 := 2#32
  let c0_i32_28 : BitVec 32 := 0#32
  let c1_i32_30 : BitVec 32 := 1#32
  let arg8 : BitVec 32 := Scf.iv c0_i32_28 c1_i32_30 k0_t1
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v365 : Index := Scalar.indexCast v354
  let c256_153 : Index := 256#32
  ![0, v365.toNat, 256]
def k0_off13 (i : grid0.Coords) (k0_t1 : Fin (k0_t1_loop i).trips) : Fin 3 → Nat :=
  let c0_157 : Index := 0#32
  let c2_i32_103 : BitVec 32 := 2#32
  let c0_i32_28 : BitVec 32 := 0#32
  let c1_i32_30 : BitVec 32 := 1#32
  let arg8 : BitVec 32 := Scf.iv c0_i32_28 c1_i32_30 k0_t1
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v382 : Index := Scalar.indexCast v354
  let c128_158 : Index := 128#32
  ![0, v382.toNat, 128]
def k0_off14 (i : grid0.Coords) (k0_t1 : Fin (k0_t1_loop i).trips) : Fin 3 → Nat :=
  let c0_161 : Index := 0#32
  let c2_i32_103 : BitVec 32 := 2#32
  let c0_i32_28 : BitVec 32 := 0#32
  let c1_i32_30 : BitVec 32 := 1#32
  let arg8 : BitVec 32 := Scf.iv c0_i32_28 c1_i32_30 k0_t1
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v392 : Index := Scalar.indexCast v354
  let c512_162 : Index := 512#32
  ![0, v392.toNat, 512]
def k0_off15 (i : grid0.Coords) (k0_t1 : Fin (k0_t1_loop i).trips) : Fin 3 → Nat :=
  let c0_166 : Index := 0#32
  let c2_i32_103 : BitVec 32 := 2#32
  let c0_i32_28 : BitVec 32 := 0#32
  let c1_i32_30 : BitVec 32 := 1#32
  let arg8 : BitVec 32 := Scf.iv c0_i32_28 c1_i32_30 k0_t1
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v409 : Index := Scalar.indexCast v354
  let c384_167 : Index := 384#32
  ![0, v409.toNat, 384]
def k0_off16 (i : grid0.Coords) (k0_t1 : Fin (k0_t1_loop i).trips) : Fin 3 → Nat :=
  let c0_170 : Index := 0#32
  let c2_i32_103 : BitVec 32 := 2#32
  let c0_i32_28 : BitVec 32 := 0#32
  let c1_i32_30 : BitVec 32 := 1#32
  let arg8 : BitVec 32 := Scf.iv c0_i32_28 c1_i32_30 k0_t1
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v419 : Index := Scalar.indexCast v354
  let c768_171 : Index := 768#32
  ![0, v419.toNat, 768]
def k0_off17 (i : grid0.Coords) (k0_t1 : Fin (k0_t1_loop i).trips) : Fin 3 → Nat :=
  let c0_175 : Index := 0#32
  let c2_i32_103 : BitVec 32 := 2#32
  let c0_i32_28 : BitVec 32 := 0#32
  let c1_i32_30 : BitVec 32 := 1#32
  let arg8 : BitVec 32 := Scf.iv c0_i32_28 c1_i32_30 k0_t1
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v436 : Index := Scalar.indexCast v354
  let c640_176 : Index := 640#32
  ![0, v436.toNat, 640]
def k0_off18 (i : grid0.Coords) (k0_t1 : Fin (k0_t1_loop i).trips) : Fin 3 → Nat :=
  let c0_181 : Index := 0#32
  let c2_i32_103 : BitVec 32 := 2#32
  let c0_i32_28 : BitVec 32 := 0#32
  let c1_i32_30 : BitVec 32 := 1#32
  let arg8 : BitVec 32 := Scf.iv c0_i32_28 c1_i32_30 k0_t1
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v458 : Index := Scalar.indexCast v354
  let c896_182 : Index := 896#32
  ![0, v458.toNat, 896]
@[reducible] def k0_t2_loop (i : grid0.Coords) : Scf.Loop 32 :=
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let v48 : BitVec 32 := Scalar.addi c0_i32_28 v47
  let c1_i32_31 : BitVec 32 := 1#32
  ⟨v51, v48, c1_i32_31⟩
def k0_mult3 (i : grid0.Coords) (k0_t2 : Fin (k0_t2_loop i).trips) : BitVec 32 :=
  let c2_i32_105 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v239 : BitVec 32 := Scalar.muli c2_i32_105 arg8
  let c256_i32_106 : BitVec 32 := 256#32
  let v240 : BitVec 32 := Scalar.muli v239 c256_i32_106
  v240
def k0_off19 (i : grid0.Coords) (k0_t2 : Fin (k0_t2_loop i).trips) : Fin 3 → Nat :=
  let c0_107 : Index := 0#32
  let c2_i32_105 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v239 : BitVec 32 := Scalar.muli c2_i32_105 arg8
  let c256_i32_106 : BitVec 32 := 256#32
  let v240 : BitVec 32 := Scalar.muli v239 c256_i32_106
  let v241 : BitVec 32 := v240
  let v242 : Index := Scalar.indexCast v241
  let c0_108 : Index := 0#32
  ![0, v242.toNat, 0]
def k0_off20 (i : grid0.Coords) (k0_t2 : Fin (k0_t2_loop i).trips) : Fin 3 → Nat :=
  let c0_109 : Index := 0#32
  let c2_i32_105 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v239 : BitVec 32 := Scalar.muli c2_i32_105 arg8
  let c256_i32_106 : BitVec 32 := 256#32
  let v240 : BitVec 32 := Scalar.muli v239 c256_i32_106
  let v241 : BitVec 32 := v240
  let v245 : Index := Scalar.indexCast v241
  let c0_110 : Index := 0#32
  ![0, v245.toNat, 0]
def k0_off21 (i : grid0.Coords) (k0_t2 : Fin (k0_t2_loop i).trips) : Fin 3 → Nat :=
  let c0_113 : Index := 0#32
  let c2_i32_105 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v239 : BitVec 32 := Scalar.muli c2_i32_105 arg8
  let c256_i32_106 : BitVec 32 := 256#32
  let v240 : BitVec 32 := Scalar.muli v239 c256_i32_106
  let v241 : BitVec 32 := v240
  let v252 : Index := Scalar.indexCast v241
  let c256_114 : Index := 256#32
  ![0, v252.toNat, 256]
def k0_off22 (i : grid0.Coords) (k0_t2 : Fin (k0_t2_loop i).trips) : Fin 3 → Nat :=
  let c0_118 : Index := 0#32
  let c2_i32_105 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v239 : BitVec 32 := Scalar.muli c2_i32_105 arg8
  let c256_i32_106 : BitVec 32 := 256#32
  let v240 : BitVec 32 := Scalar.muli v239 c256_i32_106
  let v241 : BitVec 32 := v240
  let v269 : Index := Scalar.indexCast v241
  let c128_119 : Index := 128#32
  ![0, v269.toNat, 128]
def k0_off23 (i : grid0.Coords) (k0_t2 : Fin (k0_t2_loop i).trips) : Fin 3 → Nat :=
  let c0_122 : Index := 0#32
  let c2_i32_105 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v239 : BitVec 32 := Scalar.muli c2_i32_105 arg8
  let c256_i32_106 : BitVec 32 := 256#32
  let v240 : BitVec 32 := Scalar.muli v239 c256_i32_106
  let v241 : BitVec 32 := v240
  let v279 : Index := Scalar.indexCast v241
  let c512_123 : Index := 512#32
  ![0, v279.toNat, 512]
def k0_off24 (i : grid0.Coords) (k0_t2 : Fin (k0_t2_loop i).trips) : Fin 3 → Nat :=
  let c0_127 : Index := 0#32
  let c2_i32_105 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v239 : BitVec 32 := Scalar.muli c2_i32_105 arg8
  let c256_i32_106 : BitVec 32 := 256#32
  let v240 : BitVec 32 := Scalar.muli v239 c256_i32_106
  let v241 : BitVec 32 := v240
  let v296 : Index := Scalar.indexCast v241
  let c384_128 : Index := 384#32
  ![0, v296.toNat, 384]
def k0_off25 (i : grid0.Coords) (k0_t2 : Fin (k0_t2_loop i).trips) : Fin 3 → Nat :=
  let c0_131 : Index := 0#32
  let c2_i32_105 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v239 : BitVec 32 := Scalar.muli c2_i32_105 arg8
  let c256_i32_106 : BitVec 32 := 256#32
  let v240 : BitVec 32 := Scalar.muli v239 c256_i32_106
  let v241 : BitVec 32 := v240
  let v306 : Index := Scalar.indexCast v241
  let c768_132 : Index := 768#32
  ![0, v306.toNat, 768]
def k0_off26 (i : grid0.Coords) (k0_t2 : Fin (k0_t2_loop i).trips) : Fin 3 → Nat :=
  let c0_136 : Index := 0#32
  let c2_i32_105 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v239 : BitVec 32 := Scalar.muli c2_i32_105 arg8
  let c256_i32_106 : BitVec 32 := 256#32
  let v240 : BitVec 32 := Scalar.muli v239 c256_i32_106
  let v241 : BitVec 32 := v240
  let v323 : Index := Scalar.indexCast v241
  let c640_137 : Index := 640#32
  ![0, v323.toNat, 640]
def k0_off27 (i : grid0.Coords) (k0_t2 : Fin (k0_t2_loop i).trips) : Fin 3 → Nat :=
  let c0_142 : Index := 0#32
  let c2_i32_105 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v239 : BitVec 32 := Scalar.muli c2_i32_105 arg8
  let c256_i32_106 : BitVec 32 := 256#32
  let v240 : BitVec 32 := Scalar.muli v239 c256_i32_106
  let v241 : BitVec 32 := v240
  let v345 : Index := Scalar.indexCast v241
  let c896_143 : Index := 896#32
  ![0, v345.toNat, 896]
def k0_mult4 (i : grid0.Coords) (k0_t2 : Fin (k0_t2_loop i).trips) : BitVec 32 :=
  let c2_i32_103 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  v353
def k0_off28 (i : grid0.Coords) (k0_t2 : Fin (k0_t2_loop i).trips) : Fin 3 → Nat :=
  let c0_146 : Index := 0#32
  let c2_i32_103 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v355 : Index := Scalar.indexCast v354
  let c0_147 : Index := 0#32
  ![0, v355.toNat, 0]
def k0_off29 (i : grid0.Coords) (k0_t2 : Fin (k0_t2_loop i).trips) : Fin 3 → Nat :=
  let c0_148 : Index := 0#32
  let c2_i32_103 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v358 : Index := Scalar.indexCast v354
  let c0_149 : Index := 0#32
  ![0, v358.toNat, 0]
def k0_off30 (i : grid0.Coords) (k0_t2 : Fin (k0_t2_loop i).trips) : Fin 3 → Nat :=
  let c0_152 : Index := 0#32
  let c2_i32_103 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v365 : Index := Scalar.indexCast v354
  let c256_153 : Index := 256#32
  ![0, v365.toNat, 256]
def k0_off31 (i : grid0.Coords) (k0_t2 : Fin (k0_t2_loop i).trips) : Fin 3 → Nat :=
  let c0_157 : Index := 0#32
  let c2_i32_103 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v382 : Index := Scalar.indexCast v354
  let c128_158 : Index := 128#32
  ![0, v382.toNat, 128]
def k0_off32 (i : grid0.Coords) (k0_t2 : Fin (k0_t2_loop i).trips) : Fin 3 → Nat :=
  let c0_161 : Index := 0#32
  let c2_i32_103 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v392 : Index := Scalar.indexCast v354
  let c512_162 : Index := 512#32
  ![0, v392.toNat, 512]
def k0_off33 (i : grid0.Coords) (k0_t2 : Fin (k0_t2_loop i).trips) : Fin 3 → Nat :=
  let c0_166 : Index := 0#32
  let c2_i32_103 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v409 : Index := Scalar.indexCast v354
  let c384_167 : Index := 384#32
  ![0, v409.toNat, 384]
def k0_off34 (i : grid0.Coords) (k0_t2 : Fin (k0_t2_loop i).trips) : Fin 3 → Nat :=
  let c0_170 : Index := 0#32
  let c2_i32_103 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v419 : Index := Scalar.indexCast v354
  let c768_171 : Index := 768#32
  ![0, v419.toNat, 768]
def k0_off35 (i : grid0.Coords) (k0_t2 : Fin (k0_t2_loop i).trips) : Fin 3 → Nat :=
  let c0_175 : Index := 0#32
  let c2_i32_103 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v436 : Index := Scalar.indexCast v354
  let c640_176 : Index := 640#32
  ![0, v436.toNat, 640]
def k0_off36 (i : grid0.Coords) (k0_t2 : Fin (k0_t2_loop i).trips) : Fin 3 → Nat :=
  let c0_181 : Index := 0#32
  let c2_i32_103 : BitVec 32 := 2#32
  let c0_i32_28 : BitVec 32 := 0#32
  let arg1 : BitVec 32 := BitVec.ofNat 32 (i 1).val
  let c0_i32_23 : BitVec 32 := 0#32
  let v31 : BitVec 1 := Scalar.cmpi .sgt arg1 c0_i32_23
  let v32 : BitVec 32 := Scalar.extui v31
  let c0_i32_24 : BitVec 32 := 0#32
  let v33 : BitVec 1 := Scalar.cmpi .slt arg1 c0_i32_24
  let v34 : BitVec 32 := Scalar.extui v33
  let v35 : BitVec 32 := Scalar.subi v32 v34
  let c2_i32 : BitVec 32 := 2#32
  let c0_i32_25 : BitVec 32 := 0#32
  let v36 : BitVec 1 := Scalar.cmpi .sgt c2_i32 c0_i32_25
  let v37 : BitVec 32 := Scalar.extui v36
  let c0_i32_26 : BitVec 32 := 0#32
  let v38 : BitVec 1 := Scalar.cmpi .slt c2_i32 c0_i32_26
  let v39 : BitVec 32 := Scalar.extui v38
  let v40 : BitVec 32 := Scalar.subi v37 v39
  let v41 : BitVec 1 := Scalar.cmpi .ne v35 v40
  let v42 : BitVec 32 := Scalar.remsi arg1 c2_i32
  let c0_i32_27 : BitVec 32 := 0#32
  let v43 : BitVec 1 := Scalar.cmpi .ne v42 c0_i32_27
  let v44 : BitVec 1 := Scalar.andi v41 v43
  let v30 : BitVec 32 := Scalar.divsi arg1 c2_i32
  let c1_i32 : BitVec 32 := 1#32
  let v45 : BitVec 32 := Scalar.subi v30 c1_i32
  let v46 : BitVec 32 := Scalar.select v44 v45 v30
  let v47 : BitVec 32 := Scalar.subi v46 c0_i32_28
  let c1_i32_29 : BitVec 32 := 1#32
  let v49 : BitVec 32 := Scalar.divsi v47 c1_i32_29
  let v50 : BitVec 32 := Scalar.muli v49 c1_i32_29
  let v51 : BitVec 32 := Scalar.addi c0_i32_28 v50
  let c1_i32_31 : BitVec 32 := 1#32
  let arg8 : BitVec 32 := Scf.iv v51 c1_i32_31 k0_t2
  let v237 : BitVec 32 := Scalar.muli c2_i32_103 arg8
  let c1_i32_104 : BitVec 32 := 1#32
  let v238 : BitVec 32 := Scalar.addi v237 c1_i32_104
  let c256_i32_145 : BitVec 32 := 256#32
  let v353 : BitVec 32 := Scalar.muli v238 c256_i32_145
  let v354 : BitVec 32 := v353
  let v458 : Index := Scalar.indexCast v354
  let c896_182 : Index := 896#32
  ![0, v458.toNat, 896]
def k0_cond1 (i : grid0.Coords) : BitVec 1 :=
  let arg1 : BitVec 32 := BitVec.ofNat 32 (i 1).val
  let c2_i32_32 : BitVec 32 := 2#32
  let c0_i32_33 : BitVec 32 := 0#32
  let v54 : BitVec 1 := Scalar.cmpi .eq c2_i32_32 c0_i32_33
  let c1_i32_34 : BitVec 32 := 1#32
  let v55 : BitVec 32 := Scalar.select v54 c1_i32_34 c2_i32_32
  let v56 : BitVec 32 := Scalar.remsi arg1 v55
  let c0_i32_36 : BitVec 32 := 0#32
  let v58 : BitVec 1 := Scalar.cmpi .slt v56 c0_i32_36
  let c0_i32_37 : BitVec 32 := 0#32
  let v59 : BitVec 1 := Scalar.cmpi .slt v55 c0_i32_37
  let v60 : BitVec 1 := Scalar.xori v58 v59
  let c0_i32_35 : BitVec 32 := 0#32
  let v57 : BitVec 1 := Scalar.cmpi .ne v56 c0_i32_35
  let v61 : BitVec 1 := Scalar.andi v60 v57
  let v62 : BitVec 32 := Scalar.addi v56 v55
  let v63 : BitVec 32 := Scalar.select v61 v62 v56
  let c1_i32_38 : BitVec 32 := 1#32
  let v64 : BitVec 1 := Scalar.cmpi .eq v63 c1_i32_38
  let v65 : BitVec 32 := Scalar.extui v64
  let c0_i32_39 : BitVec 32 := 0#32
  let v66 : BitVec 1 := Scalar.cmpi .ne v65 c0_i32_39
  v66

def k0_mult5 (i : grid0.Coords) : BitVec 32 :=
  let arg1 : BitVec 32 := BitVec.ofNat 32 (i 1).val
  let c1_i32_103 : BitVec 32 := 1#32
  let v237 : BitVec 32 := Scalar.subi arg1 c1_i32_103
  let c256_i32_104 : BitVec 32 := 256#32
  let v238 : BitVec 32 := Scalar.muli v237 c256_i32_104
  v238
def k0_off37 (i : grid0.Coords) : Fin 3 → Nat :=
  let c0_105 : Index := 0#32
  let arg1 : BitVec 32 := BitVec.ofNat 32 (i 1).val
  let c1_i32_103 : BitVec 32 := 1#32
  let v237 : BitVec 32 := Scalar.subi arg1 c1_i32_103
  let c256_i32_104 : BitVec 32 := 256#32
  let v238 : BitVec 32 := Scalar.muli v237 c256_i32_104
  let v239 : BitVec 32 := v238
  let v240 : Index := Scalar.indexCast v239
  let c0_106 : Index := 0#32
  ![0, v240.toNat, 0]
def k0_off38 (i : grid0.Coords) : Fin 3 → Nat :=
  let c0_107 : Index := 0#32
  let arg1 : BitVec 32 := BitVec.ofNat 32 (i 1).val
  let c1_i32_103 : BitVec 32 := 1#32
  let v237 : BitVec 32 := Scalar.subi arg1 c1_i32_103
  let c256_i32_104 : BitVec 32 := 256#32
  let v238 : BitVec 32 := Scalar.muli v237 c256_i32_104
  let v239 : BitVec 32 := v238
  let v243 : Index := Scalar.indexCast v239
  let c0_108 : Index := 0#32
  ![0, v243.toNat, 0]
def k0_off39 (i : grid0.Coords) : Fin 3 → Nat :=
  let c0_111 : Index := 0#32
  let arg1 : BitVec 32 := BitVec.ofNat 32 (i 1).val
  let c1_i32_103 : BitVec 32 := 1#32
  let v237 : BitVec 32 := Scalar.subi arg1 c1_i32_103
  let c256_i32_104 : BitVec 32 := 256#32
  let v238 : BitVec 32 := Scalar.muli v237 c256_i32_104
  let v239 : BitVec 32 := v238
  let v250 : Index := Scalar.indexCast v239
  let c256_112 : Index := 256#32
  ![0, v250.toNat, 256]
def k0_off40 (i : grid0.Coords) : Fin 3 → Nat :=
  let c0_116 : Index := 0#32
  let arg1 : BitVec 32 := BitVec.ofNat 32 (i 1).val
  let c1_i32_103 : BitVec 32 := 1#32
  let v237 : BitVec 32 := Scalar.subi arg1 c1_i32_103
  let c256_i32_104 : BitVec 32 := 256#32
  let v238 : BitVec 32 := Scalar.muli v237 c256_i32_104
  let v239 : BitVec 32 := v238
  let v267 : Index := Scalar.indexCast v239
  let c128_117 : Index := 128#32
  ![0, v267.toNat, 128]
def k0_off41 (i : grid0.Coords) : Fin 3 → Nat :=
  let c0_120 : Index := 0#32
  let arg1 : BitVec 32 := BitVec.ofNat 32 (i 1).val
  let c1_i32_103 : BitVec 32 := 1#32
  let v237 : BitVec 32 := Scalar.subi arg1 c1_i32_103
  let c256_i32_104 : BitVec 32 := 256#32
  let v238 : BitVec 32 := Scalar.muli v237 c256_i32_104
  let v239 : BitVec 32 := v238
  let v277 : Index := Scalar.indexCast v239
  let c512_121 : Index := 512#32
  ![0, v277.toNat, 512]
def k0_off42 (i : grid0.Coords) : Fin 3 → Nat :=
  let c0_125 : Index := 0#32
  let arg1 : BitVec 32 := BitVec.ofNat 32 (i 1).val
  let c1_i32_103 : BitVec 32 := 1#32
  let v237 : BitVec 32 := Scalar.subi arg1 c1_i32_103
  let c256_i32_104 : BitVec 32 := 256#32
  let v238 : BitVec 32 := Scalar.muli v237 c256_i32_104
  let v239 : BitVec 32 := v238
  let v294 : Index := Scalar.indexCast v239
  let c384_126 : Index := 384#32
  ![0, v294.toNat, 384]
def k0_off43 (i : grid0.Coords) : Fin 3 → Nat :=
  let c0_129 : Index := 0#32
  let arg1 : BitVec 32 := BitVec.ofNat 32 (i 1).val
  let c1_i32_103 : BitVec 32 := 1#32
  let v237 : BitVec 32 := Scalar.subi arg1 c1_i32_103
  let c256_i32_104 : BitVec 32 := 256#32
  let v238 : BitVec 32 := Scalar.muli v237 c256_i32_104
  let v239 : BitVec 32 := v238
  let v304 : Index := Scalar.indexCast v239
  let c768_130 : Index := 768#32
  ![0, v304.toNat, 768]
def k0_off44 (i : grid0.Coords) : Fin 3 → Nat :=
  let c0_134 : Index := 0#32
  let arg1 : BitVec 32 := BitVec.ofNat 32 (i 1).val
  let c1_i32_103 : BitVec 32 := 1#32
  let v237 : BitVec 32 := Scalar.subi arg1 c1_i32_103
  let c256_i32_104 : BitVec 32 := 256#32
  let v238 : BitVec 32 := Scalar.muli v237 c256_i32_104
  let v239 : BitVec 32 := v238
  let v321 : Index := Scalar.indexCast v239
  let c640_135 : Index := 640#32
  ![0, v321.toNat, 640]
def k0_off45 (i : grid0.Coords) : Fin 3 → Nat :=
  let c0_140 : Index := 0#32
  let arg1 : BitVec 32 := BitVec.ofNat 32 (i 1).val
  let c1_i32_103 : BitVec 32 := 1#32
  let v237 : BitVec 32 := Scalar.subi arg1 c1_i32_103
  let c256_i32_104 : BitVec 32 := 256#32
  let v238 : BitVec 32 := Scalar.muli v237 c256_i32_104
  let v239 : BitVec 32 := v238
  let v343 : Index := Scalar.indexCast v239
  let c896_141 : Index := 896#32
  ![0, v343.toNat, 896]
def k0_mult6 (i : grid0.Coords) : BitVec 32 :=
  let arg1 : BitVec 32 := BitVec.ofNat 32 (i 1).val
  let c256_i32 : BitVec 32 := 256#32
  let v68 : BitVec 32 := Scalar.muli arg1 c256_i32
  v68
def k0_off46 (i : grid0.Coords) : Fin 3 → Nat :=
  let c0_40 : Index := 0#32
  let arg1 : BitVec 32 := BitVec.ofNat 32 (i 1).val
  let c256_i32 : BitVec 32 := 256#32
  let v68 : BitVec 32 := Scalar.muli arg1 c256_i32
  let v69 : BitVec 32 := v68
  let v70 : Index := Scalar.indexCast v69
  let c0_41 : Index := 0#32
  ![0, v70.toNat, 0]
def k0_off47 (i : grid0.Coords) : Fin 3 → Nat :=
  let c0_42 : Index := 0#32
  let arg1 : BitVec 32 := BitVec.ofNat 32 (i 1).val
  let c256_i32 : BitVec 32 := 256#32
  let v68 : BitVec 32 := Scalar.muli arg1 c256_i32
  let v69 : BitVec 32 := v68
  let v73 : Index := Scalar.indexCast v69
  let c0_43 : Index := 0#32
  ![0, v73.toNat, 0]
def k0_off48 (i : grid0.Coords) : Fin 3 → Nat :=
  let c0_46 : Index := 0#32
  let arg1 : BitVec 32 := BitVec.ofNat 32 (i 1).val
  let c256_i32 : BitVec 32 := 256#32
  let v68 : BitVec 32 := Scalar.muli arg1 c256_i32
  let v69 : BitVec 32 := v68
  let v80 : Index := Scalar.indexCast v69
  let c256_47 : Index := 256#32
  ![0, v80.toNat, 256]
def k0_off49 (i : grid0.Coords) : Fin 3 → Nat :=
  let c0_52 : Index := 0#32
  let arg1 : BitVec 32 := BitVec.ofNat 32 (i 1).val
  let c256_i32 : BitVec 32 := 256#32
  let v68 : BitVec 32 := Scalar.muli arg1 c256_i32
  let v69 : BitVec 32 := v68
  let v99 : Index := Scalar.indexCast v69
  let c128_53 : Index := 128#32
  ![0, v99.toNat, 128]
def k0_off50 (i : grid0.Coords) : Fin 3 → Nat :=
  let c0_56 : Index := 0#32
  let arg1 : BitVec 32 := BitVec.ofNat 32 (i 1).val
  let c256_i32 : BitVec 32 := 256#32
  let v68 : BitVec 32 := Scalar.muli arg1 c256_i32
  let v69 : BitVec 32 := v68
  let v109 : Index := Scalar.indexCast v69
  let c512 : Index := 512#32
  ![0, v109.toNat, 512]
def k0_off51 (i : grid0.Coords) : Fin 3 → Nat :=
  let c0_61 : Index := 0#32
  let arg1 : BitVec 32 := BitVec.ofNat 32 (i 1).val
  let c256_i32 : BitVec 32 := 256#32
  let v68 : BitVec 32 := Scalar.muli arg1 c256_i32
  let v69 : BitVec 32 := v68
  let v128 : Index := Scalar.indexCast v69
  let c384_62 : Index := 384#32
  ![0, v128.toNat, 384]
def k0_off52 (i : grid0.Coords) : Fin 3 → Nat :=
  let c0_65 : Index := 0#32
  let arg1 : BitVec 32 := BitVec.ofNat 32 (i 1).val
  let c256_i32 : BitVec 32 := 256#32
  let v68 : BitVec 32 := Scalar.muli arg1 c256_i32
  let v69 : BitVec 32 := v68
  let v138 : Index := Scalar.indexCast v69
  let c768 : Index := 768#32
  ![0, v138.toNat, 768]
def k0_off53 (i : grid0.Coords) : Fin 3 → Nat :=
  let c0_70 : Index := 0#32
  let arg1 : BitVec 32 := BitVec.ofNat 32 (i 1).val
  let c256_i32 : BitVec 32 := 256#32
  let v68 : BitVec 32 := Scalar.muli arg1 c256_i32
  let v69 : BitVec 32 := v68
  let v157 : Index := Scalar.indexCast v69
  let c640 : Index := 640#32
  ![0, v157.toNat, 640]
def k0_off54 (i : grid0.Coords) : Fin 3 → Nat :=
  let c0_76 : Index := 0#32
  let arg1 : BitVec 32 := BitVec.ofNat 32 (i 1).val
  let c256_i32 : BitVec 32 := 256#32
  let v68 : BitVec 32 := Scalar.muli arg1 c256_i32
  let v69 : BitVec 32 := v68
  let v181 : Index := Scalar.indexCast v69
  let c896 : Index := 896#32
  ![0, v181.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel3Ideal.lean ====
variable {F : FTy → Type} [FloatOps F] [Named F]
def κ : String → Option EReal := fun
  | "mask" => some ⊥
  | _ => none
-- ==== Reference3Ideal.lean ====
abbrev S4x2048x4x128 : Shape := ⟨4, ![4, 2048, 4, 128]⟩
abbrev S4x2048x4x64 : Shape := ⟨4, ![4, 2048, 4, 64]⟩
abbrev S4x2048x4x256 : Shape := ⟨4, ![4, 2048, 4, 256]⟩
abbrev S4x2048x64 : Shape := ⟨3, ![4, 2048, 64]⟩
abbrev S4x4x2048x2048 : Shape := ⟨4, ![4, 4, 2048, 2048]⟩
abbrev S4x2048x2048x4 : Shape := ⟨4, ![4, 2048, 2048, 4]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x2048x512 : Shape := ⟨3, ![4, 2048, 512]⟩
abbrev S4x4x2048x128 : Shape := ⟨4, ![4, 4, 2048, 128]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x4x128, .f32⟩
  | .hbm, ⟨1, _⟩ => ⟨S4x2048x4x64, .f32⟩
  | .hbm, ⟨2, _⟩ => ⟨S4x2048x4x256, .f32⟩
  | .hbm, ⟨3, _⟩ => ⟨S4x2048x64, .f32⟩
  | .hbm, ⟨4, _⟩ => ⟨S4x2048x4x128, .f32⟩
  | .hbm, ⟨5, _⟩ => ⟨S4x2048x4x128, .f32⟩
  | .hbm, ⟨6, _⟩ => ⟨S4x4x2048x2048, .f32⟩
  | .hbm, ⟨7, _⟩ => ⟨S4x2048x2048x4, .f32⟩
  | .hbm, ⟨8, _⟩ => ⟨S4x4x2048x2048, .f32⟩
  | .hbm, ⟨9, _⟩ => ⟨S4x4x2048x2048, .f32⟩
  | .hbm, ⟨10, _⟩ => ⟨S_, .f32⟩
  | .hbm, ⟨11, _⟩ => ⟨S4x4x2048x2048, .f32⟩
  | .hbm, ⟨12, _⟩ => ⟨S4x4x2048x2048, .f32⟩
  | .hbm, ⟨13, _⟩ => ⟨S2048, .i32⟩
  | .hbm, ⟨14, _⟩ => ⟨S2048x1, .i32⟩
  | .hbm, ⟨15, _⟩ => ⟨S2048, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S4x4x2048x2048, .i1⟩
  | .hbm, ⟨23, _⟩ => ⟨S4x4x2048x2048, .f32⟩
  | .hbm, ⟨24, _⟩ => ⟨S4x4x2048x2048, .f32⟩
  | .hbm, ⟨25, _⟩ => ⟨S_, .f32⟩
  | .hbm, ⟨26, _⟩ => ⟨S4x4x2048, .f32⟩
  | .hbm, ⟨27, _⟩ => ⟨S_, .f32⟩
  | .hbm, ⟨28, _⟩ => ⟨S4x4x2048, .f32⟩
  | .hbm, ⟨29, _⟩ => ⟨S4x4x2048, .f32⟩
  | .hbm, ⟨30, _⟩ => ⟨S4x4x2048x1, .f32⟩
  | .hbm, ⟨31, _⟩ => ⟨S4x4x2048x2048, .f32⟩
  | .hbm, ⟨32, _⟩ => ⟨S4x4x2048x2048, .f32⟩
  | .hbm, ⟨33, _⟩ => ⟨S4x4x2048x2048, .f32⟩
  | .hbm, ⟨34, _⟩ => ⟨S_, .f32⟩
  | .hbm, ⟨35, _⟩ => ⟨S4x4x2048, .f32⟩
  | .hbm, ⟨36, _⟩ => ⟨S4x4x2048x1, .f32⟩
  | .hbm, ⟨37, _⟩ => ⟨S4x4x2048x2048, .f32⟩
  | .hbm, ⟨38, _⟩ => ⟨S4x4x2048x2048, .f32⟩
  | .hbm, ⟨39, _⟩ => ⟨S_, .f32⟩
  | .hbm, ⟨40, _⟩ => ⟨S4x4x2048, .f32⟩
  | .hbm, ⟨41, _⟩ => ⟨S4x4x2048x1, .f32⟩
  | .hbm, ⟨42, _⟩ => ⟨S4x4x2048x2048, .f32⟩
  | .hbm, ⟨43, _⟩ => ⟨S4x4x2048x2048, .f32⟩
  | .hbm, ⟨44, _⟩ => ⟨S4x4x2048x2048, .f32⟩
  | .hbm, ⟨45, _⟩ => ⟨S_, .f32⟩
  | .hbm, ⟨46, _⟩ => ⟨S4x4x2048, .f32⟩
  | .hbm, ⟨47, _⟩ => ⟨S4x4x2048, .f32⟩
  | .hbm, ⟨48, _⟩ => ⟨S4x4x2048, .f32⟩
  | .hbm, ⟨49, _⟩ => ⟨S4x4x128x2048, .f32⟩
  | .hbm, ⟨50, _⟩ => ⟨S4x2048x4x128, .f32⟩
  | .hbm, ⟨51, _⟩ => ⟨S4x2048x512, .f32⟩
  | .hbm, ⟨52, _⟩ => ⟨S4x4x2048x1, .f32⟩
  | .hbm, ⟨53, _⟩ => ⟨S4x4x2048x128, .f32⟩
  | _, _ => ⟨S4x2048x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel4.lean ====
abbrev S4x2048x1024 : Shape := ⟨3, ![4, 2048, 1024]⟩
abbrev S1x1024 : Shape := ⟨2, ![1, 1024]⟩
abbrev S1x1024x3136 : Shape := ⟨3, ![1, 1024, 3136]⟩
abbrev S1024x3136 : Shape := ⟨2, ![1024, 3136]⟩
abbrev S1024x448 : Shape := ⟨2, ![1024, 448]⟩
abbrev S_ : Shape := ⟨0, ![]⟩
abbrev S1024x64 : Shape := ⟨2, ![1024, 64]⟩
abbrev S1024x2688 : Shape := ⟨2, ![1024, 2688]⟩
abbrev S1024x3200 : Shape := ⟨2, ![1024, 3200]⟩
abbrev S8192x1024 : Shape := ⟨2, ![8192, 1024]⟩
abbrev S1024x8192 : Shape := ⟨2, ![1024, 8192]⟩
abbrev S8192x512 : Shape := ⟨2, ![8192, 512]⟩
abbrev S8192x1664 : Shape := ⟨2, ![8192, 1664]⟩
abbrev S256x1024 : Shape := ⟨2, ![256, 1024]⟩
abbrev S1024x256 : Shape := ⟨2, ![1024, 256]⟩
abbrev S256x512 : Shape := ⟨2, ![256, 512]⟩
abbrev S256x1664 : Shape := ⟨2, ![256, 1664]⟩
abbrev S256 : Shape := ⟨1, ![256]⟩
abbrev S256x1 : Shape := ⟨2, ![256, 1]⟩
abbrev S1024x512 : Shape := ⟨2, ![1024, 512]⟩
abbrev S1024x1664 : Shape := ⟨2, ![1024, 1664]⟩
abbrev S1024x1024 : Shape := ⟨2, ![1024, 1024]⟩

abbrev nBuf : Space → Nat
  | .hbm => 15
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024x3136, .f32⟩
  | .hbm, ⟨3, _⟩ => ⟨S1024x3136, .f32⟩
  | .hbm, ⟨4, _⟩ => ⟨S1024x3136, .bf16⟩
  | .hbm, ⟨5, _⟩ => ⟨S1024x448, .bf16⟩
  | .hbm, ⟨6, _⟩ => ⟨S_, .bf16⟩
  | .hbm, ⟨7, _⟩ => ⟨S1024x64, .bf16⟩
  | .hbm, ⟨8, _⟩ => ⟨S1024x2688, .bf16⟩
  | .hbm, ⟨9, _⟩ => ⟨S1024x3200, .bf16⟩
  | .hbm, ⟨10, _⟩ => ⟨S8192x1024, .f32⟩
  | .hbm, ⟨11, _⟩ => ⟨S1024x8192, .bf16⟩
  | .hbm, ⟨12, _⟩ => ⟨S8192x512, .f32⟩
  | .hbm, ⟨13, _⟩ => ⟨S8192x1664, .f32⟩
  | .hbm, ⟨14, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3200, .bf16⟩
  | .local _ .vmem, ⟨4, _⟩ => ⟨S1024x256, .bf16⟩
  | .local _ .vmem, ⟨5, _⟩ => ⟨S1024x256, .bf16⟩
  | .local _ .vmem, ⟨6, _⟩ => ⟨S256x512, .f32⟩
  | .local _ .vmem, ⟨7, _⟩ => ⟨S256x512, .f32⟩
  | .local _ .vmem, ⟨8, _⟩ => ⟨S256x1664, .f32⟩
  | .local _ .vmem, ⟨9, _⟩ => ⟨S256x1664, .f32⟩
  | .local _ .vmem, ⟨10, _⟩ => ⟨S256x1024, .f32⟩
  | .local _ .vmem, ⟨11, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4x2048x1024 : Shape := ⟨3, ![4, 2048, 1024]⟩
abbrev S1x1024 : Shape := ⟨2, ![1, 1024]⟩
abbrev S1x1024x3136 : Shape := ⟨3, ![1, 1024, 3136]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S1024x3136 : Shape := ⟨2, ![1024, 3136]⟩
abbrev S4x2048x3136 : Shape := ⟨3, ![4, 2048, 3136]⟩
abbrev S4x2048x448 : Shape := ⟨3, ![4, 2048, 448]⟩
abbrev S4x2048x1664 : Shape := ⟨3, ![4, 2048, 1664]⟩
abbrev S4x2048x64 : Shape := ⟨3, ![4, 2048, 64]⟩
abbrev S4x2048x512 : Shape := ⟨3, ![4, 2048, 512]⟩
abbrev S8192x1024 : Shape := ⟨2, ![8192, 1024]⟩
abbrev S1024x8192 : Shape := ⟨2, ![1024, 8192]⟩
abbrev S8192x512 : Shape := ⟨2, ![8192, 512]⟩
abbrev S8192x1664 : Shape := ⟨2, ![8192, 1664]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1x1024x3136, .f32⟩
  | .hbm, ⟨3, _⟩ => ⟨S1024, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S1024x3136, .f32⟩
  | .hbm, ⟨21, _⟩ => ⟨S4x2048x3136, .f32⟩
  | .hbm, ⟨22, _⟩ => ⟨S4x2048x448, .f32⟩
  | .hbm, ⟨23, _⟩ => ⟨S4x2048x1664, .f32⟩
  | .hbm, ⟨24, _⟩ => ⟨S4x2048x1024, .f32⟩
  | .hbm, ⟨25, _⟩ => ⟨S_, .f32⟩
  | .hbm, ⟨26, _⟩ => ⟨S4x2048x64, .f32⟩
  | .hbm, ⟨27, _⟩ => ⟨S4x2048x512, .f32⟩
  | .hbm, ⟨28, _⟩ => ⟨S8192x1024, .f32⟩
  | .hbm, ⟨29, _⟩ => ⟨S1024x8192, .f32⟩
  | .hbm, ⟨30, _⟩ => ⟨S1024x8192, .bf16⟩
  | .hbm, ⟨31, _⟩ => ⟨S8192x512, .f32⟩
  | .hbm, ⟨32, _⟩ => ⟨S8192x1664, .f32⟩
  | .hbm, ⟨33, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel5.lean ====
abbrev S4x1024x392 : Shape := ⟨3, ![4, 1024, 392]⟩
abbrev S1x1024x392 : Shape := ⟨3, ![1, 1024, 392]⟩
abbrev S4x256x392 : Shape := ⟨3, ![4, 256, 392]⟩
abbrev S1x256x392 : Shape := ⟨3, ![1, 256, 392]⟩
abbrev S256x392 : Shape := ⟨2, ![256, 392]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x392, .bf16⟩
  | .hbm, ⟨1, _⟩ => ⟨S1x1024x392, .f32⟩
  | .hbm, ⟨2, _⟩ => ⟨S1x1024x392, .f32⟩
  | .hbm, ⟨3, _⟩ => ⟨S1x1024x392, .f32⟩
  | .hbm, ⟨4, _⟩ => ⟨S1x1024x392, .f32⟩
  | .hbm, ⟨5, _⟩ => ⟨S1x1024x392, .f32⟩
  | .hbm, ⟨6, _⟩ => ⟨S1x1024x392, .f32⟩
  | .hbm, ⟨7, _⟩ => ⟨S1x1024x392, .f32⟩
  | .local _ .vmem, ⟨0, _⟩ => ⟨S4x256x392, .bf16⟩
  | .local _ .vmem, ⟨1, _⟩ => ⟨S4x256x392, .bf16⟩
  | .local _ .vmem, ⟨2, _⟩ => ⟨S1x256x392, .f32⟩
  | .local _ .vmem, ⟨3, _⟩ => ⟨S1x256x392, .f32⟩
  | .local _ .vmem, ⟨4, _⟩ => ⟨S1x256x392, .f32⟩
  | .local _ .vmem, ⟨5, _⟩ => ⟨S1x256x392, .f32⟩
  | .local _ .vmem, ⟨6, _⟩ => ⟨S1x256x392, .f32⟩
  | .local _ .vmem, ⟨7, _⟩ => ⟨S1x256x392, .f32⟩
  | .local _ .vmem, ⟨8, _⟩ => ⟨S1x256x392, .f32⟩
  | .local _ .vmem, ⟨9, _⟩ => ⟨S1x256x392, .f32⟩
  | .local _ .vmem, ⟨10, _⟩ => ⟨S1x256x392, .f32⟩
  | .local _ .vmem, ⟨11, _⟩ => ⟨S1x256x392, .f32⟩
  | .local _ .vmem, ⟨12, _⟩ => ⟨S1x256x392, .f32⟩
  | .local _ .vmem, ⟨13, _⟩ => ⟨S1x256x392, .f32⟩
  | .local _ .vmem, ⟨14, _⟩ => ⟨S1x256x392, .f32⟩
  | .local _ .vmem, ⟨15, _⟩ => ⟨S1x256x392, .f32⟩
  | _, _ => ⟨S4x1024x392, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x392 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x392 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x392 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x392 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x392 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x392 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x392 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x392 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x1024x392 : Shape := ⟨3, ![4, 1024, 392]⟩
abbrev S1x1024x392 : Shape := ⟨3, ![1, 1024, 392]⟩
abbrev S_ : Shape := ⟨0, ![]⟩
abbrev S1024x392 : Shape := ⟨2, ![1024, 392]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x392, .bf16⟩
  | .hbm, ⟨1, _⟩ => ⟨S1x1024x392, .f32⟩
  | .hbm, ⟨2, _⟩ => ⟨S1x1024x392, .f32⟩
  | .hbm, ⟨3, _⟩ => ⟨S1x1024x392, .f32⟩
  | .hbm, ⟨4, _⟩ => ⟨S4x1024x392, .f32⟩
  | .hbm, ⟨5, _⟩ => ⟨S_, .f32⟩
  | .hbm, ⟨6, _⟩ => ⟨S1024x392, .f32⟩
  | .hbm, ⟨7, _⟩ => ⟨S1x1024x392, .f32⟩
  | .hbm, ⟨8, _⟩ => ⟨S_, .f32⟩
  | .hbm, ⟨9, _⟩ => ⟨S1x1024x392, .f32⟩
  | .hbm, ⟨10, _⟩ => ⟨S1x1024x392, .f32⟩
  | .hbm, ⟨11, _⟩ => ⟨S_, .f32⟩
  | .hbm, ⟨12, _⟩ => ⟨S1x1024x392, .f32⟩
  | .hbm, ⟨13, _⟩ => ⟨S1x1024x392, .f32⟩
  | .hbm, ⟨14, _⟩ => ⟨S1x1024x392, .f32⟩
  | .hbm, ⟨15, _⟩ => ⟨S_, .f32⟩
  | .hbm, ⟨16, _⟩ => ⟨S1x1024x392, .f32⟩
  | .hbm, ⟨17, _⟩ => ⟨S1x1024x392, .f32⟩
  | .hbm, ⟨18, _⟩ => ⟨S1x1024x392, .f32⟩
  | .hbm, ⟨19, _⟩ => ⟨S_, .f32⟩
  | .hbm, ⟨20, _⟩ => ⟨S1x1024x392, .f32⟩
  | .hbm, ⟨21, _⟩ => ⟨S1x1024x392, .f32⟩
  | .hbm, ⟨22, _⟩ => ⟨S1x1024x392, .f32⟩
  | .hbm, ⟨23, _⟩ => ⟨S_, .f32⟩
  | .hbm, ⟨24, _⟩ => ⟨S1x1024x392, .f32⟩
  | .hbm, ⟨25, _⟩ => ⟨S1x1024x392, .f32⟩
  | .hbm, ⟨26, _⟩ => ⟨S_, .f32⟩
  | .hbm, ⟨27, _⟩ => ⟨S1x1024x392, .f32⟩
  | .hbm, ⟨28, _⟩ => ⟨S1x1024x392, .f32⟩
  | .hbm, ⟨29, _⟩ => ⟨S1x1024x392, .f32⟩
  | .hbm, ⟨30, _⟩ => ⟨S_, .f32⟩
  | .hbm, ⟨31, _⟩ => ⟨S1x1024x392, .f32⟩
  | .hbm, ⟨32, _⟩ => ⟨S1x1024x392, .f32⟩
  | .hbm, ⟨33, _⟩ => ⟨S1x1024x392, .f32⟩
  | .hbm, ⟨34, _⟩ => ⟨S_, .f32⟩
  | .hbm, ⟨35, _⟩ => ⟨S1x1024x392, .f32⟩
  | .hbm, ⟨36, _⟩ => ⟨S1x1024x392, .f32⟩
  | .hbm, ⟨37, _⟩ => ⟨S1x1024x392, .f32⟩
  | .hbm, ⟨38, _⟩ => ⟨S_, .f32⟩
  | .hbm, ⟨39, _⟩ => ⟨S1x1024x392, .f32⟩
  | .hbm, ⟨40, _⟩ => ⟨S1x1024x392, .f32⟩
  | _, _ => ⟨S4x1024x392, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel6.lean ====
abbrev S4x2048x1024 : Shape := ⟨3, ![4, 2048, 1024]⟩
abbrev S1x1024 : Shape := ⟨2, ![1, 1024]⟩
abbrev S8192x3200 : Shape := ⟨2, ![8192, 3200]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1024x8192 : Shape := ⟨2, ![1024, 8192]⟩
abbrev S1024x3200 : Shape := ⟨2, ![1024, 3200]⟩
abbrev S1024x1024 : Shape := ⟨2, ![1024, 1024]⟩
abbrev S1024x640 : Shape := ⟨2, ![1024, 640]⟩

abbrev nBuf : Space → Nat
  | .hbm => 24
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S8192x3200, .bf16⟩
  | .hbm, ⟨3, _⟩ => ⟨S1024, .f32⟩
  | .hbm, ⟨4, _⟩ => ⟨S4x2048x1024, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S8192x1024, .f32⟩
  | .hbm, ⟨21, _⟩ => ⟨S1024x8192, .f32⟩
  | .hbm, ⟨22, _⟩ => ⟨S1024x8192, .bf16⟩
  | .hbm, ⟨23, _⟩ => ⟨S1024x3200, .bf16⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .bf16⟩
  | .local _ .vmem, ⟨5, _⟩ => ⟨S1024x640, .bf16⟩
  | .local _ .vmem, ⟨6, _⟩ => ⟨S1024x640, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 8], ![false, false]⟩

def k0_cond3 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4x2048x1024 : Shape := ⟨3, ![4, 2048, 1024]⟩
abbrev S1x1024 : Shape := ⟨2, ![1, 1024]⟩
abbrev S8192x3200 : Shape := ⟨2, ![8192, 3200]⟩
abbrev S_ : Shape := ⟨0, ![]⟩
abbrev S1024x3200 : Shape := ⟨2, ![1024, 3200]⟩
abbrev S1024 : Shape := ⟨1, ![1024]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S3200x1024 : Shape := ⟨2, ![3200, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S8192x3200, .bf16⟩
  | .hbm, ⟨3, _⟩ => ⟨S_, .f32⟩
  | .hbm, ⟨4, _⟩ => ⟨S1024x3200, .f32⟩
  | .hbm, ⟨5, _⟩ => ⟨S1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S8192x1024, .f32⟩
  | .hbm, ⟨23, _⟩ => ⟨S8192x3200, .f32⟩
  | .hbm, ⟨24, _⟩ => ⟨S8192x3200, .f32⟩
  | .hbm, ⟨25, _⟩ => ⟨S3200x1024, .f32⟩
  | .hbm, ⟨26, _⟩ => ⟨S1024x3200, .f32⟩
  | .hbm, ⟨27, _⟩ => ⟨S1024x3200, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel7.lean ====
abbrev S4x2048 : Shape := ⟨2, ![4, 2048]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S128x1 : Shape := ⟨2, ![128, 1]⟩
abbrev S1x8192 : Shape := ⟨2, ![1, 8192]⟩
abbrev S8192x128 : Shape := ⟨2, ![8192, 128]⟩
abbrev S1x256 : Shape := ⟨2, ![1, 256]⟩
abbrev S256x128 : Shape := ⟨2, ![256, 128]⟩
abbrev S32x1 : Shape := ⟨2, ![32, 1]⟩
abbrev S32x256 : Shape := ⟨2, ![32, 256]⟩
abbrev S128x256 : Shape := ⟨2, ![128, 256]⟩

abbrev nBuf : Space → Nat
  | .hbm => 22
  | .vmem => 7
  | .smem => 0
  | _ => 0

abbrev bufTy : (tb : Table) → Fin (tcTables nBuf tb) → BufTy
  | .hbm, ⟨0, _⟩ => ⟨S4x2048, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1x32, .f32⟩
  | .hbm, ⟨16, _⟩ => ⟨S4x32, .f32⟩
  | .hbm, ⟨17, _⟩ => ⟨S128, .f32⟩
  | .hbm, ⟨18, _⟩ => ⟨S128x1, .f32⟩
  | .hbm, ⟨19, _⟩ => ⟨S1x8192, .i32⟩
  | .hbm, ⟨20, _⟩ => ⟨S8192x128, .f32⟩
  | .hbm, ⟨21, _⟩ => ⟨S8192x128, .f32⟩
  | .local _ .vmem, ⟨0, _⟩ => ⟨S1x256, .i32⟩
  | .local _ .vmem, ⟨1, _⟩ => ⟨S1x256, .i32⟩
  | .local _ .vmem, ⟨2, _⟩ => ⟨S128x1, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4x2048 : Shape := ⟨2, ![4, 2048]⟩
abbrev S32 : Shape := ⟨1, ![32]⟩
abbrev S_ : Shape := ⟨0, ![]⟩
abbrev S4x2048x1 : Shape := ⟨3, ![4, 2048, 1]⟩
abbrev S1x1x32 : Shape := ⟨3, ![1, 1, 32]⟩
abbrev S4x2048x32 : Shape := ⟨3, ![4, 2048, 32]⟩
abbrev S4x2048x64 : Shape := ⟨3, ![4, 2048, 64]⟩
abbrev S8192x64 : Shape := ⟨2, ![8192, 64]⟩
abbrev S8192x128 : Shape := ⟨2, ![8192, 128]⟩

abbrev nBuf : Space → Nat
  | .hbm => 28
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S4x2048, .f32⟩
  | .hbm, ⟨16, _⟩ => ⟨S4x2048x1, .f32⟩
  | .hbm, ⟨17, _⟩ => ⟨S1x1x32, .f32⟩
  | .hbm, ⟨18, _⟩ => ⟨S4x2048x32, .f32⟩
  | .hbm, ⟨19, _⟩ => ⟨S4x2048x32, .f32⟩
  | .hbm, ⟨20, _⟩ => ⟨S4x2048x32, .f32⟩
  | .hbm, ⟨21, _⟩ => ⟨S4x2048x64, .f32⟩
  | .hbm, ⟨22, _⟩ => ⟨S4x2048x64, .f32⟩
  | .hbm, ⟨23, _⟩ => ⟨S8192x64, .f32⟩
  | .hbm, ⟨24, _⟩ => ⟨S4x2048x64, .f32⟩
  | .hbm, ⟨25, _⟩ => ⟨S8192x64, .f32⟩
  | .hbm, ⟨26, _⟩ => ⟨S8192x128, .f32⟩
  | .hbm, ⟨27, _⟩ => ⟨S8192x128, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Kernel8.lean ====
abbrev S4x2048x448 : Shape := ⟨3, ![4, 2048, 448]⟩
abbrev S4x2048x1664 : Shape := ⟨3, ![4, 2048, 1664]⟩
abbrev S4x2048x64 : Shape := ⟨3, ![4, 2048, 64]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x1664 : Shape := ⟨2, ![1, 1664]⟩
abbrev S1x512 : Shape := ⟨2, ![1, 512]⟩
abbrev S1x64x512 : Shape := ⟨3, ![1, 64, 512]⟩
abbrev S_ : Shape := ⟨0, ![]⟩
abbrev S4x2048x512 : Shape := ⟨3, ![4, 2048, 512]⟩
abbrev S8192x512 : Shape := ⟨2, ![8192, 512]⟩
abbrev S256x768 : Shape := ⟨2, ![256, 768]⟩
abbrev S256x4x192 : Shape := ⟨3, ![256, 4, 192]⟩
abbrev S256x4x128 : Shape := ⟨3, ![256, 4, 128]⟩
abbrev S256x512 : Shape := ⟨2, ![256, 512]⟩
abbrev S256x4x64 : Shape := ⟨3, ![256, 4, 64]⟩
abbrev S64x512 : Shape := ⟨2, ![64, 512]⟩
abbrev S128x512 : Shape := ⟨2, ![128, 512]⟩
abbrev S128x1024 : Shape := ⟨2, ![128, 1024]⟩
abbrev S8192x1664 : Shape := ⟨2, ![8192, 1664]⟩
abbrev S4x2048x128 : Shape := ⟨3, ![4, 2048, 128]⟩
abbrev S8192x128 : Shape := ⟨2, ![8192, 128]⟩
abbrev S8192x1024 : Shape := ⟨2, ![8192, 1024]⟩
abbrev S256x1664 : Shape := ⟨2, ![256, 1664]⟩
abbrev S8x1664 : Shape := ⟨2, ![8, 1664]⟩
abbrev S256x128 : Shape := ⟨2, ![256, 128]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 52
  | .vmem => 42
  | .smem => 0
  | _ => 0

abbrev bufTy : (tb : Table) → Fin (tcTables nBuf tb) → BufTy
  | .hbm, ⟨0, _⟩ => ⟨S4x2048x448, .f32⟩
  | .hbm, ⟨1, _⟩ => ⟨S4x2048x1664, .f32⟩
  | .hbm, ⟨2, _⟩ => ⟨S4x2048x64, .f32⟩
  | .hbm, ⟨3, _⟩ => ⟨S4x2048x64, .f32⟩
  | .hbm, ⟨4, _⟩ => ⟨S1x256, .f32⟩
  | .hbm, ⟨5, _⟩ => ⟨S1x256x768, .f32⟩
  | .hbm, ⟨6, _⟩ => ⟨S1x128, .f32⟩
  | .hbm, ⟨7, _⟩ => ⟨S1x128x1024, .f32⟩
  | .hbm, ⟨8, _⟩ => ⟨S1x1664, .f32⟩
  | .hbm, ⟨9, _⟩ => ⟨S1x512, .f32⟩
  | .hbm, ⟨10, _⟩ => ⟨S1x64x512, .f32⟩
  | .hbm, ⟨11, _⟩ => ⟨S1x512, .f32⟩
  | .hbm, ⟨12, _⟩ => ⟨S1x64x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S4x2048x64, .f32⟩
  | .hbm, ⟨17, _⟩ => ⟨S4x2048x512, .f32⟩
  | .hbm, ⟨18, _⟩ => ⟨S8192x512, .f32⟩
  | .hbm, ⟨19, _⟩ => ⟨S256x768, .f32⟩
  | .hbm, ⟨20, _⟩ => ⟨S256x4x192, .f32⟩
  | .hbm, ⟨21, _⟩ => ⟨S256x4x128, .f32⟩
  | .hbm, ⟨22, _⟩ => ⟨S256x512, .f32⟩
  | .hbm, ⟨23, _⟩ => ⟨S256x4x64, .f32⟩
  | .hbm, ⟨24, _⟩ => ⟨S_, .f32⟩
  | .hbm, ⟨25, _⟩ => ⟨S256x4x64, .f32⟩
  | .hbm, ⟨26, _⟩ => ⟨S256x4x128, .f32⟩
  | .hbm, ⟨27, _⟩ => ⟨S256x512, .f32⟩
  | .hbm, ⟨28, _⟩ => ⟨S64x512, .f32⟩
  | .hbm, ⟨29, _⟩ => ⟨S_, .f32⟩
  | .hbm, ⟨30, _⟩ => ⟨S64x512, .f32⟩
  | .hbm, ⟨31, _⟩ => ⟨S128x512, .f32⟩
  | .hbm, ⟨32, _⟩ => ⟨S_, .f32⟩
  | .hbm, ⟨33, _⟩ => ⟨S64x512, .f32⟩
  | .hbm, ⟨34, _⟩ => ⟨S64x512, .f32⟩
  | .hbm, ⟨35, _⟩ => ⟨S128x512, .f32⟩
  | .hbm, ⟨36, _⟩ => ⟨S128x1024, .f32⟩
  | .hbm, ⟨37, _⟩ => ⟨S8192x1664, .f32⟩
  | .hbm, ⟨38, _⟩ => ⟨S4x2048x128, .f32⟩
  | .hbm, ⟨39, _⟩ => ⟨S8192x128, .f32⟩
  | .hbm, ⟨40, _⟩ => ⟨S4x2048x128, .f32⟩
  | .hbm, ⟨41, _⟩ => ⟨S8192x128, .f32⟩
  | .hbm, ⟨42, _⟩ => ⟨S8192x512, .bf16⟩
  | .hbm, ⟨43, _⟩ => ⟨S8192x512, .bf16⟩
  | .hbm, ⟨44, _⟩ => ⟨S8192x1024, .bf16⟩
  | .hbm, ⟨45, _⟩ => ⟨S8192x128, .bf16⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .local _ .vmem, ⟨0, _⟩ => ⟨S256x512, .f32⟩
  | .local _ .vmem, ⟨1, _⟩ => ⟨S256x512, .f32⟩
  | .local _ .vmem, ⟨2, _⟩ => ⟨S256x1664, .f32⟩
  | .local _ .vmem, ⟨3, _⟩ => ⟨S256x1664, .f32⟩
  | .local _ .vmem, ⟨4, _⟩ => ⟨S8x1664, .f32⟩
  | .local _ .vmem, ⟨5, _⟩ => ⟨S8x1664, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x256, .f32⟩
  | .local _ .vmem, ⟨11, _⟩ => ⟨S256x512, .f32⟩
  | .local _ .vmem, ⟨12, _⟩ => ⟨S256x512, .f32⟩
  | .local _ .vmem, ⟨13, _⟩ => ⟨S1x128, .f32⟩
  | .local _ .vmem, ⟨14, _⟩ => ⟨S128x1024, .f32⟩
  | .local _ .vmem, ⟨15, _⟩ => ⟨S1x1664, .f32⟩
  | .local _ .vmem, ⟨16, _⟩ => ⟨S1x512, .f32⟩
  | .local _ .vmem, ⟨17, _⟩ => ⟨S128x512, .f32⟩
  | .local _ .vmem, ⟨18, _⟩ => ⟨S1x512, .f32⟩
  | .local _ .vmem, ⟨19, _⟩ => ⟨S128x512, .f32⟩
  | .local _ .vmem, ⟨20, _⟩ => ⟨S1x512, .f32⟩
  | .local _ .vmem, ⟨21, _⟩ => ⟨S1x512, .f32⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x1024, .bf16⟩
  | .local _ .vmem, ⟨27, _⟩ => ⟨S256x1024, .bf16⟩
  | .local _ .vmem, ⟨28, _⟩ => ⟨S256x128, .bf16⟩
  | .local _ .vmem, ⟨29, _⟩ => ⟨S256x128, .bf16⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x512, .f32⟩
  | .local _ .vmem, ⟨39, _⟩ => ⟨S256x512, .f32⟩
  | .local _ .vmem, ⟨40, _⟩ => ⟨S256x512, .f32⟩
  | .local _ .vmem, ⟨41, _⟩ => ⟨S256x512, .f32⟩
  | _, _ => ⟨S4x2048x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23_0 : Ref sig .tc := ⟨.hbm, 42, rfl⟩
abbrev main_v23_1 : Ref sig .tc := ⟨.hbm, 43, rfl⟩
abbrev main_v23_2 : Ref sig .tc := ⟨.hbm, 44, rfl⟩
abbrev main_v23_3 : Ref sig .tc := ⟨.hbm, 45, rfl⟩
abbrev main_v23_4 : Ref sig .tc := ⟨.hbm, 46, rfl⟩
abbrev main_v23_5 : Ref sig .tc := ⟨.hbm, 47, rfl⟩
abbrev main_v23_6 : Ref sig .tc := ⟨.hbm, 48, rfl⟩
abbrev main_v23_7 : Ref sig .tc := ⟨.hbm, 49, rfl⟩
abbrev main_v23_8 : Ref sig .tc := ⟨.hbm, 50, rfl⟩
abbrev main_v23_9 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_stg26_0 : Ref sig .tc := ⟨.vmem, 40, rfl⟩
abbrev cc0_stg26_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39
abbrev cc0_sem26_0 : DmaSem sig := 40
abbrev cc0_sem26_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1664 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]
-- ==== Reference8Ideal.lean ====
abbrev S4x2048x448 : Shape := ⟨3, ![4, 2048, 448]⟩
abbrev S4x2048x1664 : Shape := ⟨3, ![4, 2048, 1664]⟩
abbrev S4x2048x64 : Shape := ⟨3, ![4, 2048, 64]⟩
abbrev S1x256 : Shape := ⟨2, ![1, 256]⟩
abbrev S1x256x768 : Shape := ⟨3, ![1, 256, 768]⟩
abbrev S1x128 : Shape := ⟨2, ![1, 128]⟩
abbrev S1x128x1024 : Shape := ⟨3, ![1, 128, 1024]⟩
abbrev S1x1664 : Shape := ⟨2, ![1, 1664]⟩
abbrev S1x512 : Shape := ⟨2, ![1, 512]⟩
abbrev S1x64x512 : Shape := ⟨3, ![1, 64, 512]⟩
abbrev S4x2048x256 : Shape := ⟨3, ![4, 2048, 256]⟩
abbrev S4x2048x128 : Shape := ⟨3, ![4, 2048, 128]⟩
abbrev S256 : Shape := ⟨1, ![256]⟩
abbrev S_ : Shape := ⟨0, ![]⟩
abbrev S4x2048 : Shape := ⟨2, ![4, 2048]⟩
abbrev S4x2048x1 : Shape := ⟨3, ![4, 2048, 1]⟩
abbrev S1x1x256 : Shape := ⟨3, ![1, 1, 256]⟩
abbrev S256x768 : Shape := ⟨2, ![256, 768]⟩
abbrev S4x2048x768 : Shape := ⟨3, ![4, 2048, 768]⟩
abbrev S4x2048x4x192 : Shape := ⟨4, ![4, 2048, 4, 192]⟩
abbrev S4x2048x4x128 : Shape := ⟨4, ![4, 2048, 4, 128]⟩
abbrev S4x2048x4x64 : Shape := ⟨4, ![4, 2048, 4, 64]⟩
abbrev S128 : Shape := ⟨1, ![128]⟩
abbrev S1x1x128 : Shape := ⟨3, ![1, 1, 128]⟩
abbrev S128x1024 : Shape := ⟨2, ![128, 1024]⟩
abbrev S4x2048x1024 : Shape := ⟨3, ![4, 2048, 1024]⟩
abbrev S4x2048x1x64 : Shape := ⟨4, ![4, 2048, 1, 64]⟩
abbrev S4x2048x4x32 : Shape := ⟨4, ![4, 2048, 4, 32]⟩
abbrev S4x2048x32 : Shape := ⟨3, ![4, 2048, 32]⟩
abbrev S4x1x1664 : Shape := ⟨3, ![4, 1, 1664]⟩
abbrev S4x2047x1664 : Shape := ⟨3, ![4, 2047, 1664]⟩
abbrev S1664 : Shape := ⟨1, ![1664]⟩
abbrev S1x1x1664 : Shape := ⟨3, ![1, 1, 1664]⟩
abbrev S4x2048x512 : Shape := ⟨3, ![4, 2048, 512]⟩
abbrev S512 : Shape := ⟨1, ![512]⟩
abbrev S64x512 : Shape := ⟨2, ![64, 512]⟩
abbrev S1x1x512 : Shape := ⟨3, ![1, 1, 512]⟩
abbrev S4x2048x8x64 : Shape := ⟨4, ![4, 2048, 8, 64]⟩
abbrev S4x2048x8 : Shape := ⟨3, ![4, 2048, 8]⟩
abbrev S4x2048x8x1 : Shape := ⟨4, ![4, 2048, 8, 1]⟩
abbrev S8192x512 : Shape := ⟨2, ![8192, 512]⟩
abbrev S8192x1024 : Shape := ⟨2, ![8192, 1024]⟩
abbrev S8192x128 : Shape := ⟨2, ![8192, 128]⟩

abbrev nBuf : Space → Nat
  | .hbm => 184
  | .vmem => 0
  | .smem => 0
  | _ => 0

abbrev hbmTy0_0 (i : Nat) : BufTy := match i % 128 with
  | 0 => ⟨S4x2048x448, .f32⟩
  | 1 => ⟨S4x2048x1664, .f32⟩
  | 2 => ⟨S4x2048x64, .f32⟩
  | 3 => ⟨S4x2048x64, .f32⟩
  | 4 => ⟨S1x256, .f32⟩
  | 5 => ⟨S1x256x768, .f32⟩
  | 6 => ⟨S1x128, .f32⟩
  | 7 => ⟨S1x128x1024, .f32⟩
  | 8 => ⟨S1x1664, .f32⟩
  | 9 => ⟨S1x512, .f32⟩
  | 10 => ⟨S1x64x512, .f32⟩
  | 11 => ⟨S1x512, .f32⟩
  | 12 => ⟨S1x64x512, .f32⟩
  | 13 => ⟨S1x512, .f32⟩
  | 14 => ⟨S1x512, .f32⟩
  | 15 => ⟨S4x2048x256, .f32⟩
  | 16 => ⟨S4x2048x128, .f32⟩
  | 17 => ⟨S4x2048x64, .f32⟩
  | 18 => ⟨S256, .f32⟩
  | 19 => ⟨S4x2048x256, .f32⟩
  | 20 => ⟨S_, .f32⟩
  | 21 => ⟨S4x2048, .f32⟩
  | 22 => ⟨S4x2048x1, .f32⟩
  | 23 => ⟨S_, .f32⟩
  | 24 => ⟨S4x2048x1, .f32⟩
  | 25 => ⟨S4x2048x1, .f32⟩
  | 26 => ⟨S_, .f32⟩
  | 27 => ⟨S4x2048x1, .f32⟩
  | 28 => ⟨S4x2048x1, .f32⟩
  | 29 => ⟨S4x2048x1, .f32⟩
  | 30 => ⟨S4x2048x256, .f32⟩
  | 31 => ⟨S4x2048x256, .f32⟩
  | 32 => ⟨S1x1x256, .f32⟩
  | 33 => ⟨S4x2048x256, .f32⟩
  | 34 => ⟨S4x2048x256, .f32⟩
  | 35 => ⟨S256x768, .f32⟩
  | 36 => ⟨S4x2048x768, .f32⟩
  | 37 => ⟨S4x2048x4x192, .f32⟩
  | 38 => ⟨S4x2048x4x128, .f32⟩
  | 39 => ⟨S4x2048x4x64, .f32⟩
  | 40 => ⟨S128, .f32⟩
  | 41 => ⟨S4x2048x128, .f32⟩
  | 42 => ⟨S_, .f32⟩
  | 43 => ⟨S4x2048, .f32⟩
  | 44 => ⟨S4x2048x1, .f32⟩
  | 45 => ⟨S_, .f32⟩
  | 46 => ⟨S4x2048x1, .f32⟩
  | 47 => ⟨S4x2048x1, .f32⟩
  | 48 => ⟨S_, .f32⟩
  | 49 => ⟨S4x2048x1, .f32⟩
  | 50 => ⟨S4x2048x1, .f32⟩
  | 51 => ⟨S4x2048x1, .f32⟩
  | 52 => ⟨S4x2048x128, .f32⟩
  | 53 => ⟨S4x2048x128, .f32⟩
  | 54 => ⟨S1x1x128, .f32⟩
  | 55 => ⟨S4x2048x128, .f32⟩
  | 56 => ⟨S4x2048x128, .f32⟩
  | 57 => ⟨S128x1024, .f32⟩
  | 58 => ⟨S4x2048x1024, .f32⟩
  | 59 => ⟨S4x2048x1x64, .f32⟩
  | 60 => ⟨S4x2048x1x64, .f32⟩
  | 61 => ⟨S4x2048x4x32, .f32⟩
  | 62 => ⟨S4x2048x4x32, .f32⟩
  | 63 => ⟨S4x2048x4x32, .f32⟩
  | 64 => ⟨S4x2048x4x64, .f32⟩
  | 65 => ⟨S4x2048x4x64, .f32⟩
  | 66 => ⟨S4x2048x4x64, .f32⟩
  | 67 => ⟨S4x2048x4x64, .f32⟩
  | 68 => ⟨S4x2048x4x64, .f32⟩
  | 69 => ⟨S4x2048x4x64, .f32⟩
  | 70 => ⟨S4x2048x32, .f32⟩
  | 71 => ⟨S4x2048x32, .f32⟩
  | 72 => ⟨S4x2048x32, .f32⟩
  | 73 => ⟨S4x2048x64, .f32⟩
  | 74 => ⟨S4x2048x64, .f32⟩
  | 75 => ⟨S4x2048x64, .f32⟩
  | 76 => ⟨S4x2048x64, .f32⟩
  | 77 => ⟨S_, .f32⟩
  | 78 => ⟨S4x1x1664, .f32⟩
  | 79 => ⟨S4x2047x1664, .f32⟩
  | 80 => ⟨S4x2048x1664, .f32⟩
  | 81 => ⟨S4x2048x1664, .f32⟩
  | 82 => ⟨S1664, .f32⟩
  | 83 => ⟨S1x1x1664, .f32⟩
  | 84 => ⟨S4x2048x1664, .f32⟩
  | 85 => ⟨S4x2048x1664, .f32⟩
  | 86 => ⟨S4x2048x1664, .f32⟩
  | 87 => ⟨S4x2048x512, .f32⟩
  | 88 => ⟨S4x2048x512, .f32⟩
  | 89 => ⟨S4x2048x512, .f32⟩
  | 90 => ⟨S4x2048x64, .f32⟩
  | 91 => ⟨S4x2048x64, .f32⟩
  | 92 => ⟨S512, .f32⟩
  | 93 => ⟨S4x2048x64, .f32⟩
  | 94 => ⟨S64x512, .f32⟩
  | 95 => ⟨S4x2048x512, .f32⟩
  | 96 => ⟨S1x1x512, .f32⟩
  | 97 => ⟨S4x2048x512, .f32⟩
  | 98 => ⟨S4x2048x512, .f32⟩
  | 99 => ⟨S4x2048x512, .f32⟩
  | 100 => ⟨S_, .f32⟩
  | 101 => ⟨S4x2048x512, .f32⟩
  | 102 => ⟨S4x2048x512, .f32⟩
  | 103 => ⟨S4x2048x512, .f32⟩
  | 104 => ⟨S4x2048x512, .f32⟩
  | 105 => ⟨S4x2048x512, .i1⟩
  | 106 => ⟨S4x2048x512, .f32⟩
  | 107 => ⟨S4x2048x512, .f32⟩
  | 108 => ⟨S4x2048x512, .f32⟩
  | 109 => ⟨S4x2048x512, .f32⟩
  | 110 => ⟨S4x2048x512, .f32⟩
  | 111 => ⟨S4x2048x512, .f32⟩
  | 112 => ⟨S4x2048x512, .f32⟩
  | 113 => ⟨S4x2048x512, .f32⟩
  | 114 => ⟨S4x2048x512, .f32⟩
  | 115 => ⟨S_, .f32⟩
  | 116 => ⟨S4x2048x512, .f32⟩
  | 117 => ⟨S4x2048x512, .f32⟩
  | 118 => ⟨S4x2048x512, .f32⟩
  | 119 => ⟨S4x2048x512, .f32⟩
  | 120 => ⟨S4x2048x512, .f32⟩
  | 121 => ⟨S512, .f32⟩
  | 122 => ⟨S64x512, .f32⟩
  | 123 => ⟨S4x2048x512, .f32⟩
  | 124 => ⟨S1x1x512, .f32⟩
  | 125 => ⟨S4x2048x512, .f32⟩
  | 126 => ⟨S4x2048x512, .f32⟩
  | 127 => ⟨S4x2048x512, .f32⟩
  | _ => ⟨S4x2048x448, .f32⟩

abbrev hbmTy0_1 (i : Nat) : BufTy := match i % 128 with
  | 0 => ⟨S4x2048x512, .f32⟩
  | 1 => ⟨S_, .f32⟩
  | 2 => ⟨S4x2048x512, .f32⟩
  | 3 => ⟨S4x2048x512, .f32⟩
  | 4 => ⟨S_, .f32⟩
  | 5 => ⟨S4x2048x512, .f32⟩
  | 6 => ⟨S4x2048x512, .f32⟩
  | 7 => ⟨S512, .f32⟩
  | 8 => ⟨S1x1x512, .f32⟩
  | 9 => ⟨S4x2048x512, .f32⟩
  | 10 => ⟨S4x2048x512, .f32⟩
  | 11 => ⟨S4x2048x8x64, .f32⟩
  | 12 => ⟨S4x2048x8x64, .f32⟩
  | 13 => ⟨S_, .f32⟩
  | 14 => ⟨S4x2048x8, .f32⟩
  | 15 => ⟨S4x2048x8x1, .f32⟩
  | 16 => ⟨S4x2048x8x1, .f32⟩
  | 17 => ⟨S_, .f32⟩
  | 18 => ⟨S4x2048x8x1, .f32⟩
  | 19 => ⟨S4x2048x8x1, .f32⟩
  | 20 => ⟨S4x2048x8x64, .f32⟩
  | 21 => ⟨S4x2048x8x64, .f32⟩
  | 22 => ⟨S4x2048x512, .f32⟩
  | 23 => ⟨S_, .f32⟩
  | 24 => ⟨S4x2048x512, .f32⟩
  | 25 => ⟨S4x2048x512, .f32⟩
  | 26 => ⟨S512, .f32⟩
  | 27 => ⟨S1x1x512, .f32⟩
  | 28 => ⟨S4x2048x512, .f32⟩
  | 29 => ⟨S4x2048x512, .f32⟩
  | 30 => ⟨S_, .f32⟩
  | 31 => ⟨S4x2048x512, .f32⟩
  | 32 => ⟨S4x2048x512, .f32⟩
  | 33 => ⟨S4x2048x512, .f32⟩
  | 34 => ⟨S_, .f32⟩
  | 35 => ⟨S4x2048x4x64, .f32⟩
  | 36 => ⟨S4x2048x4x128, .f32⟩
  | 37 => ⟨S_, .f32⟩
  | 38 => ⟨S4x2048x64, .f32⟩
  | 39 => ⟨S4x2048x128, .f32⟩
  | 40 => ⟨S8192x512, .f32⟩
  | 41 => ⟨S8192x512, .bf16⟩
  | 42 => ⟨S8192x512, .f32⟩
  | 43 => ⟨S8192x512, .bf16⟩
  | 44 => ⟨S8192x1024, .f32⟩
  | 45 => ⟨S8192x1024, .bf16⟩
  | 46 => ⟨S8192x128, .f32⟩
  | 47 => ⟨S8192x128, .bf16⟩
  | 48 => ⟨S8192x512, .f32⟩
  | 49 => ⟨S8192x512, .f32⟩
  | 50 => ⟨S8192x512, .f32⟩
  | 51 => ⟨S8192x512, .f32⟩
  | 52 => ⟨S4x2048x512, .f32⟩
  | 53 => ⟨S8192x512, .f32⟩
  | 54 => ⟨S4x2048x512, .f32⟩
  | 55 => ⟨S8192x512, .f32⟩
  | _ => ⟨S4x2048x448, .f32⟩

abbrev hbmTy (i : Nat) : BufTy := match i / 128 with
  | 0 => hbmTy0_0 i
  | 1 => hbmTy0_1 i
  | _ => ⟨S4x2048x448, .f32⟩

abbrev bufTy : (tb : Table) → Fin (tcTables nBuf tb) → BufTy
  | .hbm, ⟨i, _⟩ => hbmTy i
  | _, _ => ⟨S4x2048x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call0_cst : Ref sig .tc := ⟨.hbm, 100, rfl⟩
abbrev main_call0_v0 : Ref sig .tc := ⟨.hbm, 101, rfl⟩
abbrev main_call0_v1 : Ref sig .tc := ⟨.hbm, 102, rfl⟩
abbrev main_call0_v2 : Ref sig .tc := ⟨.hbm, 103, rfl⟩
abbrev main_call0_v3 : Ref sig .tc := ⟨.hbm, 104, rfl⟩
abbrev main_call0_v4 : Ref sig .tc := ⟨.hbm, 105, rfl⟩
abbrev main_call0_v5 : Ref sig .tc := ⟨.hbm, 106, rfl⟩
abbrev main_call0_v6 : Ref sig .tc := ⟨.hbm, 107, rfl⟩
abbrev main_call0_v7 : Ref sig .tc := ⟨.hbm, 108, rfl⟩
abbrev main_call0_v8 : Ref sig .tc := ⟨.hbm, 109, rfl⟩
abbrev main_call0_v9 : Ref sig .tc := ⟨.hbm, 110, rfl⟩
abbrev main_call0_v10 : Ref sig .tc := ⟨.hbm, 111, rfl⟩
abbrev main_call0_v11 : Ref sig .tc := ⟨.hbm, 112, rfl⟩
abbrev main_v78 : Ref sig .tc := ⟨.hbm, 113, rfl⟩
abbrev main_v79 : Ref sig .tc := ⟨.hbm, 114, rfl⟩
abbrev main_cst_6 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_7 : Ref sig .tc := ⟨.hbm, 129, rfl⟩
abbrev main_v93 : Ref sig .tc := ⟨.hbm, 130, rfl⟩
abbrev main_v94 : Ref sig .tc := ⟨.hbm, 131, rfl⟩
abbrev main_cst_8 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_call1_v0 : Ref sig .tc := ⟨.hbm, 140, rfl⟩
abbrev main_call1_cst : Ref sig .tc := ⟨.hbm, 141, rfl⟩
abbrev main_call1_v1 : Ref sig .tc := ⟨.hbm, 142, rfl⟩
abbrev main_call1_v2 : Ref sig .tc := ⟨.hbm, 143, rfl⟩
abbrev main_v102 : Ref sig .tc := ⟨.hbm, 144, rfl⟩
abbrev main_cst_9 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_10 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_11 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_12 : Ref sig .tc := ⟨.hbm, 162, rfl⟩
abbrev main_v117 : Ref sig .tc := ⟨.hbm, 163, rfl⟩
abbrev main_v118 : Ref sig .tc := ⟨.hbm, 164, rfl⟩
abbrev main_cst_13 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩

abbrev nD : Nat := 1
abbrev τ : Topo := Topo.v7x

variable {F : FTy → Type} [FloatOps F]
-- ==== Proof.NormBlocks.lean ====
/- What one grid step of the pre-norm's backward kernel computes, at `F := Ideal`, beside the reference's own
   intermediate arrays: the gradient of the projection's output, its product with the weights. -/
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.NormBwd

open Cert.KernelIdeal Cert.KernelIdeal.Gen Cert.ReferenceIdeal.Read

variable (m : (ℓ : Loc nD τ sig) → Buf (Elt Ideal) ℓ) (c : Dev nD)

/-- The block every window shows at grid step `t`: the rows' windows block `t`, the halo the eight rows after it. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![min ((t.val + 1) * 32) 1023, 0] ∧ win0_7.index t = ![t.val, 0] ∧ win0_8.index t = ![t.val, 0]
    ∧ win0_9.index t = ![t.val, 0] ∧ win0_10.index t = ![t.val, 0] ∧ win0_11.index t = ![0, 0] :=
  (by decide +kernel : ∀ t : Fin grid0.N, _)

/-! The arguments, at their own types. -/

abbrev x : FVec Ideal Cert.ReferenceIdeal.S4x2048x1024 .f32 := m ((c : Thread nD τ).loc main_arg0)
abbrev g : FVec Ideal Cert.ReferenceIdeal.S1x1024 .f32 := m ((c : Thread nD τ).loc main_arg1)
abbrev w : FVec Ideal Cert.ReferenceIdeal.S1x1024x3136 .f32 := m ((c : Thread nD τ).loc main_arg2)
abbrev dMla : FVec Ideal Cert.ReferenceIdeal.S4x2048x448 .f32 := m ((c : Thread nD τ).loc main_arg3)
abbrev dRw : FVec Ideal Cert.ReferenceIdeal.S4x2048x1664 .f32 := m ((c : Thread nD τ).loc main_arg4)
abbrev dSh : FVec Ideal Cert.ReferenceIdeal.S4x2048x1664 .f32 := m ((c : Thread nD τ).loc main_arg5)
abbrev dZ : FVec Ideal Cert.ReferenceIdeal.S4x2048x1024 .f32 := m ((c : Thread nD τ).loc main_arg6)
abbrev dRes : FVec Ideal Cert.ReferenceIdeal.S4x2048x1024 .f32 := m ((c : Thread nD τ).loc main_arg7)

/-- The reference's gradient of the projection's output. -/
abbrev dp : FVec Ideal Cert.ReferenceIdeal.S4x2048x3136 .f32 :=
  val_main_v30 (F := Ideal) (dMla m c) (dRw m c) (dSh m c) (dZ m c)

theorem dp_mla (b : Fin 4) (s : Fin 2048) (j : Fin 3136) (h : j.val < 448) :
    dp m c (ix3 b s j) = dMla m c (ix3 b s ⟨j.val, h⟩) := by
  pointwise [val_main_v30]
  simp only [h, ↓reduceDIte]

theorem dp_rw (b : Fin 4) (s : Fin 2048) (j : Fin 3136) (j' : Fin 1664) (h : j.val = 448 + j'.val) :
    dp m c (ix3 b s j) = dRw m c (ix3 b s j')
      + if h : s.val + 1 < 2048 then dSh m c (ix3 b ⟨s.val + 1, h⟩ j') else 0 := by
  have hb : 448 + j'.val < 3136 := by have := j'.isLt; omega
  have hj : j = ⟨448 + j'.val, hb⟩ := Fin.ext h
  subst hj
  pointwise [val_main_v30, val_main_v29, val_main_v28, val_main_v27, val_main_cst_5]
  have e : 448 + j'.val - 448 = j'.val := by omega
  have h0 : ¬ 448 + j'.val < 448 := by omega
  have h1 := j'.isLt
  have hs : (s.val < 2047) = (s.val + 1 < 2048) := by simp; omega
  simp only [e, h0, h1, hs, ↓reduceDIte, and_true, Nat.add_comm 1]

theorem dp_z (b : Fin 4) (s : Fin 2048) (j : Fin 3136) (j' : Fin 1024) (h : j.val = 2112 + j'.val) :
    dp m c (ix3 b s j) = dZ m c (ix3 b s j') := by
  pointwise [val_main_v30]
  rw [dif_neg (by omega), dif_neg (by omega)]
  blk_ext

/-! The arrays the call is given, in reference.py's own arrays; row `n` is token `s` of sequence `b`. -/

section arrays
variable (n : Fin 8192) (b : Fin 4) (s : Fin 2048) (hn : n.val = 2048 * b.val + s.val)
include hn

theorem array0_at (j : Fin 1024) :
    V m c main_v9 (ix2 n j) = x m c (ix3 b s j) := by
  entry_read; pointwise; blk_point []

theorem array3_at (j : Fin 512) :
    V m c main_v8 (ix2 n j) = if h : j.val < 448 then dp m c (ix3 b s ⟨j.val, by omega⟩) else 0 := by
  by_cases h : j.val < 448
  · rw [dif_pos h, dp_mla m c b s _ h]
    entry_read; pointwise; simp only [h, ↓reduceDIte]; blk_point []
  · rw [dif_neg h]
    entry_read; pointwise; simp only [h, ↓reduceDIte]

theorem array4_at (j : Fin 1664) :
    V m c main_v10 (ix2 n j) = dRw m c (ix3 b s j) := by
  entry_read; pointwise; blk_point []

theorem array5_at (j : Fin 1664) :
    V m c main_v11 (ix2 n j) = dSh m c (ix3 b s j) := by
  entry_read; pointwise; blk_point []

theorem array7_at (j : Fin 1024) :
    V m c main_v12 (ix2 n j) = dZ m c (ix3 b s j) := by
  entry_read; pointwise; blk_point []

theorem array8_at (j : Fin 1024) :
    V m c main_v13 (ix2 n j) = dRes m c (ix3 b s j) := by
  entry_read; pointwise; blk_point []

end arrays

/-- The weights with the step's 64 zero columns after the attention's. -/
theorem array2_at (e : Fin 1024) (j : Fin 3200) :
    V m c main_v5 (ix2 e j) = if h : j.val < 448 then w m c (ix3 0 e ⟨j.val, by omega⟩)
      else if h : j.val < 512 then 0 else w m c (ix3 0 e ⟨j.val - 64, by omega⟩) := by
  unfold V
  simp only [StableHlo.after_cons, StableHlo.after_nil]
  after_results_simp
  dsimp only [Matrix.cons_val]
  after_results_simp
  pointwise
  blk_point [] <;> (exfalso; omega)

/-- Row `r` of step `t` in the row-major arrays. -/
abbrev row (t : Fin cfg0.N) (r : Fin 256) : Fin 8192 := ⟨256 * t.val + r.val, by have := lt_of_lt_of_eq t.isLt N_0; omega⟩

/-- The kernel's test for the last step of a sequence. -/
theorem lastTile_eq : ∀ t : Fin cfg0.N,
    Scalar.cmpi .eq (Scalar.select
      (Scalar.andi
        (Scalar.xori
          (Scalar.cmpi .slt (Scalar.remsi (Scalar.addi (BitVec.ofNat 32 (grid0.coords t 0).val) 1#32)
            (Scalar.select (Scalar.cmpi .eq 8#32 0#32) 1#32 8#32)) 0#32)
          (Scalar.cmpi .slt (Scalar.select (Scalar.cmpi .eq 8#32 0#32) 1#32 8#32) 0#32))
        (Scalar.cmpi .ne (Scalar.remsi (Scalar.addi (BitVec.ofNat 32 (grid0.coords t 0).val) 1#32)
          (Scalar.select (Scalar.cmpi .eq 8#32 0#32) 1#32 8#32)) 0#32))
      (Scalar.addi (Scalar.remsi (Scalar.addi (BitVec.ofNat 32 (grid0.coords t 0).val) 1#32)
        (Scalar.select (Scalar.cmpi .eq 8#32 0#32) 1#32 8#32)) (Scalar.select (Scalar.cmpi .eq 8#32 0#32) 1#32 8#32))
      (Scalar.remsi (Scalar.addi (BitVec.ofNat 32 (grid0.coords t 0).val) 1#32)
        (Scalar.select (Scalar.cmpi .eq 8#32 0#32) 1#32 8#32))) 0#32 = if (t.val + 1) % 8 = 0 then 1#1 else 0#1 :=
  (by decide +kernel : ∀ t : Fin grid0.N, _)

/-- The kernel's test for the last row of a step. -/
theorem lastRow_eq : ∀ r : Fin 256, IntOp.cmpi .eq (BitVec.ofNat 32 r.val) 255#32 = if r.val = 255 then 1#1 else 0#1 := by
  decide +kernel

/-! One grid step's blocks: row `r` of step `t` is token `s` of sequence `b`. -/

section blocks
variable (t : Fin cfg0.N) (r : Fin 256) (b : Fin 4) (s : Fin 2048) (hn : 256 * t.val + r.val = 2048 * b.val + s.val)

include hn

theorem block0_at (j : Fin 1024) : iblk m c 0 t (ix2 r j) = x m c (ix3 b s j) :=
  Eq.trans (by blk_ext [iblk, idx t]) (array0_at m c (row t r) b s hn j)

theorem block3_at (j : Fin 512) :
    iblk m c 3 t (ix2 r j) = if h : j.val < 448 then dp m c (ix3 b s ⟨j.val, by omega⟩) else 0 :=
  Eq.trans (by blk_ext [iblk, idx t]) (array3_at m c (row t r) b s hn j)

theorem block4_at (j : Fin 1664) : iblk m c 4 t (ix2 r j) = dRw m c (ix3 b s j) :=
  Eq.trans (by blk_ext [iblk, idx t]) (array4_at m c (row t r) b s hn j)

theorem block5_at (j : Fin 1664) : iblk m c 5 t (ix2 r j) = dSh m c (ix3 b s j) :=
  Eq.trans (by blk_ext [iblk, idx t]) (array5_at m c (row t r) b s hn j)

/-- The halo's first row is the row after the step's last one. -/
theorem block6_at (hr : r.val = 255) (hs : s.val + 1 < 2048) (j : Fin 1664) :
    iblk m c 6 t (ix2 0 j) = dSh m c (ix3 b ⟨s.val + 1, hs⟩ j) :=
  Eq.trans (by blk_ext [iblk, idx t]) (array5_at m c ⟨256 * (t.val + 1), by omega⟩ b ⟨s.val + 1, hs⟩ (by dsimp only; omega) j)

theorem block7_at (j : Fin 1024) : iblk m c 7 t (ix2 r j) = dZ m c (ix3 b s j) :=
  Eq.trans (by blk_ext [iblk, idx t]) (array7_at m c (row t r) b s hn j)

theorem block8_at (j : Fin 1024) : iblk m c 8 t (ix2 r j) = dRes m c (ix3 b s j) :=
  Eq.trans (by blk_ext [iblk, idx t]) (array8_at m c (row t r) b s hn j)

theorem pay4_at (j : Fin 512) :
    k0_pay4 (F := Ideal) (iblk m c 3 t) (ix2 r j) = if h : j.val < 448 then dp m c (ix3 b s ⟨j.val, by omega⟩) else 0 := by
  rw [← block3_at m c t r b s hn j]
  pointwise [k0_pay4]

theorem pay6_at (j : Fin 1024) : k0_pay6 (F := Ideal) (iblk m c 7 t) (ix2 r j) = dZ m c (ix3 b s j) := by
  rw [← block7_at m c t r b s hn j]
  pointwise [k0_pay6]

/-- The token shift undone: each row takes the shifted gradient of the row after it, the last token of a sequence none. -/
theorem pay5_at (h : Vec Ideal S1x1664 .f32) (hh : ∀ j, h (ix2 0 j) = iblk m c 6 t (ix2 0 j)) (j : Fin 1664)
    (j' : Fin 3136) (hj : j'.val = 448 + j.val) :
    k0_pay5 (F := Ideal) (grid0.coords t) (iblk m c 4 t) (iblk m c 5 t) h (ix2 r j) = dp m c (ix3 b s j') := by
  rw [dp_rw m c b s j' j hj, ← block4_at m c t r b s hn j]
  pointwise [k0_pay5, lastTile_eq t, lastRow_eq]
  have s1 : ∀ a b : EReal, Scalar.select 1#1 a b = a := fun _ _ => rfl
  have s0 : ∀ a b : EReal, Scalar.select 0#1 a b = b := fun _ _ => rfl
  congr 1
  by_cases hr : r.val = 255
  · rw [if_pos hr, s1, hh]
    by_cases ht : (t.val + 1) % 8 = 0
    · rw [if_pos ht, s1, dif_neg (by omega)]
    · rw [if_neg ht, s0, dif_pos (by omega)]
      exact block6_at m c t r b s hn hr (by omega) j
  · rw [if_neg hr, s0, dif_pos (by omega)]
    exact (block5_at m c t ⟨(r.val + 256 - 255) % 256, by omega⟩ b ⟨s.val + 1, by omega⟩ (by dsimp only; omega) j)

omit hn in
/-- The product with the weights, cut in the kernel's three column ranges. -/
theorem du_at (v31 : FVec Ideal S256x512 .bf16) (v32 : FVec Ideal S256x1664 .bf16) (v35 : FVec Ideal S256x1024 .bf16)
    (v39 : FVec Ideal S1024x512 .bf16) (v42 : FVec Ideal S1024x1664 .bf16) (v46 : FVec Ideal S1024x1024 .bf16) (e : Fin 1024)
    (h31 : ∀ j : Fin 512, v31 (ix2 r j) = if h : j.val < 448 then dp m c (ix3 b s ⟨j.val, by omega⟩) else 0)
    (h32 : ∀ (j : Fin 1664) (j' : Fin 3136), j'.val = 448 + j.val → v32 (ix2 r j) = dp m c (ix3 b s j'))
    (h35 : ∀ (j : Fin 1024) (j' : Fin 3136), j'.val = 2112 + j.val → v35 (ix2 r j) = dp m c (ix3 b s j'))
    (h39 : ∀ j : Fin 512, v39 (ix2 e j) = if h : j.val < 448 then w m c (ix3 0 e ⟨j.val, by omega⟩) else 0)
    (h42 : ∀ (j : Fin 1664) (j' : Fin 3136), j'.val = 448 + j.val → v42 (ix2 e j) = w m c (ix3 0 e j'))
    (h46 : ∀ (j : Fin 1024) (j' : Fin 3136), j'.val = 2112 + j.val → v46 (ix2 e j) = w m c (ix3 0 e j')) :
    k0_pay7 (F := Ideal) v31 v32 v35 v39 v42 v46 (ix2 r e)
      = val_main_v31 (F := Ideal) (w m c) (dMla m c) (dRw m c) (dSh m c) (dZ m c) (ix3 b s e) := by
  have hR : val_main_v31 (F := Ideal) (w m c) (dMla m c) (dRw m c) (dSh m c) (dZ m c) (ix3 b s e)
      = ∑ k : Fin 3136, dp m c (ix3 b s k) * w m c (ix3 0 e k) := by
    rw [val_main_v31_apply]
    refine Finset.sum_congr rfl fun k _ => ?_
    pointwise [val_main_v17]
    blk_point []
    rfl
  rw [hR]
  pointwise [k0_pay7]
  rw [show (∑ k : Fin 3136, dp m c (ix3 b s k) * w m c (ix3 0 e k))
      = ∑ k : Fin ((448 + 1664) + 1024), dp m c (ix3 b s (k.cast rfl)) * w m c (ix3 0 e (k.cast rfl)) from rfl,
    Fin.sum_univ_add, Fin.sum_univ_add]
  refine congrArg₂ (· + ·) (congrArg₂ (· + ·) ?_ ?_) ?_
  · rw [show (∑ k : Fin 512, v31 (ix2 r k) * v39 (ix2 e k))
      = ∑ k : Fin (448 + 64), v31 (ix2 r (k.cast rfl)) * v39 (ix2 e (k.cast rfl)) from rfl, Fin.sum_univ_add]
    rw [Finset.sum_eq_zero (s := Finset.univ (α := Fin 64)), add_zero]
    · refine Finset.sum_congr rfl fun k _ => ?_
      rw [h31, h39]
      simp only [Fin.val_cast, Fin.val_castAdd, k.isLt, ↓reduceDIte]
      rfl
    · intro k _
      rw [h39, dif_neg (by simp), mul_zero]
  · exact Finset.sum_congr rfl fun k _ => by rw [h32 k ⟨448 + k.val, by omega⟩ rfl, h42 k ⟨448 + k.val, by omega⟩ rfl]; rfl
  · exact Finset.sum_congr rfl fun k _ => by rw [h35 k ⟨2112 + k.val, by omega⟩ rfl, h46 k ⟨2112 + k.val, by omega⟩ rfl]; rfl

end blocks

end Cert.KernelIdeal.NormBwd

end
-- ==== Proof.Consts.lean ====
/- The floating-point constants the two programs name, as numbers. -/
module

public import Idealize.ShloMosaic.PureOps.Ideal.Laws

@[expose] public section

open Idealize.ShloMosaic

namespace Consts

theorem inf_eq : Ideal.ofBits .f32 0x7F800000#32 = (⊤ : EReal) := by
  simp [Ideal.ofBits, Ideal.ieee]

theorem ninf_eq : Ideal.ofBits .f32 0xFF800000#32 = (⊥ : EReal) := by
  simp [Ideal.ofBits, Ideal.ieee]

theorem zero_eq : Ideal.ofBits .f32 0x00000000#32 = (0 : EReal) := by
  simp [Ideal.ofBits, Ideal.ieee]

theorem one_eq : Ideal.ofBits .f32 0x3F800000#32 = ((1 : ℝ) : EReal) := by
  simp [Ideal.ofBits, Ideal.ieee, -EReal.coe_mul]; norm_num

theorem n_eq : Ideal.ofBits .f32 0x44800000#32 = ((1024 : ℝ) : EReal) := by
  simp [Ideal.ofBits, Ideal.ieee, -EReal.coe_mul]; norm_num

theorem half_eq : Ideal.ofBits .f32 0xBF000000#32 = ((-1 / 2 : ℝ) : EReal) := by
  simp [Ideal.ofBits, Ideal.ieee, -EReal.coe_mul]; norm_num

theorem eps_eq : ∃ ε : ℝ, 0 < ε ∧ Ideal.ofBits .f32 0x358637BD#32 = (ε : EReal) :=
  ⟨8796093 * 2 ^ (-43 : ℤ), by positivity, by simp [Ideal.ofBits, Ideal.ieee, -EReal.coe_mul]⟩

/-- The scale of the attention's scores is a real number. -/
theorem scale_eq : ∃ s : ℝ, Ideal.ofBits .f32 0x3D93CD3A#32 = (s : EReal) :=
  ⟨9686330 * 2 ^ (-27 : ℤ), by simp [Ideal.ofBits, Ideal.ieee, -EReal.coe_mul]⟩

end Consts
-- ==== Proof.RmsRow.lean ====
/- The gradient of the root mean square norm along one row, over the extended reals: the closed form with the mean of
   `d · x̂` against the chain rule through `rsqrt`, at rows and cotangents that are finite. -/
module

public import Idealize.ShloMosaic.Lib.Pointwise

@[expose] public section

noncomputable section

namespace RmsRow

open Idealize.ShloMosaic

/-- A real number among the extended reals. -/
def IsReal (a : EReal) : Prop := ∃ r : ℝ, a = (r : EReal)

theorem IsReal.mul {a b : EReal} (ha : IsReal a) (hb : IsReal b) : IsReal (a * b) := by
  obtain ⟨r, rfl⟩ := ha; obtain ⟨q, rfl⟩ := hb; exact ⟨r * q, (EReal.coe_mul r q).symm⟩

theorem IsReal.add {a b : EReal} (ha : IsReal a) (hb : IsReal b) : IsReal (a + b) := by
  obtain ⟨r, rfl⟩ := ha; obtain ⟨q, rfl⟩ := hb; exact ⟨r + q, (EReal.coe_add r q).symm⟩

theorem IsReal.zero : IsReal 0 := ⟨0, rfl⟩

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) {f : ι → EReal} (h : ∀ i, IsReal (f i)) : IsReal (∑ i ∈ s, f i) := by
  choose g hg using h
  exact ⟨∑ i ∈ s, g i, by rw [← coe_sum]; exact Finset.sum_congr rfl fun i _ => hg i⟩

theorem isReal_of_abs_lt {a : EReal} (h : max a (-a) < ⊤) : IsReal a := by
  induction a with
  | bot => simp at h
  | top => simp at h
  | coe r => exact ⟨r, rfl⟩

theorem div_real (a : ℝ) {n : ℝ} (hn : n ≠ 0) : Ideal.div (a : EReal) (n : EReal) = ((a / n : ℝ) : EReal) := by
  rw [Ideal.div_coe hn, ← EReal.coe_mul]; congr 1; ring

theorem rsqrt_real {v : ℝ} (hv : 0 < v) : Ideal.rsqrt (v : EReal) = (((Real.sqrt v)⁻¹ : ℝ) : EReal) := by
  show (if v < 0 then (⊥ : EReal) else if v = 0 then ⊤ else _) = _
  rw [if_neg (not_lt.mpr hv.le), if_neg hv.ne']

/-- The row's gradient: `(d − x̂ · mean (d · x̂)) · rs` beside the chain rule's three terms. -/
theorem grad_eq {k : ℕ} (x d : Fin k → EReal) (hx : ∀ j, IsReal (x j)) (hd : ∀ j, IsReal (d j)) (res N E H : EReal)
    {n ε : ℝ} (hN : N = (n : EReal)) (hn : 0 < n) (hE : E = (ε : EReal)) (hε : 0 < ε) (hH : H = ((-1 / 2 : ℝ) : EReal))
    (rs C : EReal) (hrs : rs = Ideal.rsqrt (Ideal.div (∑ j, x j * x j) N + E))
    (hC : C = Ideal.div ((∑ j, x j * d j) * (H * Ideal.div rs (Ideal.div (∑ j, x j * x j) N + E))) N) (e : Fin k) :
    (d e - x e * rs * Ideal.div (∑ j, d j * (x j * rs)) N) * rs + res = res + d e * rs + x e * C + C * x e := by
  choose X hX using hx
  choose D hD using hd
  have hv0 : 0 < (∑ j, X j * X j) / n + ε :=
    add_pos_of_nonneg_of_pos (div_nonneg (Finset.sum_nonneg fun j _ => mul_self_nonneg _) hn.le) hε
  have hms : Ideal.div (∑ j, x j * x j) N + E = (((∑ j, X j * X j) / n + ε : ℝ) : EReal) := by
    simp only [hX, hN, hE, ← EReal.coe_mul]
    rw [coe_sum, div_real _ hn.ne', ← EReal.coe_add]
  generalize (∑ j, X j * X j) / n + ε = v at hv0 hms
  have hr := rsqrt_real hv0
  rw [← hms, ← hrs] at hr
  have hq := Real.sq_sqrt hv0.le
  have hqp := Real.sqrt_pos.mpr hv0
  generalize Real.sqrt v = q at hq hqp hr
  have hS : (∑ j, d j * (x j * rs)) = (((∑ j, X j * D j) * q⁻¹ : ℝ) : EReal) := by
    simp only [hX, hD, hr, ← EReal.coe_mul]
    rw [coe_sum, Finset.sum_mul]
    exact congrArg _ (Finset.sum_congr rfl fun j _ => by ring)
  have hT : (∑ j, x j * d j) = ((∑ j, X j * D j : ℝ) : EReal) := by
    simp only [hX, hD, ← EReal.coe_mul]
    rw [coe_sum]
  generalize (∑ j, X j * D j) = S at hS hT
  rw [hC, hT, hS, hms, hr, hH, hN, hX, hD, div_real _ hn.ne', div_real _ hv0.ne']
  simp only [← EReal.coe_mul]
  rw [div_real _ hn.ne']
  simp only [← EReal.coe_mul, ← EReal.coe_sub]
  rw [add_comm _ res, add_assoc, add_assoc, ← EReal.coe_add, ← EReal.coe_add]
  congr 2
  subst hq
  field_simp
  ring

end RmsRow

end
-- ==== Proof.Sum01.lean ====
/- A host sum of a rank-3 array over its first two axes, read at an index. -/
module

public import Idealize.ShloMosaic.Lib.Pointwise

@[expose] public section

noncomputable section

open Idealize.ShloMosaic

theorem hostReduceAdd_axes01 {n0 n1 n2 : ℕ} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  unfold Ideal.hostReduceAdd
  refine congrArg (init + ·) ?_
  have hd : ∀ (a : Fin n0) (b : Fin n1) (k : Fin n2), h.drop (ix3 a b k) = (ix1 k : (⟨1, ![n2]⟩ : Shape).Idx) := by
    intro a b k
    funext q
    obtain rfl : q = 0 := Fin.fin_one_eq_zero q
    rfl
  rw [Finset.sum_filter, sum_idx3]
  refine Finset.sum_congr rfl fun a _ => Finset.sum_congr rfl fun b _ => ?_
  simp only [hd]
  rw [Finset.sum_eq_single j]
  · simp
  · intro k _ hk
    rw [if_neg]
    intro e
    exact hk (congrFun e 0)
  · simp

end
-- ==== Proof.NormRow.lean ====
/- The pre-norm's gradient of one row, at `F := Ideal`: the kernel's form and the reference's agree where the row and
   the gradient it takes are finite. -/
module

public import proofs.«01_k».proof.Proof.NormBlocks
public import proofs.«01_k».proof.Proof.Consts
public import proofs.«01_k».proof.Proof.RmsRow
public import proofs.«01_k».proof.Proof.Sum01
public import proofs.«01_k».proof.Proof.Gen.Pre_finite

@[expose] public section

set_option maxRecDepth 16384

noncomputable section

open Idealize.ShloMosaic Idealize.ShloMosaic.TcCoe Idealize.SL.Sem

namespace Cert.KernelIdeal.NormBwd

open Cert.KernelIdeal Cert.KernelIdeal.Gen Cert.ReferenceIdeal.Read

variable (m : (ℓ : Loc nD τ sig) → Buf (Elt Ideal) ℓ) (c : Dev nD)

open RmsRow Consts

/-- The arguments the gradient of the rows needs finite. -/
structure Finite : Prop where
  x : ∀ i, IsReal (x m c i)
  g : ∀ i, IsReal (g m c i)
  w : ∀ i, IsReal (w m c i)
  dMla : ∀ i, IsReal (dMla m c i)
  dRw : ∀ i, IsReal (dRw m c i)
  dSh : ∀ i, IsReal (dSh m c i)
  dZ : ∀ i, IsReal (dZ m c i)

/-- The gradient of the projection's input: `dp · wᵀ`. -/
abbrev du : FVec Ideal Cert.ReferenceIdeal.S4x2048x1024 .f32 :=
  val_main_v31 (F := Ideal) (w m c) (dMla m c) (dRw m c) (dSh m c) (dZ m c)

/-- The row's reciprocal root mean square. -/
def rs (b : Fin 4) (s : Fin 2048) : EReal :=
  Ideal.rsqrt (Ideal.div (∑ j : Fin 1024, x m c (ix3 b s j) * x m c (ix3 b s j)) (Ideal.ofBits .f32 0x44800000#32)
    + Ideal.ofBits .f32 0x358637BD#32)

theorem ref_gx_at (n : Fin 8192) (b : Fin 4) (s : Fin 2048) (hn : n.val = 2048 * b.val + s.val) (e : Fin 1024)
    (C : EReal) (hC : C = Ideal.div ((∑ j : Fin 1024, x m c (ix3 b s j) * (du m c (ix3 b s j) * g m c (ix2 0 j)))
      * (Ideal.ofBits .f32 0xBF000000#32 * Ideal.div (rs m c b s)
        (Ideal.div (∑ j : Fin 1024, x m c (ix3 b s j) * x m c (ix3 b s j)) (Ideal.ofBits .f32 0x44800000#32)
          + Ideal.ofBits .f32 0x358637BD#32))) (Ideal.ofBits .f32 0x44800000#32)) :
    val_main_v58 (F := Ideal) (x m c) (g m c) (w m c) (dMla m c) (dRw m c) (dSh m c) (dZ m c) (dRes m c) (ix2 n e)
      = dRes m c (ix3 b s e) + du m c (ix3 b s e) * g m c (ix2 0 e) * rs m c b s + x m c (ix3 b s e) * C
        + C * x m c (ix3 b s e) := by
  have hb : n.val / 2048 = b.val := by omega
  have hs : n.val % 2048 = s.val := by omega
  rw [hC]
  pointwise [val_main_v58, val_main_v52, val_main_v51, val_main_v50, val_main_v49, val_main_v48, val_main_v47,
    val_main_v46, val_main_v45, val_main_v44, val_main_v43, val_main_v42, val_main_v41, val_main_v40, val_main_v39,
    val_main_v38, val_main_v36, val_main_v35, val_main_v14, val_main_v0, val_main_v11, val_main_v10, val_main_v9,
    val_main_v8, val_main_v7, val_main_v6, val_main_v5, val_main_v4, val_main_v3, val_main_v2, val_main_v1,
    val_main_cst, val_main_cst_0, val_main_cst_1, val_main_cst_2, val_main_cst_8, val_main_cst_9, val_main_cst_10,
    hb, hs, rs, zero_add, Fin.sum_univ_one]
  try rfl

theorem dp_isReal (h : Finite m c) (i) : IsReal (dp m c i) := by
  idx_vars i
  by_cases h0 : i2.val < 448
  · rw [dp_mla m c i0 i1 i2 h0]; exact h.dMla _
  by_cases h1 : i2.val < 2112
  · rw [dp_rw m c i0 i1 i2 ⟨i2.val - 448, by omega⟩ (by dsimp only; omega)]
    refine (h.dRw _).add ?_
    split
    · exact h.dSh _
    · exact IsReal.zero
  · rw [dp_z m c i0 i1 i2 ⟨i2.val - 2112, by omega⟩ (by dsimp only; omega)]; exact h.dZ _

theorem du_isReal (h : Finite m c) (i) : IsReal (du m c i) := by
  rw [show du m c i = _ from val_main_v31_apply ..]
  refine IsReal.sum _ fun k => (dp_isReal m c h _).mul ?_
  rw [val_main_v17_apply]
  exact h.w _

/-- One row of the kernel's input gradient is the reference's. -/
theorem gx_at (h : Finite m c) (v31 : FVec Ideal S256x512 .bf16) (v32 : FVec Ideal S256x1664 .bf16)
    (v35 : FVec Ideal S256x1024 .bf16) (v39 : FVec Ideal S1024x512 .bf16) (v42 : FVec Ideal S1024x1664 .bf16)
    (v46 : FVec Ideal S1024x1024 .bf16) (x0 : FVec Ideal S256x1024 .f32) (x1 : FVec Ideal S1x1024 .f32)
    (x8 : FVec Ideal S256x1024 .f32) (r : Fin 256) (n : Fin 8192) (b : Fin 4) (s : Fin 2048)
    (hn : n.val = 2048 * b.val + s.val) (e : Fin 1024)
    (hdu : ∀ j, k0_pay7 (F := Ideal) v31 v32 v35 v39 v42 v46 (ix2 r j) = du m c (ix3 b s j))
    (h0 : ∀ j, x0 (ix2 r j) = x m c (ix3 b s j)) (h1 : ∀ j, x1 (ix2 0 j) = g m c (ix2 0 j))
    (h8 : x8 (ix2 r e) = dRes m c (ix3 b s e)) :
    k0_pay1 (F := Ideal) (k0_pay8 x0) (k0_pay9 x0) (k0_pay10 v31 v32 v35 v39 v42 v46 x1)
        (k0_pay11 v31 v32 v35 v39 v42 v46 x0 x1) x8 (ix2 r e)
      = val_main_v58 (F := Ideal) (x m c) (g m c) (w m c) (dMla m c) (dRw m c) (dSh m c) (dZ m c) (dRes m c) (ix2 n e) := by
  rw [ref_gx_at m c n b s hn e _ rfl]
  pointwise [k0_pay1, k0_pay8, k0_pay9, k0_pay10, k0_pay11]
  simp only [hdu, h0, h1, h8]
  obtain ⟨ε, hε, he⟩ := eps_eq
  exact grad_eq (fun j => x m c (ix3 b s j)) (fun j => du m c (ix3 b s j) * g m c (ix2 0 j)) (fun j => h.x _)
    (fun j => (du_isReal m c h _).mul (h.g _)) _ _ _ _ n_eq (by norm_num) he hε half_eq _ _ rfl rfl e

/-- One step's part of the scale's gradient, and the reference's whole one. -/
theorem pay2_at (v49 v61 : FVec Ideal S256x1024 .f32) (e : Fin 1024) :
    k0_pay2 (F := Ideal) v49 v61 (ix2 0 e) = ∑ r : Fin 256, v49 (ix2 r e) * v61 (ix2 r e) := by
  pointwise [k0_pay2]

theorem pay9_at (x0 : FVec Ideal S256x1024 .f32) (r : Fin 256) (b : Fin 4) (s : Fin 2048)
    (h0 : ∀ j, x0 (ix2 r j) = x m c (ix3 b s j)) (e : Fin 1024) :
    k0_pay9 (F := Ideal) x0 (ix2 r e) = x m c (ix3 b s e) * rs m c b s := by
  pointwise [k0_pay9, k0_pay8]
  simp only [h0, rs]

theorem ref_dg_at (e : Fin 1024) :
    val_main_v53 (F := Ideal) (x m c) (w m c) (dMla m c) (dRw m c) (dSh m c) (dZ m c) (ix2 0 e)
      = ∑ b : Fin 4, ∑ s : Fin 2048, du m c (ix3 b s e) * (x m c (ix3 b s e) * rs m c b s) := by
  have h33 : ∀ e : Fin 1024, val_main_v33 (F := Ideal) (x m c) (w m c) (dMla m c) (dRw m c) (dSh m c) (dZ m c) (ix1 e)
      = ∑ b : Fin 4, ∑ s : Fin 2048, du m c (ix3 b s e) * (x m c (ix3 b s e) * rs m c b s) := by
    intro e
    refine (hostReduceAdd_axes01 _ _ _ e).trans ?_
    rw [show val_main_cst_6 (F := Ideal) _ = 0 from Ideal.ofBits_zero_f32, zero_add]
    refine Finset.sum_congr rfl fun b _ => Finset.sum_congr rfl fun s _ => ?_
    pointwise [val_main_v32, val_main_v13, val_main_v12, val_main_v8, val_main_v7, val_main_v6, val_main_v5,
      val_main_v4, val_main_v3, val_main_v2, val_main_v1, val_main_cst, val_main_cst_0, val_main_cst_1, rs, zero_add]
    exact mul_comm _ _
  have h37 : val_main_v37 (F := Ideal) (x m c) (w m c) (dMla m c) (dRw m c) (dSh m c) (dZ m c) (ix1 e)
      = val_main_v33 (F := Ideal) (x m c) (w m c) (dMla m c) (dRw m c) (dSh m c) (dZ m c) (ix1 e) := by
    refine (hostReduceAdd_axes01 _ _ _ e).trans ?_
    rw [show val_main_cst_7 (F := Ideal) _ = 0 from Ideal.ofBits_zero_f32, zero_add, Fin.sum_univ_one, Fin.sum_univ_one]
    pointwise [val_main_v34]
  rw [← h33, ← h37]
  pointwise [val_main_v53]

end Cert.KernelIdeal.NormBwd

end
-- ==== Proof.NormValue.lean ====
/- The pre-norm's backward kernel at `F := Ideal`: its three result arrays are the reference's. -/
module

public import proofs.«01_k».proof.Proof.NormRow

@[expose] public section

set_option maxRecDepth 16384

noncomputable section

open Idealize.ShloMosaic Idealize.ShloMosaic.TcCoe Idealize.SL.Sem
open Idealize.ShloMosaic.Pipeline (Dat)

namespace Cert.KernelIdeal.NormBwd

open Cert.KernelIdeal Cert.KernelIdeal.Gen Cert.ReferenceIdeal.Read

variable (m : (ℓ : Loc nD τ sig) → Buf (Elt Ideal) ℓ) (c : Dev nD)

/-- The weights' block is the whole array. -/
theorem block2_at (t : Fin cfg0.N) (e : Fin 1024) (j : Fin 3200) :
    iblk m c 2 t (ix2 e j) = if h : j.val < 448 then w m c (ix3 0 e ⟨j.val, by omega⟩)
      else if h : j.val < 512 then 0 else w m c (ix3 0 e ⟨j.val - 64, by omega⟩) :=
  Eq.trans (by blk_ext [iblk, idx t]) (array2_at m c e j)

theorem block1_at (t : Fin cfg0.N) (j : Fin 1024) : iblk m c 1 t (ix2 0 j) = g m c (ix2 0 j) := by
  blk_ext [iblk, V, idx t]

/-- The step's product with the weights is the reference's row. -/
theorem step_du (t : Fin cfg0.N) (r : Fin 256) (b : Fin 4) (s : Fin 2048)
    (hn : 256 * t.val + r.val = 2048 * b.val + s.val) (h6 : FVec Ideal S1x1664 .f32) (v39 : FVec Ideal S1024x512 .bf16)
    (v42 : FVec Ideal S1024x1664 .bf16) (v46 : FVec Ideal S1024x1024 .bf16)
    (hh : ∀ j, h6 (ix2 0 j) = iblk m c 6 t (ix2 0 j))
    (h39 : ∀ (e : Fin 1024) (j : Fin 512), v39 (ix2 e j) = iblk m c 2 t (ix2 e ⟨0 + j.val, by omega⟩))
    (h42 : ∀ (e : Fin 1024) (j : Fin 1664), v42 (ix2 e j) = iblk m c 2 t (ix2 e ⟨512 + j.val, by omega⟩))
    (h46 : ∀ (e : Fin 1024) (j : Fin 1024), v46 (ix2 e j) = iblk m c 2 t (ix2 e ⟨2176 + j.val, by omega⟩)) (e : Fin 1024) :
    k0_pay7 (F := Ideal) (k0_pay4 (iblk m c 3 t)) (k0_pay5 (grid0.coords t) (iblk m c 4 t) (iblk m c 5 t) h6)
      (k0_pay6 (iblk m c 7 t)) v39 v42 v46 (ix2 r e) = du m c (ix3 b s e) := by
  refine du_at m c t r b s _ _ _ _ _ _ e (pay4_at m c t r b s hn) (pay5_at m c t r b s hn h6 hh) (fun j j' hj => ?_)
    (fun j => ?_) (fun j j' hj => ?_) (fun j j' hj => ?_)
  · rw [pay6_at m c t r b s hn, dp_z m c b s j' j hj]
  · rw [h39, block2_at]
    by_cases hj : j.val < 448
    · rw [dif_pos hj, dif_pos (by dsimp only; omega)]
      blk_ext
    · rw [dif_neg hj, dif_neg (by dsimp only; omega), dif_pos (by dsimp only; omega)]
  · rw [h42, block2_at, dif_neg (by dsimp only; omega), dif_neg (by dsimp only; omega)]
    congr 2
    exact Fin.ext (by dsimp only; omega)
  · rw [h46, block2_at, dif_neg (by dsimp only; omega), dif_neg (by dsimp only; omega)]
    congr 2
    exact Fin.ext (by dsimp only; omega)

theorem final9 (h : Finite m c) : (dats m 0 c).arrAt 9 (cfgs 0).N
    = val_main_v58 (F := Ideal) (x m c) (g m c) (w m c) (dMla m c) (dRw m c) (dSh m c) (dZ m c) (dRes m c) := by
  refine (dats m 0 c).arrAt_eq_of_covers 9 _ (by decide +kernel) fun t _ y => ?_
  blk_simp
  rw [after0_9]
  have hN : t.val < 32 := lt_of_lt_of_eq t.isLt N_0
  idx_vars y
  have hb : (256 * t.val + y0.val) / 2048 < 4 := by omega
  refine Eq.trans ?_ (congrArg (val_main_v58 (F := Ideal) (x m c) (g m c) (w m c) (dMla m c) (dRw m c) (dSh m c) (dZ m c) (dRes m c))
    (show ix2 (row t y0) y1 = _ by blk_ext [idx t]))
  by_cases ht : t.val % 32 = 0
  · rw [outsAt0_A m c t ht (by omega)]
    frame_out
    refine gx_at m c h _ _ _ _ _ _ _ _ _ y0 (row t y0) ⟨(256 * t.val + y0.val) / 2048, hb⟩ ⟨(256 * t.val + y0.val) % 2048, by omega⟩
      (by dsimp only; omega) y1 (step_du m c t y0 _ _ (by dsimp only; omega) _ _ _ _ ?_ ?_ ?_ ?_) (block0_at m c t y0 _ _ (by dsimp only; omega))
      (block1_at m c t) (block8_at m c t y0 _ _ (by dsimp only; omega) y1)
    all_goals (intros; pointwise)
  · rw [outsAt0_B m c t ht (by omega)]
    frame_out
    refine gx_at m c h _ _ _ _ _ _ _ _ _ y0 (row t y0) ⟨(256 * t.val + y0.val) / 2048, hb⟩ ⟨(256 * t.val + y0.val) % 2048, by omega⟩
      (by dsimp only; omega) y1 (step_du m c t y0 _ _ (by dsimp only; omega) _ _ _ _ ?_ ?_ ?_ ?_) (block0_at m c t y0 _ _ (by dsimp only; omega))
      (block1_at m c t) (block8_at m c t y0 _ _ (by dsimp only; omega) y1)
    all_goals (intros; pointwise)

/-- The packed gradient's columns: the attention's 448, 64 zeros, the others. -/
abbrev packed (b : Fin 4) (s : Fin 2048) (j : Fin 3200) : EReal :=
  if h : j.val < 448 then dp m c (ix3 b s ⟨j.val, by omega⟩)
    else if h : j.val < 512 then 0 else dp m c (ix3 b s ⟨j.val - 64, by omega⟩)

/-- The reference's packed gradient, 64 zero columns after the attention's. -/
theorem ref_dpb_at (n : Fin 8192) (b : Fin 4) (s : Fin 2048) (hn : n.val = 2048 * b.val + s.val) (j : Fin 3200) :
    val_main_v60 (F := Ideal) (dMla m c) (dRw m c) (dSh m c) (dZ m c) (ix2 n j)
      = packed m c b s j := by
  have hb : n.val / 2048 = b.val := by omega
  have hs : n.val % 2048 = s.val := by omega
  pointwise [val_main_v60, val_main_v59, val_main_v57, val_main_v56, val_main_v55, val_main_v54, val_main_cst_11, hb, hs]
  split
  · rfl
  · split
    · rw [dif_pos (by omega)]
    · rw [dif_neg (by omega)]
      blk_ext

theorem piece6_at (t : Fin cfg0.N) (y0 : Fin 256) (y1 : Fin 3200) (b : Fin 4) (s : Fin 2048)
    (hn : 256 * t.val + y0.val = 2048 * b.val + s.val) (z : S256x1024.Idx) (h0 : y0.val = 0 + (z 0 : ℕ))
    (h1 : y1.val = 2176 + (z 1 : ℕ)) : k0_pay6 (F := Ideal) (iblk m c 7 t) z = packed m c b s y1 := by
  idx_vars z
  obtain rfl : y0 = z0 := Fin.ext (by simpa using h0)
  have h1 : y1.val = 2176 + z1.val := h1
  rw [packed, dif_neg (by omega), dif_neg (by omega), pay6_at m c t y0 b s hn, dp_z m c b s _ z1 (by dsimp only; omega)]

theorem piece5_at (t : Fin cfg0.N) (y0 : Fin 256) (y1 : Fin 3200) (b : Fin 4) (s : Fin 2048)
    (hn : 256 * t.val + y0.val = 2048 * b.val + s.val) (h6 : FVec Ideal S1x1664 .f32)
    (hh : ∀ j, h6 (ix2 0 j) = iblk m c 6 t (ix2 0 j)) (z : S256x1664.Idx) (h0 : y0.val = 0 + (z 0 : ℕ))
    (h1 : y1.val = 512 + (z 1 : ℕ)) :
    k0_pay5 (F := Ideal) (grid0.coords t) (iblk m c 4 t) (iblk m c 5 t) h6 z = packed m c b s y1 := by
  idx_vars z
  obtain rfl : y0 = z0 := Fin.ext (by simpa using h0)
  have h1 : y1.val = 512 + z1.val := h1
  rw [packed, dif_neg (by omega), dif_neg (by omega)]
  exact pay5_at m c t y0 b s hn h6 hh z1 _ (by dsimp only; omega)

theorem piece4_at (t : Fin cfg0.N) (y0 : Fin 256) (y1 : Fin 3200) (b : Fin 4) (s : Fin 2048)
    (hn : 256 * t.val + y0.val = 2048 * b.val + s.val) (z : S256x512.Idx) (h0 : y0.val = 0 + (z 0 : ℕ))
    (h1 : y1.val = 0 + (z 1 : ℕ)) : k0_pay4 (F := Ideal) (iblk m c 3 t) z = packed m c b s y1 := by
  idx_vars z
  obtain rfl : y0 = z0 := Fin.ext (by simpa using h0)
  have h1 : y1.val = 0 + z1.val := h1
  refine (pay4_at m c t y0 b s hn z1).trans ?_
  by_cases h : z1.val < 448
  · rw [packed, dif_pos h, dif_pos (by omega)]
    blk_ext
  · have hz : z1.val < 512 := z1.isLt
    rw [packed, dif_neg h, dif_neg (by omega), dif_pos (by omega)]

theorem final10 : (dats m 0 c).arrAt 10 (cfgs 0).N
    = val_main_v60 (F := Ideal) (dMla m c) (dRw m c) (dSh m c) (dZ m c) := by
  refine (dats m 0 c).arrAt_eq_of_covers 10 _ (by decide +kernel) fun t _ y => ?_
  blk_simp
  rw [after0_10]
  have hN : t.val < 32 := lt_of_lt_of_eq t.isLt N_0
  idx_vars y
  have hb : (256 * t.val + y0.val) / 2048 < 4 := by omega
  refine Eq.trans ?_ (congrArg (val_main_v60 (F := Ideal) (dMla m c) (dRw m c) (dSh m c) (dZ m c))
    (show ix2 (row t y0) y1 = _ by blk_ext [idx t]))
  rw [ref_dpb_at m c (row t y0) ⟨(256 * t.val + y0.val) / 2048, hb⟩ ⟨(256 * t.val + y0.val) % 2048, by omega⟩ (by dsimp only; omega)]
  by_cases ht : t.val % 32 = 0
  on_goal 1 => rw [outsAt0_A m c t ht (by omega)]
  on_goal 2 => rw [outsAt0_B m c t ht (by omega)]
  all_goals
    frame_out
    refine View.canon_eq_of_allAt _ _ _ ?_ (View.allAt_cons_unit _ _ _ _ _ ?_ (View.allAt_cons_unit _ _ _ _ _ ?_
      (View.allAt_cons_unit _ _ _ _ _ ?_ (View.allAt_nil _ _))))
    · by_cases h1 : y1.val < 512
      · refine ⟨_, List.mem_cons_of_mem _ (List.mem_cons_of_mem _ List.mem_cons_self), ?_⟩
        mem_blk
        exact (Fin.forall_fin_two.mpr ⟨⟨Nat.zero_le _, y0.isLt⟩, ⟨Nat.zero_le _, h1⟩⟩)
      · by_cases h2 : y1.val < 2176
        · refine ⟨_, List.mem_cons_of_mem _ List.mem_cons_self, ?_⟩
          mem_blk
          exact (Fin.forall_fin_two.mpr ⟨⟨Nat.zero_le _, y0.isLt⟩, ⟨not_lt.mp h1, h2⟩⟩)
        · refine ⟨_, List.mem_cons_self, ?_⟩
          mem_blk
          exact (Fin.forall_fin_two.mpr ⟨⟨Nat.zero_le _, y0.isLt⟩, ⟨not_lt.mp h2, y1.isLt⟩⟩)
    · intro z hz
      exact piece6_at m c t y0 y1 _ _ (by dsimp only; omega) z (hz 0) (hz 1)
    · intro z hz
      exact piece5_at m c t y0 y1 _ _ (by dsimp only; omega) _ (by intros; pointwise) z (hz 0) (hz 1)
    · intro z hz
      exact piece4_at m c t y0 y1 _ _ (by dsimp only; omega) z (hz 0) (hz 1)

/-- The rows of the 32 tiles are the rows of the 4 sequences. -/
theorem sum_rows (f : Fin 4 → Fin 2048 → EReal) :
    ∑ q : Fin 32, ∑ r : Fin 256, f ⟨(256 * q.val + r.val) / 2048, by omega⟩ ⟨(256 * q.val + r.val) % 2048, by omega⟩
      = ∑ b : Fin 4, ∑ s : Fin 2048, f b s := by
  rw [← Fintype.sum_prod_type', ← Fintype.sum_prod_type']
  refine Fintype.sum_equiv (finProdFinEquiv.trans ((finCongr (by rfl : 32 * 256 = 4 * 2048)).trans finProdFinEquiv.symm)) _ _ fun p => ?_
  obtain ⟨q, r⟩ := p
  congr 1 <;> apply Fin.ext <;> simp [finProdFinEquiv, Fin.divNat, Fin.modNat, add_comm]

theorem final11 : (dats m 0 c).arrAt 11 (cfgs 0).N
    = val_main_v53 (F := Ideal) (x m c) (w m c) (dMla m c) (dRw m c) (dSh m c) (dZ m c) := by
  refine (dats m 0 c).arrAt_eq_of_covers 11 _ (by decide +kernel) fun t hf y => ?_
  blk_simp
  rw [after0_11, Pipeline.eq_sum_fin_of_reset_step_apply_of_flush (fun n h => (outsAt0 m c n h).2.2) 32 (fun _ => 0) _
    (fun t h j => by rw [outsAt0_A m c t h (by have := lt_of_lt_of_eq t.isLt N_0; omega)]; frame_out; exact (zero_add _).symm)
    (fun t h j => by rw [outsAt0_B m c t h (by omega)]; frame_out; pointwise [k0_pay3])
    t ((flush0_11 t).mp hf) _, zero_add]
  have hN : t.val < 32 := lt_of_lt_of_eq t.isLt N_0
  have ht : t.val / 32 = 0 := by omega
  idx_vars y
  obtain rfl : y0 = 0 := Subsingleton.elim _ _
  refine Eq.trans ?_ (congrArg (val_main_v53 (F := Ideal) (x m c) (w m c) (dMla m c) (dRw m c) (dSh m c) (dZ m c))
    (show ix2 0 y1 = _ by blk_ext [idx t]))
  rw [ref_dg_at, ← sum_rows fun b s => du m c (ix3 b s y1) * (x m c (ix3 b s y1) * rs m c b s)]
  refine Finset.sum_congr (M := EReal) rfl fun q _ => (pay2_at _ _ y1).trans (Finset.sum_congr rfl fun r _ => ?_)
  have hq : 256 * (32 * (t.val / 32) + q.val) + r.val = 2048 * ((256 * q.val + r.val) / 2048) + (256 * q.val + r.val) % 2048 := by
    omega
  refine Ideal.mul_congr (step_du m c _ r _ _ hq _ _ _ _ ?_ ?_ ?_ ?_ y1) (pay9_at m c _ r _ _ (block0_at m c _ r _ _ hq) y1)
  all_goals (intros; pointwise)

end Cert.KernelIdeal.NormBwd

end
-- ==== Proof.NormClaim.lean ====
/- The pre-norm's backward kernel: the precondition read as finiteness, and the value claim. -/
module

public import proofs.«01_k».proof.Defs
public import proofs.«01_k».proof.Proof.NormValue
public import proofs.«01_k».proof.Proof.Gen.KernelIdeal.Value
public import proofs.«01_k».proof.Proof.Gen.ReferenceIdeal.Run
public import Idealize.ShloMosaic.Adequacy
public import Idealize.ShloMosaic.Init

@[expose] public section

set_option maxRecDepth 16384

noncomputable section

namespace Cert.KernelIdeal.NormBwd

open Idealize.ShloMosaic Idealize.SL.Sem Cert.KernelIdeal RmsRow Consts

/-- A comparison "the absolute value is below +∞" that holds everywhere says every entry is a real number. -/
theorem real_of_pre {s : Shape} (a : FVec Ideal s .f32) (b : FVec Ideal s .f32) (hb : ∀ i, b i = (⊤ : EReal))
    (h : cmpf .olt (Host.absf a) b = fun _ => 1#1) (i : s.Idx) : IsReal (a i) := by
  refine isReal_of_abs_lt ?_
  have hi := congrFun h i
  by_contra hn
  have hn' : ¬ (max (a i) (-a i) < b i) := by rwa [hb]
  change BitVec.ofBool (decide (max (a i) (-a i) < b i)) = 1#1 at hi
  rw [decide_eq_false hn'] at hi
  exact absurd hi (by decide)

theorem finite_of_pre (m : (ℓ : Loc nD τ sig) → Buf (Elt Ideal) ℓ) (c : Dev nD) (h : Cert.Pre_KernelIdeal_finite m) :
    Finite m c := by
  obtain ⟨h0, h1, h2, h3, h4, h5, h6⟩ := h c
  exact ⟨real_of_pre _ _ (fun _ => inf_eq) h0, real_of_pre _ _ (fun _ => inf_eq) h1, real_of_pre _ _ (fun _ => inf_eq) h2, real_of_pre _ _ (fun _ => inf_eq) h3,
    real_of_pre _ _ (fun _ => inf_eq) h4, real_of_pre _ _ (fun _ => inf_eq) h5, real_of_pre _ _ (fun _ => inf_eq) h6⟩

theorem algebraic : Cert.algebraic_KernelIdeal_ReferenceIdeal_pre_finite := by
  pair_intro
  · run_from Cert.KernelIdeal.Value.run_blocks m g
  · run_from Cert.ReferenceIdeal.Value.run m' g'
    all_goals obtain ⟨a0, a1, a2, a3, a4, a5, a6, a7⟩ := hagree c
    · refine (Cert.ReferenceIdeal.Read.val_main_v58_eq m' c).trans ?_
      rw [a0, a1, a2, a3, a4, a5, a6, a7]
      exact (final9 m c (finite_of_pre m c hpre)).symm
    · refine (Cert.ReferenceIdeal.Read.val_main_v60_eq _ _ _ _).trans ?_
      rw [a3, a4, a5, a6]
      exact (final10 m c).symm
    · refine (Cert.ReferenceIdeal.Read.val_main_v53_eq _ _ _ _ _ _).trans ?_
      rw [a3, a4, a5, a6]
      exact (final11 m c).symm

end Cert.KernelIdeal.NormBwd

end
-- ==== Proof.AttnModel.lean ====
module
public import proofs.«01_k».proof.Proof.Gen.Kernel2Ideal.Frame
@[expose] public section
noncomputable section

/-! The body of the attention's backward kernel as one uniform recursion over the blocks of queries and keys. -/

namespace Cert.Kernel2Ideal.Attn

open Idealize.ShloMosaic Idealize.SL Idealize.SL.Sem Cert.Kernel2Ideal.Gen

variable {F : FTy → Type} [FloatOps F]

/-- The operands of one run of the body: the staging buffers, whole, and the input blocks in them. -/
structure Ins (F : FTy → Type) where
  c : Dev nD
  i : grid0.Coords
  a2 : Memref sig .tc .vmem S1x2048x128 .bf16
  h2 : a2.IsWhole
  a3 : Memref sig .tc .vmem S1x2048x128 .bf16
  h3 : a3.IsWhole
  a4 : Memref sig .tc .vmem S1x2048x128 .bf16
  h4 : a4.IsWhole
  a5 : Memref sig .tc .vmem S1x2048x128 .bf16
  h5 : a5.IsWhole
  a6 : Memref sig .tc .vmem S1x2048x128 .bf16
  h6 : a6.IsWhole
  a7 : Memref sig .tc .vmem S1x2048x128 .f32
  h7 : a7.IsWhole
  a8 : Memref sig .tc .vmem S1x2048x128 .bf16
  h8 : a8.IsWhole
  a9 : Memref sig .tc .vmem S1x1x2048x128 .f32
  h9 : a9.IsWhole
  a10 : Memref sig .tc .vmem S1x2048x128 .f32
  h10 : a10.IsWhole
  a11 : Memref sig .tc .vmem S1x2048x128 .f32
  h11 : a11.IsWhole
  a12 : Memref sig .tc .vmem S1x2048x256 .f32
  h12 : a12.IsWhole
  a13 : Memref sig .tc .vmem S1x1x2048x128 .f32
  h13 : a13.IsWhole
  a14 : Memref sig .tc .vmem S2048x256 .f32
  h14 : a14.IsWhole
  a15 : Memref sig .tc .vmem S2048x1 .f32
  h15 : a15.IsWhole
  x0 : Vec F S1x2048x128 .bf16
  x1 : Vec F S1x2048x128 .bf16
  x2 : Vec F S1x2048x128 .bf16
  x3 : Vec F S1x2048x128 .bf16
  x4 : Vec F S1x2048x128 .bf16
  x5 : Vec F S1x2048x128 .f32
  x6 : Vec F S1x2048x128 .bf16
  x7 : Vec F S1x1x2048x128 .f32

/-- The run of the body at these operands. -/
abbrev Ins.run (I : Ins F) :=
  kernelRun0_A I.c I.i I.a2 I.h2 I.a3 I.h3 I.a4 I.h4 I.a5 I.h5 I.a6 I.h6 I.a7 I.h7 I.a8 I.h8 I.a9 I.h9 I.a10 I.h10 I.a11 I.h11
    I.a12 I.h12 I.a13 I.h13 I.a14 I.h14 I.a15 I.h15 I.x0 I.x1 I.x2 I.x3 I.x4 I.x5 I.x6 I.x7

theorem inb_rows (i : Fin 8) : ∀ a : Fin 3, ![0, 256 * i.val, 0] a + S1x256x128.size a ≤ S1x2048x128.size a := by
  revert i; decide
theorem inb_col (i : Fin 8) : ∀ a : Fin 4, ![0, 0, 256 * i.val, 0] a + S1x1x256x1.size a ≤ S1x1x2048x128.size a := by
  revert i; decide
theorem inb_scr (i : Fin 8) : ∀ a : Fin 2, ![256 * i.val, 0] a + S256x256.size a ≤ S2048x256.size a := by
  revert i; decide
theorem inb_del (i : Fin 8) : ∀ a : Fin 2, ![256 * i.val, 0] a + S256x1.size a ≤ S2048x1.size a := by
  revert i; decide

/-- The rows of the `i`-th block, of an operand's block, of the row sums, and of the two scratch buffers. -/
abbrev rows (i : Fin 8) : Rect S1x2048x128 := Rect.unit ![0, 256 * i.val, 0] S1x256x128.size (inb_rows i)
abbrev col (i : Fin 8) : Rect S1x1x2048x128 := Rect.unit ![0, 0, 256 * i.val, 0] S1x1x256x1.size (inb_col i)
abbrev scr (i : Fin 8) : Rect S2048x256 := Rect.unit ![256 * i.val, 0] S256x256.size (inb_scr i)
abbrev del (i : Fin 8) : Rect S2048x1 := Rect.unit ![256 * i.val, 0] S256x1.size (inb_del i)

/-- A block of rows of a staged operand. -/
def ld {e : EltTy} (a : Memref sig .tc .vmem S1x2048x128 e) (h : a.IsWhole) (x : Vec F S1x2048x128 e) (i : Fin 8) :
    Vec F S1x256x128 e :=
  View.readAt (Elt F) a.view (rows i).toLoadRect (h.unread x)

/-- Two blocks of 128 columns side by side. -/
def cat (u v : Vec F S1x256x128 .bf16) : FVec F S256x256 .bf16 :=
  concatenate S256x256 1 [⟨S256x128, shapeCast S256x128 u shapeCasts_S1x256x128_S256x128⟩,
    ⟨S256x128, shapeCast S256x128 v shapeCasts_S1x256x128_S256x128⟩] concatenates_S256x128_S256x128_S256x256_d1

def flat (u : Vec F S1x256x128 .bf16) : FVec F S256x128 .bf16 := shapeCast S256x128 u shapeCasts_S1x256x128_S256x128

def qB (I : Ins F) (i : Fin 8) : FVec F S256x256 .bf16 := cat (ld I.a2 I.h2 I.x0 i) (ld I.a3 I.h3 I.x1 i)
def kB (I : Ins F) (j : Fin 8) : FVec F S256x256 .bf16 := cat (ld I.a4 I.h4 I.x2 j) (ld I.a5 I.h5 I.x3 j)
def vB (I : Ins F) (j : Fin 8) : FVec F S256x128 .bf16 := flat (ld I.a6 I.h6 I.x4 j)
def doB (I : Ins F) (i : Fin 8) : FVec F S256x128 .bf16 := flat (ld I.a8 I.h8 I.x6 i)

/-- The log-sums of a block's rows. -/
def lseB (I : Ins F) (i : Fin 8) : Vec F S1x1x256x1 .f32 :=
  View.readAt (Elt F) I.a9.view (col i).toLoadRect (I.h9.unread I.x7)

/-- The row sums of output times cotangent, as the body keeps them. -/
def delta (I : Ins F) (i : Fin 8) : Vec F S256x1 .f32 :=
  I.a15.view.readCov [⟨Rect.unit ![0, 0] S2048x1.size inb_S2048x1_S2048x1_0_0,
    k0_pay4 (View.readAt (Elt F) I.a8.view (Rect.unit ![0, 0, 0] S1x2048x128.size inb_S1x2048x128_S1x2048x128_0_0_0).toLoadRect (I.h8.unread I.x6))
      (View.readAt (Elt F) I.a7.view (Rect.unit ![0, 0, 0] S1x2048x128.size inb_S1x2048x128_S1x2048x128_0_0_0).toLoadRect (I.h7.unread I.x5))⟩]
    (del i).toLoadRect

def zero2 : FVec F S256x256 .f32 := constant S256x256 .f32 0x00000000#32
def zero1 : FVec F S256x128 .f32 := constant S256x128 .f32 0x00000000#32
def scale : FVec F S256x256 .f32 := broadcast S256x256 (Scalar.ofBits .f32 0x3D93CD3A#32 : F .f32)

/-- The probabilities of a block of queries over a block of keys. -/
def prob0 (q k : FVec F S256x256 .bf16) (l : Vec F S1x1x256x1 .f32) : FVec F S256x256 .f32 :=
  exp (subf (mulf (matmul dot_S256x256_S256x256_S256x256_1_1_0_0_n_n none q k zero2) scale)
    (broadcastTo S256x256 (shapeCast S256x1 l shapeCasts_S1x1x256x1_S256x1) broadcasts_S256x1_S256x256))
def masked (p : FVec F S256x256 .f32) : FVec F S256x256 .f32 :=
  select k0_pay5 p (broadcast S256x256 (Scalar.ofBits .f32 0x00000000#32 : F .f32))
def prob (I : Ins F) (i j : Fin 8) : FVec F S256x256 .f32 :=
  bif i == j then masked (prob0 (qB I i) (kB I j) (lseB I i)) else prob0 (qB I i) (kB I j) (lseB I i)
def probB (I : Ins F) (i j : Fin 8) : FVec F S256x256 .bf16 := truncf .bf16 (prob I i j) bitsLt_bf16_f32

/-- The gradient of the scores, from the probabilities. -/
def dscore0 (p dp : FVec F S256x256 .f32) (d : Vec F S256x1 .f32) : FVec F S256x256 .bf16 :=
  truncf .bf16 (mulf (mulf p (subf dp (broadcastTo S256x256 d broadcasts_S256x1_S256x256))) scale) bitsLt_bf16_f32
def dscore (I : Ins F) (i j : Fin 8) : FVec F S256x256 .bf16 :=
  dscore0 (prob I i j) (matmul dot_S256x128_S256x128_S256x256_1_1_0_0_n_n none (doB I i) (vB I j) zero2) (delta I i)

/-- The blocks of queries at or below the `j`-th, in the order the body takes them. -/
def below (j : Fin 8) : List (Fin 8) := (List.finRange 8).filter fun i => decide (j ≤ i)

/-- The gradient of the values and of the keys of a block. -/
def dvB (I : Ins F) (j : Fin 8) : List (Fin 8) → FVec F S256x128 .f32
  | [] => broadcast S256x128 (Scalar.ofBits .f32 0x00000000#32 : F .f32)
  | i :: r => addf (dvB I j r) (matmul dot_S256x256_S256x128_S256x128_0_0_1_1_n_n none (probB I i j) (doB I i) zero1)
def dkB (I : Ins F) (j : Fin 8) : List (Fin 8) → FVec F S256x256 .f32
  | [] => broadcast S256x256 (Scalar.ofBits .f32 0x00000000#32 : F .f32)
  | i :: r => addf (dkB I j r) (matmul dot_S256x256_S256x256_S256x256_0_0_1_1_n_n none (dscore I i j) (qB I i) zero2)

/-- The steps of the body, the last first: queries' block and keys' block. -/
def order : List (Fin 8 × Fin 8) := (List.finRange 8).reverse.flatMap fun j => (below j).reverse.map fun i => (i, j)

/-- What the scratch buffer of the queries' gradient holds after a list of steps. -/
def dqP (I : Ins F) : List (Fin 8 × Fin 8) → List (View.Piece (Elt F) S2048x256 .f32)
  | [] => [⟨Rect.unit ![0, 0] S2048x256.size inb_S2048x256_S2048x256_0_0, k0_pay3⟩]
  | (i, j) :: r => ⟨scr i, shapeCast S256x256 (addf (I.a14.view.readCov (dqP I r) (scr i).toLoadRect)
      (matmul dot_S256x256_S256x256_S256x256_1_0_0_1_n_n none (dscore I i j) (kB I j) zero2)) shapeCasts_S256x256_S256x256⟩ :: dqP I r

theorem scratch_eq (I : Ins F) : I.run.2.2.2.2.1 = dqP I order := by
  sl_kernel_rfl

theorem inb_out (o : ℕ) (ho : o ≤ 128) (j : Fin 8) :
    ∀ a : Fin 3, ![0, 256 * j.val, o] a + S1x256x128.size a ≤ S1x2048x256.size a := by
  have := j.isLt
  intro a; fin_cases a <;> simp [S1x256x128, S1x2048x256] <;> omega
theorem inb_out4 (j : Fin 8) : ∀ a : Fin 4, ![0, 0, 256 * j.val, 0] a + S1x1x256x128.size a ≤ S1x1x2048x128.size a := by
  revert j; decide

/-- The whole gradient of a block of values, and of a block of keys. -/
def dv (I : Ins F) (j : Fin 8) : FVec F S256x128 .f32 := dvB I j (below j).reverse
def dk (I : Ins F) (j : Fin 8) : FVec F S256x256 .f32 := dkB I j (below j).reverse

/-- The pieces of the gradients of keys and values. -/
def dkvP (I : Ins F) : List (Fin 8) → List (View.Piece (Elt F) S1x2048x256 .f32)
  | [] => []
  | j :: r => ⟨Rect.unit ![0, 256 * j.val, 128] S1x256x128.size (inb_out 128 (by decide) j),
        shapeCast S1x256x128 (dv I j) shapeCasts_S256x128_S1x256x128⟩ ::
      ⟨Rect.unit ![0, 256 * j.val, 0] S1x256x128.size (inb_out 0 (by decide) j),
        shapeCast S1x256x128 (extractStridedSlice S256x128 ![0, 0] (dk I j) slices_S256x256_o0_0_S256x128) shapeCasts_S256x128_S1x256x128⟩ ::
      dkvP I r
def dkrP (I : Ins F) : List (Fin 8) → List (View.Piece (Elt F) S1x1x2048x128 .f32)
  | [] => []
  | j :: r => ⟨Rect.unit ![0, 0, 256 * j.val, 0] S1x1x256x128.size (inb_out4 j),
        shapeCast S1x1x256x128 (extractStridedSlice S256x128 ![0, 128] (dk I j) slices_S256x256_o0_128_S256x128) shapeCasts_S256x128_S1x1x256x128⟩ ::
      dkrP I r

theorem dkv_eq (I : Ins F) : I.run.2.2.1 = dkvP I (List.finRange 8).reverse := by
  sl_kernel_rfl

theorem dkr_eq (I : Ins F) : I.run.2.2.2.1 = dkrP I (List.finRange 8).reverse := by
  sl_kernel_rfl

theorem dqn_eq (I : Ins F) : I.run.1 = [⟨Rect.unit ![0, 0, 0] S1x2048x128.size inb_S1x2048x128_S1x2048x128_0_0_0,
    k0_pay1 (I.a14.view.readCov (dqP I order) (Rect.unit (s := S2048x256) ![0, 0] S2048x128.size inb_S2048x256_S2048x128_0_0).toLoadRect)⟩] := by
  sl_kernel_rfl

theorem dqr_eq (I : Ins F) : I.run.2.1 = [⟨Rect.unit ![0, 0, 0] S1x2048x128.size inb_S1x2048x128_S1x2048x128_0_0_0,
    k0_pay2 (I.a14.view.readCov (dqP I order) (Rect.unit (s := S2048x256) ![0, 128] S2048x128.size inb_S2048x256_S2048x128_0_128).toLoadRect)⟩] := by
  sl_kernel_rfl

end Cert.Kernel2Ideal.Attn
end
-- ==== Proof.AttnPoint.lean ====
/- The blocks of the attention's backward kernel element by element, at `F := Ideal`. -/
module

public import proofs.«01_k».proof.Proof.AttnModel
public import Idealize.ShloMosaic.Lib.Pipeline.ValueKit
public import Idealize.ShloMosaic.Lib.Pointwise
public import Idealize.ShloMosaic.Lib.WholeRead

@[expose] public section

set_option maxRecDepth 16384

noncomputable section

namespace Cert.Kernel2Ideal.Attn

open Idealize.ShloMosaic Idealize.SL Idealize.SL.Sem Cert.Kernel2Ideal.Gen

/-- Row `a` of block `i`. -/
abbrev at8 (i : Fin 8) (a : Fin 256) : Fin 2048 := ⟨256 * i.val + a.val, by omega⟩

variable (I : Ins Ideal)

theorem ld_at {e : EltTy} (a : Memref sig .tc .vmem S1x2048x128 e) (h : a.IsWhole) (x : Vec Ideal S1x2048x128 e) (i : Fin 8)
    (r : Fin 256) (d : Fin 128) : ld a h x i (ix3 0 r d) = x (ix3 0 (at8 i r) d) := by
  unfold ld
  rw [Memref.IsWhole.readAt_unread]
  congr 1
  funext k; fin_cases k <;> apply Fin.ext <;> simp [Rect.idx_unit_val, ix3]

theorem lse_at (i : Fin 8) (r : Fin 256) : lseB I i (ix4 0 0 r 0) = I.x7 (ix4 0 0 (at8 i r) 0) := by
  unfold lseB
  rw [Memref.IsWhole.readAt_unread]
  congr 1
  funext k; fin_cases k <;> apply Fin.ext <;> simp [Rect.idx_unit_val, ix4]

/-- Two halves of 128 columns as one row of 256. -/
def two (x y : Vec Ideal S1x2048x128 .bf16) (r : Fin 2048) (d : Fin 256) : EReal :=
  if h : d.val < 128 then x (ix3 0 r ⟨d.val, h⟩) else y (ix3 0 r ⟨d.val - 128, by omega⟩)

theorem cat_at (u v : Vec Ideal S1x256x128 .bf16) (r d : Fin 256) : cat u v (ix2 r d) =
    if h : d.val < 128 then u (ix3 0 r ⟨d.val, h⟩) else v (ix3 0 r ⟨d.val - 128, by omega⟩) := by
  pointwise [cat]

theorem flat_at (u : Vec Ideal S1x256x128 .bf16) (r : Fin 256) (d : Fin 128) : flat u (ix2 r d) = u (ix3 0 r d) := by
  pointwise [flat]

theorem qB_at (i : Fin 8) (r d : Fin 256) : qB I i (ix2 r d) = two I.x0 I.x1 (at8 i r) d := by
  unfold qB two; rw [cat_at]; simp only [ld_at]

theorem kB_at (i : Fin 8) (r d : Fin 256) : kB I i (ix2 r d) = two I.x2 I.x3 (at8 i r) d := by
  unfold kB two; rw [cat_at]; simp only [ld_at]

theorem vB_at (i : Fin 8) (r : Fin 256) (d : Fin 128) : vB I i (ix2 r d) = I.x4 (ix3 0 (at8 i r) d) := by
  unfold vB; rw [flat_at, ld_at]

theorem doB_at (i : Fin 8) (r : Fin 256) (d : Fin 128) : doB I i (ix2 r d) = I.x6 (ix3 0 (at8 i r) d) := by
  unfold doB; rw [flat_at, ld_at]

/-- The row sums of output times cotangent. -/
def rowDelta (r : Fin 2048) : EReal := ∑ d : Fin 128, I.x6 (ix3 0 r d) * I.x5 (ix3 0 r d)

theorem delta_at (i : Fin 8) (r : Fin 256) : delta I i (ix2 r 0) = rowDelta I (at8 i r) := by
  unfold delta rowDelta
  rw [View.readCov_eq_canon']
  have hidx : (del i).toLoadRect.idx (ix2 r 0) = (Rect.unit (s := S2048x1) ![0, 0] S2048x1.size inb_S2048x1_S2048x1_0_0).emb (ix2 (at8 i r) 0) := by
    funext k; fin_cases k <;> apply Fin.ext <;> simp [Rect.idx_unit_val, ValueKit.rect_emb_unit_val, ix2]
  show View.canon _ ((del i).toLoadRect.idx (ix2 r 0)) = _
  rw [hidx, View.canon_cons_emb]
  pointwise [k0_pay4]
  refine Finset.sum_congr (M := EReal) rfl fun d _ => ?_
  simp only [Memref.IsWhole.readAt_unread]
  have hw : (Rect.unit (s := S1x2048x128) ![0, 0, 0] S1x2048x128.size inb_S1x2048x128_S1x2048x128_0_0_0).toLoadRect.idx (ix3 0 (at8 i r) d)
      = ix3 0 (at8 i r) d := by
    funext k; fin_cases k <;> apply Fin.ext <;> simp [Rect.idx_unit_val, ix3]
  exact congrArg₂ (fun a b : EReal => a * b) (congrArg I.x6 hw) (congrArg I.x5 hw)

/-- The scores' factor. -/
def sc : EReal := (Scalar.ofBits .f32 0x3D93CD3A#32 : Ideal .f32)

/-- The scores, the probabilities and the gradient of the scores over all the rows and columns. -/
def score (r k : Fin 2048) : EReal := ∑ d : Fin 256, two I.x0 I.x1 r d * two I.x2 I.x3 k d
def prb (r k : Fin 2048) : EReal := if k ≤ r then Ideal.exp (score I r k * sc - I.x7 (ix4 0 0 r 0)) else 0
def dsc (r k : Fin 2048) : EReal :=
  prb I r k * ((∑ d : Fin 128, I.x6 (ix3 0 r d) * I.x4 (ix3 0 k d)) - rowDelta I r) * sc

theorem prob0_at (i j : Fin 8) (a b : Fin 256) : prob0 (qB I i) (kB I j) (lseB I i) (ix2 a b)
    = Ideal.exp (score I (at8 i a) (at8 j b) * sc - I.x7 (ix4 0 0 (at8 i a) 0)) := by
  pointwise [prob0, zero2, scale, qB_at, kB_at, lse_at]
  rfl

theorem sge_eq (a b : Fin 256) : IntOp.cmpi .sge (IntOp.addi 0#32 (BitVec.ofNat 32 a.val)) (IntOp.addi 0#32 (BitVec.ofNat 32 b.val))
    = if b ≤ a then 1#1 else 0#1 := by
  have ha : (BitVec.ofNat 32 a.val).toInt = a.val := by
    rw [BitVec.toInt_eq_toNat_of_lt] <;> rw [BitVec.toNat_ofNat] <;> have := a.isLt <;> omega
  have hb : (BitVec.ofNat 32 b.val).toInt = b.val := by
    rw [BitVec.toInt_eq_toNat_of_lt] <;> rw [BitVec.toNat_ofNat] <;> have := b.isLt <;> omega
  simp only [IntOp.cmpi, IntOp.addi, BitVec.zero_add, BitVec.sle, ha, hb, Nat.cast_le, Fin.val_fin_le]
  by_cases h : b ≤ a <;> simp [h]

theorem masked_at (p : FVec Ideal S256x256 .f32) (a b : Fin 256) : masked p (ix2 a b) = if b ≤ a then p (ix2 a b) else 0 := by
  pointwise [masked, k0_pay5]
  rw [sge_eq]
  by_cases h : b ≤ a <;> simp [h, Scalar.select]

/-- A block of the probabilities, at or below the diagonal. -/
theorem prob_at (i j : Fin 8) (h : j ≤ i) (a b : Fin 256) : prob I i j (ix2 a b) = prb I (at8 i a) (at8 j b) := by
  unfold prob prb
  rcases eq_or_ne i j with rfl | hne
  · have : (at8 i b ≤ at8 i a) ↔ b ≤ a := by
      rw [Fin.le_def, Fin.le_def]; show 256 * i.val + b.val ≤ 256 * i.val + a.val ↔ _; omega
    simp only [beq_self_eq_true, cond_true, masked_at, prob0_at, this]
  · have hlt : j < i := lt_of_le_of_ne h hne.symm
    have : at8 j b ≤ at8 i a := by
      rw [Fin.lt_def] at hlt; rw [Fin.le_def]; show 256 * j.val + b.val ≤ 256 * i.val + a.val; omega
    simp only [beq_eq_false_iff_ne.mpr hne, cond_false, prob0_at, this, if_true]

theorem probB_at (i j : Fin 8) (h : j ≤ i) (a b : Fin 256) : probB I i j (ix2 a b) = prb I (at8 i a) (at8 j b) := by
  pointwise [probB, prob_at I i j h]

theorem dscore_at (i j : Fin 8) (h : j ≤ i) (a b : Fin 256) : dscore I i j (ix2 a b) = dsc I (at8 i a) (at8 j b) := by
  pointwise [dscore, dscore0, zero2, scale, prob_at I i j h, doB_at, vB_at, delta_at]
  rfl

/-! Sums over the blocks are sums over the rows. -/

theorem sum_rows (f : Fin 2048 → EReal) : ∑ r, f r = ∑ i : Fin 8, ∑ a : Fin 256, f (at8 i a) := by
  rw [← Fintype.sum_prod_type']
  refine (Fintype.sum_equiv (finProdFinEquiv (m := 8) (n := 256)) _ _ fun x => ?_).symm
  exact congrArg f (Fin.ext (by simp [finProdFinEquiv]; omega))

theorem below_sum (j : Fin 8) (f : Fin 8 → EReal) : ((below j).reverse.map f).sum = ∑ i, if j ≤ i then f i else 0 := by
  rw [← List.sum_toFinset f (by revert j; decide), ← Finset.sum_filter]
  congr 1
  revert j; decide

theorem prb_above {r k : Fin 2048} (h : ¬ k ≤ r) : prb I r k = 0 := if_neg h
theorem dsc_above {r k : Fin 2048} (h : ¬ k ≤ r) : dsc I r k = 0 := by
  unfold dsc; rw [prb_above I h, zero_mul, zero_mul]

theorem dvB_at (j : Fin 8) (b : Fin 256) (d : Fin 128) (l : List (Fin 8)) : dvB I j l (ix2 b d)
    = (l.map fun i => ∑ a : Fin 256, probB I i j (ix2 a b) * doB I i (ix2 a d)).sum := by
  induction l with
  | nil => pointwise [dvB]; simp
  | cons i r ih => pointwise [dvB, zero1, ih]; rw [List.map_cons, List.sum_cons, add_comm]

theorem dkB_at (j : Fin 8) (b d : Fin 256) (l : List (Fin 8)) : dkB I j l (ix2 b d)
    = (l.map fun i => ∑ a : Fin 256, dscore I i j (ix2 a b) * qB I i (ix2 a d)).sum := by
  induction l with
  | nil => pointwise [dkB]; simp
  | cons i r ih => pointwise [dkB, zero2, ih]; rw [List.map_cons, List.sum_cons, add_comm]

theorem dv_at (j : Fin 8) (b : Fin 256) (d : Fin 128) :
    dv I j (ix2 b d) = ∑ r, prb I r (at8 j b) * I.x6 (ix3 0 r d) := by
  unfold dv
  rw [dvB_at, below_sum, sum_rows]
  refine Finset.sum_congr rfl fun i _ => ?_
  split_ifs with h
  · exact Finset.sum_congr rfl fun a _ => by rw [probB_at I i j h, doB_at]
  · refine (Finset.sum_eq_zero fun a _ => ?_).symm
    rw [prb_above, zero_mul]
    rw [Fin.le_def] at *; show ¬ 256 * j.val + b.val ≤ 256 * i.val + a.val; omega

theorem dk_at (j : Fin 8) (b d : Fin 256) :
    dk I j (ix2 b d) = ∑ r, dsc I r (at8 j b) * two I.x0 I.x1 r d := by
  unfold dk
  rw [dkB_at, below_sum, sum_rows]
  refine Finset.sum_congr rfl fun i _ => ?_
  split_ifs with h
  · exact Finset.sum_congr rfl fun a _ => by rw [dscore_at I i j h, qB_at]
  · refine (Finset.sum_eq_zero fun a _ => ?_).symm
    rw [dsc_above, zero_mul]
    rw [Fin.le_def] at *; show ¬ 256 * j.val + b.val ≤ 256 * i.val + a.val; omega

/-! The queries' gradient, accumulated in the scratch buffer. -/

theorem dqP_at (i : Fin 8) (a d : Fin 256) (l : List (Fin 8 × Fin 8)) : View.canon (dqP I l) (ix2 (at8 i a) d)
    = ((l.filter fun x => x.1 = i).map fun x => ∑ b : Fin 256, dscore I i x.2 (ix2 a b) * kB I x.2 (ix2 b d)).sum := by
  induction l with
  | nil =>
    have : ix2 (at8 i a) d = (Rect.unit (s := S2048x256) ![0, 0] S2048x256.size inb_S2048x256_S2048x256_0_0).emb (ix2 (at8 i a) d) := by
      funext k; fin_cases k <;> apply Fin.ext <;> simp [ValueKit.rect_emb_unit_val, ix2]
    unfold dqP
    rw [this, View.canon_cons_emb]
    pointwise [k0_pay3]; simp
  | cons x r ih =>
    obtain ⟨i', j⟩ := x
    have hin (a' : Fin 256) (i : Fin 8) : ix2 (at8 i a') d = (scr i).emb (ix2 a' d) := by
      funext k; fin_cases k <;> apply Fin.ext <;> simp [ValueKit.rect_emb_unit_val, ix2]
    unfold dqP
    by_cases h : i' = i
    · subst h
      rw [hin a i', View.canon_cons_emb, List.filter_cons_of_pos (by simp), List.map_cons, List.sum_cons, ← ih, View.readCov_eq_canon']
      pointwise [zero2]
      rw [add_comm]
    · rw [View.canon_cons_of_not_mem, ih, List.filter_cons_of_neg (by simp [h])]
      intro hm
      obtain ⟨z, hz, he⟩ := (LoadRect.mem_set _).mp hm 0
      have hz' : z < 256 := hz
      have he' : 256 * i.val + a.val = 256 * i'.val + 1 * z := he
      exact h (Fin.ext (by omega))

theorem order_sum (i : Fin 8) (f : Fin 8 → EReal) :
    ((order.filter fun x => x.1 = i).map fun x => f x.2).sum = ∑ j, if j ≤ i then f j else 0 := by
  have hm : (order.filter fun x => x.1 = i).map (fun x => f x.2) = ((order.filter fun x => x.1 = i).map Prod.snd).map f := by
    rw [List.map_map]; rfl
  rw [hm, ← List.sum_toFinset f (by clear hm; revert i; decide), ← Finset.sum_filter]
  congr 1
  clear hm; revert i; decide

theorem dq_block (i : Fin 8) (a d : Fin 256) : View.canon (dqP I order) (ix2 (at8 i a) d)
    = ∑ k, dsc I (at8 i a) k * two I.x2 I.x3 k d := by
  rw [dqP_at, order_sum i (fun j => ∑ b : Fin 256, dscore I i j (ix2 a b) * kB I j (ix2 b d)), sum_rows]
  refine Finset.sum_congr rfl fun j _ => ?_
  split_ifs with h
  · exact Finset.sum_congr rfl fun b _ => by rw [dscore_at I i j h, kB_at]
  · refine (Finset.sum_eq_zero fun b _ => ?_).symm
    rw [dsc_above, zero_mul]
    rw [Fin.le_def] at *; show ¬ 256 * j.val + b.val ≤ 256 * i.val + a.val; omega

/-- Every row lies in a block. -/
theorem row_cases (r : Fin 2048) : ∃ i : Fin 8, ∃ a : Fin 256, r = at8 i a :=
  ⟨⟨r.val / 256, by omega⟩, ⟨r.val % 256, by omega⟩, Fin.ext (by show r.val = 256 * (r.val / 256) + r.val % 256; omega)⟩

theorem dq_at (r : Fin 2048) (d : Fin 256) : View.canon (dqP I order) (ix2 r d) = ∑ k, dsc I r k * two I.x2 I.x3 k d := by
  obtain ⟨i, a, rfl⟩ := row_cases r
  exact dq_block I i a d

theorem two_lo (x y : Vec Ideal S1x2048x128 .bf16) (r : Fin 2048) (d : Fin 128) (h : d.val < 256) :
    two x y r ⟨d.val, h⟩ = x (ix3 0 r d) := by
  unfold two; rw [dif_pos d.isLt]
theorem two_hi (x y : Vec Ideal S1x2048x128 .bf16) (r : Fin 2048) (d : Fin 128) (h : 128 + d.val < 256) :
    two x y r ⟨128 + d.val, h⟩ = y (ix3 0 r d) := by
  unfold two; rw [dif_neg (by simp)]; congr 2; exact Fin.ext (by simp)

/-! What the body leaves in the four outputs. -/

theorem out_dqn (r : Fin 2048) (d : Fin 128) : View.canon I.run.1 (ix3 0 r d) = ∑ k, dsc I r k * I.x2 (ix3 0 k d) := by
  have hx : ix3 0 r d = (Rect.unit (s := S1x2048x128) ![0, 0, 0] S1x2048x128.size inb_S1x2048x128_S1x2048x128_0_0_0).emb (ix3 0 r d) := by
    funext k; fin_cases k <;> apply Fin.ext <;> simp [ValueKit.rect_emb_unit_val, ix3]
  rw [dqn_eq, hx, View.canon_cons_emb, View.readCov_eq_canon']
  have h := dq_at I r ⟨d.val, by omega⟩
  simp only [two_lo] at h
  rw [← h]
  generalize dqP I order = L
  pointwise [k0_pay1]

theorem out_dqr (r : Fin 2048) (d : Fin 128) : View.canon I.run.2.1 (ix3 0 r d) = ∑ k, dsc I r k * I.x3 (ix3 0 k d) := by
  have hx : ix3 0 r d = (Rect.unit (s := S1x2048x128) ![0, 0, 0] S1x2048x128.size inb_S1x2048x128_S1x2048x128_0_0_0).emb (ix3 0 r d) := by
    funext k; fin_cases k <;> apply Fin.ext <;> simp [ValueKit.rect_emb_unit_val, ix3]
  rw [dqr_eq, hx, View.canon_cons_emb, View.readCov_eq_canon']
  have h := dq_at I r ⟨128 + d.val, by omega⟩
  simp only [two_hi] at h
  rw [← h]
  generalize dqP I order = L
  pointwise [k0_pay2]

theorem out_dk_block (j : Fin 8) (b : Fin 256) (d : Fin 128) (l : List (Fin 8)) (hl : j ∈ l) :
    View.canon (dkvP I l) (ix3 0 (at8 j b) ⟨d.val, by omega⟩) = dk I j (ix2 b ⟨d.val, by omega⟩) := by
  induction l with
  | nil => simp at hl
  | cons j' r ih =>
    unfold dkvP
    rw [View.canon_cons_of_not_mem]
    swap
    · intro hm
      obtain ⟨z, hz, he⟩ := (LoadRect.mem_set _).mp hm 2
      have he' : d.val = 128 + 1 * z := he
      omega
    by_cases h : j = j'
    · subst h
      have hx : ix3 0 (at8 j b) ⟨d.val, by omega⟩ = (Rect.unit (s := S1x2048x256) ![0, 256 * j.val, 0] S1x256x128.size
          (inb_out 0 (by decide) j)).emb (ix3 0 b d) := by
        funext k; fin_cases k <;> apply Fin.ext <;> simp [ValueKit.rect_emb_unit_val, ix3]
      rw [hx, View.canon_cons_emb]
      generalize dk I j = D
      pointwise
    · rw [View.canon_cons_of_not_mem]
      · exact ih ((List.mem_cons.mp hl).resolve_left h)
      · intro hm
        obtain ⟨z, hz, he⟩ := (LoadRect.mem_set _).mp hm 1
        have hz' : z < 256 := hz
        have he' : 256 * j.val + b.val = 256 * j'.val + 1 * z := he
        exact h (Fin.ext (by omega))

theorem out_dv_block (j : Fin 8) (b : Fin 256) (d : Fin 128) (l : List (Fin 8)) (hl : j ∈ l) :
    View.canon (dkvP I l) (ix3 0 (at8 j b) ⟨128 + d.val, by omega⟩) = dv I j (ix2 b d) := by
  induction l with
  | nil => simp at hl
  | cons j' r ih =>
    unfold dkvP
    by_cases h : j = j'
    · subst h
      have hx : ix3 0 (at8 j b) ⟨128 + d.val, by omega⟩ = (Rect.unit (s := S1x2048x256) ![0, 256 * j.val, 128] S1x256x128.size
          (inb_out 128 (by decide) j)).emb (ix3 0 b d) := by
        funext k; fin_cases k <;> apply Fin.ext <;> simp [ValueKit.rect_emb_unit_val, ix3]
      rw [hx, View.canon_cons_emb]
      generalize dv I j = D
      pointwise
    · rw [View.canon_cons_of_not_mem, View.canon_cons_of_not_mem]
      · exact ih ((List.mem_cons.mp hl).resolve_left h)
      all_goals
        intro hm
        obtain ⟨z, hz, he⟩ := (LoadRect.mem_set _).mp hm 1
        have hz' : z < 256 := hz
        have he' : 256 * j.val + b.val = 256 * j'.val + 1 * z := he
        exact h (Fin.ext (by omega))

theorem out_dkr_block (j : Fin 8) (b : Fin 256) (d : Fin 128) (l : List (Fin 8)) (hl : j ∈ l) :
    View.canon (dkrP I l) (ix4 0 0 (at8 j b) d) = dk I j (ix2 b ⟨128 + d.val, by omega⟩) := by
  induction l with
  | nil => simp at hl
  | cons j' r ih =>
    unfold dkrP
    by_cases h : j = j'
    · subst h
      have hx : ix4 0 0 (at8 j b) d = (Rect.unit (s := S1x1x2048x128) ![0, 0, 256 * j.val, 0] S1x1x256x128.size
          (inb_out4 j)).emb (ix4 0 0 b d) := by
        funext k; fin_cases k <;> apply Fin.ext <;> simp [ValueKit.rect_emb_unit_val, ix4]
      rw [hx, View.canon_cons_emb]
      generalize dk I j = D
      pointwise
    · rw [View.canon_cons_of_not_mem]
      · exact ih ((List.mem_cons.mp hl).resolve_left h)
      · intro hm
        obtain ⟨z, hz, he⟩ := (LoadRect.mem_set _).mp hm 2
        have hz' : z < 256 := hz
        have he' : 256 * j.val + b.val = 256 * j'.val + 1 * z := he
        exact h (Fin.ext (by omega))

theorem out_dk (k : Fin 2048) (d : Fin 128) : View.canon I.run.2.2.1 (ix3 0 k ⟨d.val, by omega⟩)
    = ∑ r, dsc I r k * I.x0 (ix3 0 r d) := by
  obtain ⟨j, b, rfl⟩ := row_cases k
  rw [dkv_eq, out_dk_block I j b d _ (by revert j; decide), dk_at]
  simp only [two_lo]

theorem out_dv (k : Fin 2048) (d : Fin 128) : View.canon I.run.2.2.1 (ix3 0 k ⟨128 + d.val, by omega⟩)
    = ∑ r, prb I r k * I.x6 (ix3 0 r d) := by
  obtain ⟨j, b, rfl⟩ := row_cases k
  rw [dkv_eq, out_dv_block I j b d _ (by revert j; decide), dv_at]

theorem out_dkr (k : Fin 2048) (d : Fin 128) : View.canon I.run.2.2.2.1 (ix4 0 0 k d)
    = ∑ r, dsc I r k * I.x1 (ix3 0 r d) := by
  obtain ⟨j, b, rfl⟩ := row_cases k
  rw [dkr_eq, out_dkr_block I j b d _ (by revert j; decide), dk_at]
  simp only [two_hi]

end Cert.Kernel2Ideal.Attn
end
-- ==== Proof.AttnHost.lean ====
/- The arrays the host lines hand to the attention's backward kernel, element by element, at `F := Ideal`. -/
module

public import proofs.«01_k».proof.Proof.AttnPoint
public import proofs.«01_k».proof.Proof.Gen.Reference2Ideal.Read
public import Idealize.ShloMosaic.Lib.StableHlo.RunRead

@[expose] public section

set_option maxRecDepth 16384

noncomputable section

namespace Cert.Kernel2Ideal.Attn

open Idealize.ShloMosaic Idealize.ShloMosaic.TcCoe Idealize.SL Idealize.SL.Sem Cert.Kernel2Ideal.Gen Cert.Reference2Ideal.Read

variable (m : (ℓ : Loc nD τ sig) → Buf (Elt Ideal) ℓ) (c : Dev nD)

/-! The arguments, at their own types. -/

abbrev qn : FVec Ideal Cert.Reference2Ideal.S4x2048x4x128 .f32 := m ((c : Thread nD τ).loc main_arg0)
abbrev qr : FVec Ideal Cert.Reference2Ideal.S4x2048x4x64 .f32 := m ((c : Thread nD τ).loc main_arg1)
abbrev kv : FVec Ideal Cert.Reference2Ideal.S4x2048x4x256 .f32 := m ((c : Thread nD τ).loc main_arg2)
abbrev kr : FVec Ideal Cert.Reference2Ideal.S4x2048x64 .f32 := m ((c : Thread nD τ).loc main_arg3)
abbrev dout : FVec Ideal Cert.Reference2Ideal.S4x2048x4x128 .f32 := m ((c : Thread nD τ).loc main_arg4)

/-- The masked scores, and their greatest of a row. -/
abbrev S : FVec Ideal Cert.Reference2Ideal.S4x4x2048x2048 .f32 := val_main_v15_0 (F := Ideal) (qn m c) (qr m c) (kv m c) (kr m c)
abbrev M : FVec Ideal Cert.Reference2Ideal.S4x4x2048 .f32 := val_main_v16 (F := Ideal) (qn m c) (qr m c) (kv m c) (kr m c)

abbrev lane (h : Fin 4) (d : Fin 128) : Fin 512 := ⟨128 * h.val + d.val, by omega⟩

/-- What the buffers hold once the masked scores stand, before the softmax is taken. -/
def atScores : Valuation τ sig (Elt Ideal) := StableHlo.after (hostOps0 ++ hostOps0_1) fun b => m (c, b)

theorem entry_eq (b : Ref sig .tc) : V m c b = StableHlo.after hostOps0_2 (atScores m c) (Proc.devRef .tc b) := by
  unfold atScores
  rw [← StableHlo.after_append]
  rfl

theorem scores_arg0 : atScores m c (Proc.devRef .tc main_arg0) = qn m c := rfl
theorem scores_arg1 : atScores m c (Proc.devRef .tc main_arg1) = qr m c := rfl
theorem scores_arg2 : atScores m c (Proc.devRef .tc main_arg2) = kv m c := rfl
theorem scores_arg3 : atScores m c (Proc.devRef .tc main_arg3) = kr m c := rfl
theorem scores_arg4 : atScores m c (Proc.devRef .tc main_arg4) = dout m c := rfl
theorem scores_v15 : atScores m c (Proc.devRef .tc main_v15) = S m c := rfl
theorem scores_v1 : atScores m c (Proc.devRef .tc main_v1) = val_main_v1 (F := Ideal) (kv m c) := rfl

theorem max_row : Host.reduce FloatOps.maximumf (S m c) (constant S_ .f32 0xFF800000#32)
    reducesTo_S4x4x2048x2048_S4x4x2048_d3 h_S_ = M m c := rfl

/-- The exponentials of a row's scores less the greatest, and their sum over the row. -/
abbrev E : FVec Ideal S4x4x2048x2048 .f32 := Host.exp (subf (S m c) (broadcastInDim S4x4x2048x2048 ![0, 1, 2, 3]
  bcast_S4x4x2048x1_S4x4x2048x2048_0_1_2_3 (broadcastInDim S4x4x2048x1 ![0, 1, 2] bcast_S4x4x2048_S4x4x2048x1_0_1_2 (M m c))))
abbrev L : FVec Ideal S4x4x2048 .f32 :=
  Host.reduceAdd (E m c) (constant S_ .f32 0x00000000#32) reducesTo_S4x4x2048x2048_S4x4x2048_d3 h_S_

def ex (b h : Fin 4) (r k : Fin 2048) : EReal := Ideal.exp (S m c (ix4 b h r k) - M m c (ix3 b h r))
def den (b h : Fin 4) (r : Fin 2048) : EReal := ∑ k, ex m c b h r k

/-- The row's logarithm of the sum of exponentials, and the attention's output. -/
def lse (b h : Fin 4) (r : Fin 2048) : EReal := M m c (ix3 b h r) + Ideal.log (den m c b h r)
def att (b h : Fin 4) (r : Fin 2048) (d : Fin 128) : EReal :=
  ∑ k, kv m c (ix4 b k h ⟨128 + d.val, by omega⟩) * Ideal.div (ex m c b h r k) (den m c b h r)

theorem E_at (b h : Fin 4) (r k : Fin 2048) : E m c (ix4 b h r k) = ex m c b h r k := by
  pointwise [ex]

theorem L_at (b h : Fin 4) (r : Fin 2048) : L m c (ix3 b h r) = den m c b h r := by
  pointwise [den, ex]

theorem qn_array (b : Fin 4) (r : Fin 2048) (h : Fin 4) (d : Fin 128) :
    V m c main_v32 (ix3 b r (lane h d)) = qn m c (ix4 b r h d) := by
  have e : V m c main_v32 = truncf .bf16 (shapeCast S4x2048x512 (qn m c) shapeCasts_S4x2048x4x128_S4x2048x512) bitsLt_bf16_f32 := by
    rw [entry_eq]; after_results_simp; rw [scores_arg0]; rfl
  rw [e]
  pointwise
  blk_point []

theorem dout_array (b : Fin 4) (r : Fin 2048) (h : Fin 4) (d : Fin 128) :
    V m c main_v43 (ix3 b r (lane h d)) = dout m c (ix4 b r h d) := by
  have e : V m c main_v43 = truncf .bf16 (shapeCast S4x2048x512 (dout m c) shapeCasts_S4x2048x4x128_S4x2048x512) bitsLt_bf16_f32 := by
    rw [entry_eq]; after_results_simp; rw [scores_arg4]; rfl
  rw [e]
  pointwise
  blk_point []

theorem qr_array (b : Fin 4) (r : Fin 2048) (h : Fin 4) (d : Fin 128) :
    V m c main_v36 (ix3 b r (lane h d)) = if hd : d.val < 64 then qr m c (ix4 b r h ⟨d.val, hd⟩) else 0 := by
  have e : V m c main_v36 = shapeCast S4x2048x512 (truncf .bf16 (concatenate S4x2048x4x128 3 [⟨S4x2048x4x64, qr m c⟩,
      ⟨S4x2048x4x64, broadcastInDim S4x2048x4x64 ![] bcast_S_S4x2048x4x64 (constant S_ .f32 0x00000000#32)⟩]
      concatenates_S4x2048x4x64_S4x2048x4x64_S4x2048x4x128_d3) bitsLt_bf16_f32) shapeCasts_S4x2048x4x128_S4x2048x512 := by
    rw [entry_eq]; after_reads_simp
    have h1 : StableHlo.upto hostOps0_2 (atScores m c) 21 (Proc.devRef .tc main_arg1) = qr m c := by
      after_reads_simp; exact scores_arg1 m c
    have h2 : StableHlo.upto hostOps0_2 (atScores m c) 21 (Proc.devRef .tc main_v33)
        = broadcastInDim S4x2048x4x64 ![] bcast_S_S4x2048x4x64 (constant (F := Ideal) S_ .f32 0x00000000#32) := by after_reads_simp
    exact congrArg₂ (fun a b : FVec Ideal S4x2048x4x64 .f32 => shapeCast S4x2048x512 (truncf .bf16 (concatenate S4x2048x4x128 3
      [⟨S4x2048x4x64, a⟩, ⟨S4x2048x4x64, b⟩] concatenates_S4x2048x4x64_S4x2048x4x64_S4x2048x4x128_d3) bitsLt_bf16_f32)
      shapeCasts_S4x2048x4x128_S4x2048x512) h1 h2
  rw [e]
  pointwise
  blk_point [] <;> (exfalso; omega)

theorem kr_array (b : Fin 4) (r : Fin 2048) (d : Fin 128) :
    V m c main_v41 (ix3 b r d) = if hd : d.val < 64 then kr m c (ix3 b r ⟨d.val, hd⟩) else 0 := by
  have e : V m c main_v41 = truncf .bf16 (concatenate S4x2048x128 2 [⟨S4x2048x64, kr m c⟩,
      ⟨S4x2048x64, broadcastInDim S4x2048x64 ![] bcast_S_S4x2048x64 (constant S_ .f32 0x00000000#32)⟩]
      concatenates_S4x2048x64_S4x2048x64_S4x2048x128_d2) bitsLt_bf16_f32 := by
    rw [entry_eq]; after_reads_simp
    have h1 : StableHlo.upto hostOps0_2 (atScores m c) 28 (Proc.devRef .tc main_arg3) = kr m c := by
      after_reads_simp; exact scores_arg3 m c
    have h2 : StableHlo.upto hostOps0_2 (atScores m c) 28 (Proc.devRef .tc main_v39)
        = broadcastInDim S4x2048x64 ![] bcast_S_S4x2048x64 (constant (F := Ideal) S_ .f32 0x00000000#32) := by after_reads_simp
    exact congrArg₂ (fun a b : FVec Ideal S4x2048x64 .f32 => truncf .bf16 (concatenate S4x2048x128 2
      [⟨S4x2048x64, a⟩, ⟨S4x2048x64, b⟩] concatenates_S4x2048x64_S4x2048x64_S4x2048x128_d2) bitsLt_bf16_f32) h1 h2
  rw [e]
  pointwise

theorem kv_array (b : Fin 4) (r : Fin 2048) (h : Fin 4) (d : Fin 256) :
    V m c main_v38 (ix3 b r ⟨256 * h.val + d.val, by omega⟩) = kv m c (ix4 b r h d) := by
  have e : V m c main_v38 = truncf .bf16 (shapeCast S4x2048x1024 (kv m c) shapeCasts_S4x2048x4x256_S4x2048x1024) bitsLt_bf16_f32 := by
    rw [entry_eq]; after_results_simp; rw [scores_arg2]; rfl
  rw [e]
  pointwise

theorem lse_eq : V m c main_v30 = broadcastInDim S4x4x2048x128 ![0, 1, 2, 3] bcast_S4x4x2048x1_S4x4x2048x128_0_1_2_3
      (addf (broadcastInDim S4x4x2048x1 ![0, 1, 2] bcast_S4x4x2048_S4x4x2048x1_0_1_2 (M m c))
        (Host.log (broadcastInDim S4x4x2048x1 ![0, 1, 2] bcast_S4x4x2048_S4x4x2048x1_0_1_2 (L m c)))) := by
  rw [entry_eq]
  after_results_simp
  rw [scores_v15, max_row]

theorem spread_at (u : FVec Ideal S4x4x2048 .f32) (v : FVec Ideal S4x4x2048 .f32) (b h : Fin 4) (r : Fin 2048) (l : Fin 128) :
    broadcastInDim S4x4x2048x128 ![0, 1, 2, 3] bcast_S4x4x2048x1_S4x4x2048x128_0_1_2_3
      (addf (broadcastInDim S4x4x2048x1 ![0, 1, 2] bcast_S4x4x2048_S4x4x2048x1_0_1_2 u)
        (Host.log (broadcastInDim S4x4x2048x1 ![0, 1, 2] bcast_S4x4x2048_S4x4x2048x1_0_1_2 v))) (ix4 b h r l)
      = (u (ix3 b h r) + Ideal.log (v (ix3 b h r)) : EReal) := by
  pointwise

theorem lse_array (b h : Fin 4) (r : Fin 2048) (l : Fin 128) :
    V m c main_v30 (ix4 b h r l) = lse m c b h r :=
  (congrFun (lse_eq m c) _).trans ((spread_at _ _ b h r l).trans (by rw [L_at]; rfl))

theorem o_eq : V m c main_v27 = shapeCast S4x2048x512 (transpose S4x2048x4x128 [0, 3, 1, 2]
      (Host.dotGeneral (φ₁ := .f32) (φ₂ := .f32) dot_S4x2048x4x128_S4x4x2048x2048_S4x4x128x2048_1_3_3_2_02_01 none
        (val_main_v1 (F := Ideal) (kv m c))
        (Host.divf (E m c) (broadcastInDim S4x4x2048x2048 ![0, 1, 2, 3] bcast_S4x4x2048x1_S4x4x2048x2048_0_1_2_3
          (broadcastInDim S4x4x2048x1 ![0, 1, 2] bcast_S4x4x2048_S4x4x2048x1_0_1_2 (L m c)))))
      transposes_S4x4x128x2048_S4x2048x4x128_0_3_1_2) shapeCasts_S4x2048x4x128_S4x2048x512 := by
  rw [entry_eq]
  after_results_simp
  rw [scores_v15, scores_v1, max_row]
  rfl

theorem weigh_at (u : FVec Ideal S4x2048x4x128 .f32) (e : FVec Ideal S4x4x2048x2048 .f32) (l : FVec Ideal S4x4x2048 .f32)
    (b : Fin 4) (r : Fin 2048) (h : Fin 4) (d : Fin 128) :
    shapeCast S4x2048x512 (transpose S4x2048x4x128 [0, 3, 1, 2]
      (Host.dotGeneral (φ₁ := .f32) (φ₂ := .f32) dot_S4x2048x4x128_S4x4x2048x2048_S4x4x128x2048_1_3_3_2_02_01 none u
        (Host.divf e (broadcastInDim S4x4x2048x2048 ![0, 1, 2, 3] bcast_S4x4x2048x1_S4x4x2048x2048_0_1_2_3
          (broadcastInDim S4x4x2048x1 ![0, 1, 2] bcast_S4x4x2048_S4x4x2048x1_0_1_2 l))))
      transposes_S4x4x128x2048_S4x2048x4x128_0_3_1_2) shapeCasts_S4x2048x4x128_S4x2048x512 (ix3 b r (lane h d))
      = ∑ k : Fin 2048, (u (ix4 b k h d) * Ideal.div (e (ix4 b h r k)) (l (ix3 b h r)) : EReal) := by
  have h1 : (128 * h.val + d.val) / 128 = h.val := by omega
  have h2 : (128 * h.val + d.val) % 128 = d.val := by omega
  pointwise
  simp only [h1, h2]

theorem val_at (b : Fin 4) (k : Fin 2048) (h : Fin 4) (d : Fin 128) :
    val_main_v1 (F := Ideal) (kv m c) (ix4 b k h d) = kv m c (ix4 b k h ⟨128 + d.val, by omega⟩) := by
  pointwise [val_main_v1]

theorem o_array (b : Fin 4) (r : Fin 2048) (h : Fin 4) (d : Fin 128) :
    V m c main_v27 (ix3 b r (lane h d)) = att m c b h r d :=
  (congrFun (o_eq m c) _).trans ((weigh_at _ _ _ b r h d).trans
    (Finset.sum_congr rfl fun k _ => by rw [val_at, E_at, L_at]))

end Cert.Kernel2Ideal.Attn

end
-- ==== Proof.AttnFinal.lean ====
/- What the attention's backward kernel writes into its four arrays, in terms of the arguments, at `F := Ideal`. -/
module

public import proofs.«01_k».proof.Proof.AttnHost
public import Idealize.ShloMosaic.Lib.Pipeline.ValueKit

@[expose] public section

set_option maxRecDepth 16384

noncomputable section

namespace Cert.Kernel2Ideal.Attn

open Idealize.ShloMosaic Idealize.ShloMosaic.TcCoe Idealize.SL Idealize.SL.Sem Cert.Kernel2Ideal.Gen Cert.Reference2Ideal.Read
open Idealize.ShloMosaic.Pipeline (Dat)

variable (m : (ℓ : Loc nD τ sig) → Buf (Elt Ideal) ℓ) (c : Dev nD)

/-! The kernel's scores, probabilities and gradient of the scores in terms of the arguments. -/

def raw (b h : Fin 4) (r k : Fin 2048) : EReal :=
  (∑ d : Fin 128, qn m c (ix4 b r h d) * kv m c (ix4 b k h ⟨d.val, by omega⟩)) + ∑ d : Fin 64, qr m c (ix4 b r h d) * kr m c (ix3 b k d)
def P (b h : Fin 4) (r k : Fin 2048) : EReal :=
  if k ≤ r then Ideal.exp (raw m c b h r k * sc - lse m c b h r) else 0
def dP (b h : Fin 4) (r k : Fin 2048) : EReal := ∑ d : Fin 128, dout m c (ix4 b r h d) * kv m c (ix4 b k h ⟨128 + d.val, by omega⟩)
def dl (b h : Fin 4) (r : Fin 2048) : EReal := ∑ d : Fin 128, dout m c (ix4 b r h d) * att m c b h r d
def D (b h : Fin 4) (r k : Fin 2048) : EReal := P m c b h r k * (dP m c b h r k - dl m c b h r) * sc

/-! The blocks at a grid point, which is a batch and a head. -/

abbrev pb (t : Fin cfg0.N) : Fin 4 := ⟨t.val / 4, by have := lt_of_lt_of_eq t.isLt N_0; omega⟩
abbrev ph (t : Fin cfg0.N) : Fin 4 := ⟨t.val % 4, by omega⟩

theorem idx : ∀ t : Fin cfg0.N, win0_0.index t = ![t.val / 4, 0, t.val % 4] ∧ win0_1.index t = ![t.val / 4, 0, t.val % 4]
    ∧ win0_2.index t = ![t.val / 4, 0, 2 * (t.val % 4)] ∧ win0_3.index t = ![t.val / 4, 0, 0]
    ∧ win0_4.index t = ![t.val / 4, 0, 2 * (t.val % 4) + 1] ∧ win0_5.index t = ![t.val / 4, 0, t.val % 4]
    ∧ win0_6.index t = ![t.val / 4, 0, t.val % 4] ∧ win0_7.index t = ![t.val / 4, t.val % 4, 0, 0]
    ∧ win0_8.index t = ![t.val / 4, 0, t.val % 4] ∧ win0_9.index t = ![t.val / 4, 0, t.val % 4]
    ∧ win0_10.index t = ![t.val / 4, 0, t.val % 4] ∧ win0_11.index t = ![t.val % 4, t.val / 4, 0, 0] :=
  (by decide +kernel : ∀ t : Fin grid0.N, _)

theorem read0 (t : Fin cfg0.N) (r : Fin 2048) (d : Fin 128) (A : FVec Ideal S4x2048x512 .bf16) :
    (win0_0.blk t).view.read (Elt Ideal) A (ix3 0 r d) = A (ix3 (pb t) r (lane (ph t) d)) := by
  blk_ext [idx t]
theorem read1 (t : Fin cfg0.N) (r : Fin 2048) (d : Fin 128) (A : FVec Ideal S4x2048x512 .bf16) :
    (win0_1.blk t).view.read (Elt Ideal) A (ix3 0 r d) = A (ix3 (pb t) r (lane (ph t) d)) := by
  blk_ext [idx t]
theorem read2 (t : Fin cfg0.N) (r : Fin 2048) (d : Fin 128) (A : FVec Ideal S4x2048x1024 .bf16) :
    (win0_2.blk t).view.read (Elt Ideal) A (ix3 0 r d) = A (ix3 (pb t) r ⟨256 * (ph t).val + d.val, by omega⟩) := by
  blk_ext [idx t]
theorem read3 (t : Fin cfg0.N) (r : Fin 2048) (d : Fin 128) (A : FVec Ideal S4x2048x128 .bf16) :
    (win0_3.blk t).view.read (Elt Ideal) A (ix3 0 r d) = A (ix3 (pb t) r d) := by
  blk_ext [idx t]
theorem read4 (t : Fin cfg0.N) (r : Fin 2048) (d : Fin 128) (A : FVec Ideal S4x2048x1024 .bf16) :
    (win0_4.blk t).view.read (Elt Ideal) A (ix3 0 r d) = A (ix3 (pb t) r ⟨256 * (ph t).val + (128 + d.val), by omega⟩) := by
  blk_ext [idx t]
theorem read5 (t : Fin cfg0.N) (r : Fin 2048) (d : Fin 128) (A : FVec Ideal S4x2048x512 .f32) :
    (win0_5.blk t).view.read (Elt Ideal) A (ix3 0 r d) = A (ix3 (pb t) r (lane (ph t) d)) := by
  blk_ext [idx t]
theorem read6 (t : Fin cfg0.N) (r : Fin 2048) (d : Fin 128) (A : FVec Ideal S4x2048x512 .bf16) :
    (win0_6.blk t).view.read (Elt Ideal) A (ix3 0 r d) = A (ix3 (pb t) r (lane (ph t) d)) := by
  blk_ext [idx t]

theorem block0 (t : Fin cfg0.N) (r : Fin 2048) (d : Fin 128) : iblk m c 0 t (ix3 0 r d) = qn m c (ix4 (pb t) r (ph t) d) :=
  (read0 t r d (V m c main_v32)).trans (qn_array m c (pb t) r (ph t) d)
theorem block1 (t : Fin cfg0.N) (r : Fin 2048) (d : Fin 128) : iblk m c 1 t (ix3 0 r d)
    = if hd : d.val < 64 then qr m c (ix4 (pb t) r (ph t) ⟨d.val, hd⟩) else 0 :=
  (read1 t r d (V m c main_v36)).trans (qr_array m c (pb t) r (ph t) d)
theorem block2 (t : Fin cfg0.N) (r : Fin 2048) (d : Fin 128) : iblk m c 2 t (ix3 0 r d)
    = kv m c (ix4 (pb t) r (ph t) ⟨d.val, by omega⟩) :=
  (read2 t r d (V m c main_v38)).trans (kv_array m c (pb t) r (ph t) ⟨d.val, by omega⟩)
theorem block3 (t : Fin cfg0.N) (r : Fin 2048) (d : Fin 128) : iblk m c 3 t (ix3 0 r d)
    = if hd : d.val < 64 then kr m c (ix3 (pb t) r ⟨d.val, hd⟩) else 0 :=
  (read3 t r d (V m c main_v41)).trans (kr_array m c (pb t) r d)
theorem block4 (t : Fin cfg0.N) (r : Fin 2048) (d : Fin 128) : iblk m c 4 t (ix3 0 r d)
    = kv m c (ix4 (pb t) r (ph t) ⟨128 + d.val, by omega⟩) :=
  (read4 t r d (V m c main_v38)).trans (kv_array m c (pb t) r (ph t) ⟨128 + d.val, by omega⟩)
theorem block5 (t : Fin cfg0.N) (r : Fin 2048) (d : Fin 128) : iblk m c 5 t (ix3 0 r d)
    = att m c (pb t) (ph t) r d :=
  (read5 t r d (V m c main_v27)).trans (o_array m c (pb t) r (ph t) d)
theorem block6 (t : Fin cfg0.N) (r : Fin 2048) (d : Fin 128) : iblk m c 6 t (ix3 0 r d) = dout m c (ix4 (pb t) r (ph t) d) :=
  (read6 t r d (V m c main_v43)).trans (dout_array m c (pb t) r (ph t) d)
theorem read7 (t : Fin cfg0.N) (r : Fin 2048) (l : Fin 128) (A : FVec Ideal S4x4x2048x128 .f32) :
    (win0_7.blk t).view.read (Elt Ideal) A (ix4 0 0 r l) = A (ix4 (pb t) (ph t) r l) := by
  refine congrArg A (funext fun a => Fin.ext ?_)
  fin_cases a
  all_goals (try simp only [ValueKit.finMkLit, Fin.isValue]) <;> (try blk_simp [idx t])
  · exact Nat.add_zero _
  · exact Nat.add_zero _

theorem block7 (t : Fin cfg0.N) (r : Fin 2048) : iblk m c 7 t (ix4 0 0 r 0) = lse m c (pb t) (ph t) r :=
  (read7 t r 0 (V m c main_v30)).trans (lse_array m c (pb t) (ph t) r 0)

/-- The body's operands at a grid point. -/
def ins (t : Fin cfg0.N) : Ins Ideal :=
  ⟨c, grid0.coords t, ms0_0 t, hs0_0 t, ms0_1 t, hs0_1 t, ms0_2 t, hs0_2 t, ms0_3 t, hs0_3 t, ms0_4 t, hs0_4 t, ms0_5 t, hs0_5 t,
    ms0_6 t, hs0_6 t, ms0_7 t, hs0_7 t, ms0_8 t, hs0_8 t, ms0_9 t, hs0_9 t, ms0_10 t, hs0_10 t, ms0_11 t, hs0_11 t,
    scM0_0, Memref.isWhole_whole _, scM0_1, Memref.isWhole_whole _,
    iblk m c 0 t, iblk m c 1 t, iblk m c 2 t, iblk m c 3 t, iblk m c 4 t, iblk m c 5 t, iblk m c 6 t, iblk m c 7 t⟩

/-! What the body leaves in the four output blocks at a grid point. -/

def Ins.o8 (I : Ins Ideal) := out0_A_8 I.c I.i I.a2 I.h2 I.a3 I.h3 I.a4 I.h4 I.a5 I.h5 I.a6 I.h6 I.a7 I.h7 I.a8 I.h8
    I.a9 I.h9 I.a10 I.h10 I.a11 I.h11 I.a12 I.h12 I.a13 I.h13 I.a14 I.h14 I.a15 I.h15
    I.x0 I.x1 I.x2 I.x3 I.x4 I.x5 I.x6 I.x7
def Ins.o9 (I : Ins Ideal) := out0_A_9 I.c I.i I.a2 I.h2 I.a3 I.h3 I.a4 I.h4 I.a5 I.h5 I.a6 I.h6 I.a7 I.h7 I.a8 I.h8
    I.a9 I.h9 I.a10 I.h10 I.a11 I.h11 I.a12 I.h12 I.a13 I.h13 I.a14 I.h14 I.a15 I.h15
    I.x0 I.x1 I.x2 I.x3 I.x4 I.x5 I.x6 I.x7
def Ins.o10 (I : Ins Ideal) := out0_A_10 I.c I.i I.a2 I.h2 I.a3 I.h3 I.a4 I.h4 I.a5 I.h5 I.a6 I.h6 I.a7 I.h7 I.a8 I.h8
    I.a9 I.h9 I.a10 I.h10 I.a11 I.h11 I.a12 I.h12 I.a13 I.h13 I.a14 I.h14 I.a15 I.h15
    I.x0 I.x1 I.x2 I.x3 I.x4 I.x5 I.x6 I.x7
def Ins.o11 (I : Ins Ideal) := out0_A_11 I.c I.i I.a2 I.h2 I.a3 I.h3 I.a4 I.h4 I.a5 I.h5 I.a6 I.h6 I.a7 I.h7 I.a8 I.h8
    I.a9 I.h9 I.a10 I.h10 I.a11 I.h11 I.a12 I.h12 I.a13 I.h13 I.a14 I.h14 I.a15 I.h15
    I.x0 I.x1 I.x2 I.x3 I.x4 I.x5 I.x6 I.x7

theorem o8_eq (I : Ins Ideal) : I.o8 = View.canon I.run.1 := View.read_writes_junk_eq_canon VO0_8 I.run.1
theorem o9_eq (I : Ins Ideal) : I.o9 = View.canon I.run.2.1 := View.read_writes_junk_eq_canon VO0_9 I.run.2.1
theorem o10_eq (I : Ins Ideal) : I.o10 = View.canon I.run.2.2.1 := View.read_writes_junk_eq_canon VO0_10 I.run.2.2.1
theorem o11_eq (I : Ins Ideal) : I.o11 = View.canon I.run.2.2.2.1 := View.read_writes_junk_eq_canon VO0_11 I.run.2.2.2.1

theorem outs8 (t : Fin cfg0.N) : (outsAt0 m c t).1 = (ins m c t).o8 := by sl_kernel_rfl
theorem body8 (t : Fin cfg0.N) : (outsAt0 m c t).1 = View.canon (ins m c t).run.1 := (outs8 m c t).trans (o8_eq _)
theorem outs9 (t : Fin cfg0.N) : (outsAt0 m c t).2.1 = (ins m c t).o9 := by sl_kernel_rfl
theorem body9 (t : Fin cfg0.N) : (outsAt0 m c t).2.1 = View.canon (ins m c t).run.2.1 := (outs9 m c t).trans (o9_eq _)
theorem outs10 (t : Fin cfg0.N) : (outsAt0 m c t).2.2.1 = (ins m c t).o10 := by sl_kernel_rfl
theorem body10 (t : Fin cfg0.N) : (outsAt0 m c t).2.2.1 = View.canon (ins m c t).run.2.2.1 := (outs10 m c t).trans (o10_eq _)
theorem outs11 (t : Fin cfg0.N) : (outsAt0 m c t).2.2.2 = (ins m c t).o11 := by sl_kernel_rfl
theorem body11 (t : Fin cfg0.N) : (outsAt0 m c t).2.2.2 = View.canon (ins m c t).run.2.2.2.1 := (outs11 m c t).trans (o11_eq _)

theorem sum_pad (f : Fin 64 → EReal) (g : Fin 128 → EReal) (h : ∀ d : Fin 128, g d = if hd : d.val < 64 then f ⟨d.val, hd⟩ else 0) :
    ∑ d, g d = ∑ d, f d := by
  have e : ∑ d : Fin 128, g d = ∑ d : Fin (64 + 64), g d := rfl
  rw [e, Fin.sum_univ_add]
  have h1 : ∀ d : Fin 64, g (Fin.castAdd 64 d) = f d := fun d => by rw [h, dif_pos (show (Fin.castAdd 64 d).val < 64 from d.isLt)]; rfl
  have h2 : ∀ d : Fin 64, g (Fin.natAdd 64 d) = 0 := fun d => by rw [h, dif_neg (by simp)]
  simp only [h1, h2, Finset.sum_const_zero, add_zero]

theorem sum_two (g : Fin 256 → EReal) :
    ∑ d, g d = (∑ d : Fin 128, g ⟨d.val, by omega⟩) + ∑ d : Fin 128, g ⟨128 + d.val, by omega⟩ := by
  have e : ∑ d : Fin 256, g d = ∑ d : Fin (128 + 128), g d := rfl
  rw [e, Fin.sum_univ_add]
  rfl

variable (t : Fin cfg0.N)

theorem ins0 (r : Fin 2048) (d : Fin 128) : (ins m c t).x0 (ix3 0 r d) = qn m c (ix4 (pb t) r (ph t) d) := block0 m c t r d
theorem ins1 (r : Fin 2048) (d : Fin 128) : (ins m c t).x1 (ix3 0 r d)
    = if hd : d.val < 64 then qr m c (ix4 (pb t) r (ph t) ⟨d.val, hd⟩) else 0 := block1 m c t r d
theorem ins2 (r : Fin 2048) (d : Fin 128) : (ins m c t).x2 (ix3 0 r d) = kv m c (ix4 (pb t) r (ph t) ⟨d.val, by omega⟩) :=
  block2 m c t r d
theorem ins3 (r : Fin 2048) (d : Fin 128) : (ins m c t).x3 (ix3 0 r d)
    = if hd : d.val < 64 then kr m c (ix3 (pb t) r ⟨d.val, hd⟩) else 0 := block3 m c t r d
theorem ins4 (r : Fin 2048) (d : Fin 128) : (ins m c t).x4 (ix3 0 r d) = kv m c (ix4 (pb t) r (ph t) ⟨128 + d.val, by omega⟩) :=
  block4 m c t r d
theorem ins5 (r : Fin 2048) (d : Fin 128) : (ins m c t).x5 (ix3 0 r d) = att m c (pb t) (ph t) r d := block5 m c t r d
theorem ins6 (r : Fin 2048) (d : Fin 128) : (ins m c t).x6 (ix3 0 r d) = dout m c (ix4 (pb t) r (ph t) d) := block6 m c t r d
theorem ins7 (r : Fin 2048) : (ins m c t).x7 (ix4 0 0 r 0) = lse m c (pb t) (ph t) r := block7 m c t r

theorem score_at (r k : Fin 2048) : score (ins m c t) r k = raw m c (pb t) (ph t) r k := by
  unfold score raw
  rw [sum_two]
  simp only [two_lo, two_hi, ins0, ins1, ins2, ins3]
  congr 1
  refine sum_pad _ _ fun d => ?_
  split_ifs
  · rfl
  · exact mul_zero 0

theorem prb_at (r k : Fin 2048) : prb (ins m c t) r k = P m c (pb t) (ph t) r k := by
  unfold prb P
  rw [score_at, ins7]

theorem dsc_at (r k : Fin 2048) : dsc (ins m c t) r k = D m c (pb t) (ph t) r k := by
  unfold dsc D dP dl rowDelta
  simp only [prb_at, ins4, ins5, ins6]

/-! The four arrays. -/

def hd (j : Fin 512) : Fin 4 := ⟨j.val / 128, by omega⟩
def lo (j : Fin 512) : Fin 128 := ⟨j.val % 128, by omega⟩
theorem hd_lane (h : Fin 4) (d : Fin 128) : hd (lane h d) = h := Fin.ext (by simp only [hd, lane]; omega)
theorem lo_lane (h : Fin 4) (d : Fin 128) : lo (lane h d) = d := Fin.ext (by simp only [lo, lane]; omega)

abbrev lane2 (h : Fin 4) (d : Fin 256) : Fin 1024 := ⟨256 * h.val + d.val, by omega⟩
def hd2 (j : Fin 1024) : Fin 4 := ⟨j.val / 256, by omega⟩
def lo2 (j : Fin 1024) : Fin 256 := ⟨j.val % 256, by omega⟩
theorem hd2_lane (h : Fin 4) (d : Fin 256) : hd2 (lane2 h d) = h := Fin.ext (by simp only [hd2, lane2]; omega)
theorem lo2_lane (h : Fin 4) (d : Fin 256) : lo2 (lane2 h d) = d := Fin.ext (by simp only [lo2, lane2]; omega)

def R8 (b : Fin 4) (r : Fin 2048) (h : Fin 4) (d : Fin 128) : EReal := ∑ k, D m c b h r k * kv m c (ix4 b k h ⟨d.val, by omega⟩)
def R9 (b : Fin 4) (r : Fin 2048) (h : Fin 4) (d : Fin 128) : EReal :=
  ∑ k, D m c b h r k * (if hd : d.val < 64 then kr m c (ix3 b k ⟨d.val, hd⟩) else 0 : EReal)
def R10 (b : Fin 4) (k : Fin 2048) (h : Fin 4) (d : Fin 256) : EReal :=
  if hd : d.val < 128 then ∑ r, D m c b h r k * qn m c (ix4 b r h ⟨d.val, hd⟩)
  else ∑ r, P m c b h r k * dout m c (ix4 b r h ⟨d.val - 128, by omega⟩)
def R11 (h b : Fin 4) (k : Fin 2048) (d : Fin 128) : EReal :=
  ∑ r, D m c b h r k * (if hd : d.val < 64 then qr m c (ix4 b r h ⟨d.val, hd⟩) else 0 : EReal)

def G8 : FVec Ideal S4x2048x512 .f32 := fun i => R8 m c (i 0) (i 1) (hd (i 2)) (lo (i 2))
def G9 : FVec Ideal S4x2048x512 .f32 := fun i => R9 m c (i 0) (i 1) (hd (i 2)) (lo (i 2))
def G10 : FVec Ideal S4x2048x1024 .f32 := fun i => R10 m c (i 0) (i 1) (hd2 (i 2)) (lo2 (i 2))
def G11 : FVec Ideal S4x4x2048x128 .f32 := fun i => R11 m c (i 0) (i 1) (i 2) (i 3)

theorem G8_at (b : Fin 4) (r : Fin 2048) (h : Fin 4) (d : Fin 128) : G8 m c (ix3 b r (lane h d)) = R8 m c b r h d := by
  show R8 m c b r (hd (lane h d)) (lo (lane h d)) = _
  rw [hd_lane, lo_lane]
theorem G9_at (b : Fin 4) (r : Fin 2048) (h : Fin 4) (d : Fin 128) : G9 m c (ix3 b r (lane h d)) = R9 m c b r h d := by
  show R9 m c b r (hd (lane h d)) (lo (lane h d)) = _
  rw [hd_lane, lo_lane]
theorem G10_at (b : Fin 4) (r : Fin 2048) (h : Fin 4) (d : Fin 256) : G10 m c (ix3 b r (lane2 h d)) = R10 m c b r h d := by
  show R10 m c b r (hd2 (lane2 h d)) (lo2 (lane2 h d)) = _
  rw [hd2_lane, lo2_lane]

theorem array8 : (dats m 0 c).arrAt 8 (cfgs 0).N = G8 m c := by
  refine (dats m 0 c).arrAt_eq_of_covers 8 _ (by decide +kernel) fun t _ y => ?_
  blk_simp
  rw [after0_8]
  idx_vars y
  obtain rfl : y0 = 0 := Subsingleton.elim _ _
  refine Eq.trans ?_ (congrArg (G8 m c) (show ix3 (pb t) y1 (lane (ph t) y2) = _ by blk_ext [idx t]))
  refine Eq.trans (congrFun (body8 m c t) _) ?_
  rw [out_dqn, G8_at]
  simp only [dsc_at, ins2]
  rfl

theorem array9 : (dats m 0 c).arrAt 9 (cfgs 0).N = G9 m c := by
  refine (dats m 0 c).arrAt_eq_of_covers 9 _ (by decide +kernel) fun t _ y => ?_
  blk_simp
  rw [after0_9]
  idx_vars y
  obtain rfl : y0 = 0 := Subsingleton.elim _ _
  refine Eq.trans ?_ (congrArg (G9 m c) (show ix3 (pb t) y1 (lane (ph t) y2) = _ by blk_ext [idx t]))
  refine Eq.trans (congrFun (body9 m c t) _) ?_
  rw [out_dqr, G9_at]
  simp only [dsc_at, ins3]
  rfl

theorem array10 : (dats m 0 c).arrAt 10 (cfgs 0).N = G10 m c := by
  refine (dats m 0 c).arrAt_eq_of_covers 10 _ (by decide +kernel) fun t _ y => ?_
  blk_simp
  rw [after0_10]
  idx_vars y
  obtain rfl : y0 = 0 := Subsingleton.elim _ _
  refine Eq.trans ?_ (congrArg (G10 m c) (show ix3 (pb t) y1 (lane2 (ph t) y2) = _ by blk_ext [idx t]))
  refine Eq.trans (congrFun (body10 m c t) _) ?_
  rw [G10_at]
  unfold R10
  split_ifs with h
  · refine (out_dk (ins m c t) y1 ⟨y2.val, h⟩).trans ?_
    simp only [dsc_at, ins0]
  · have e : y2 = ⟨128 + (⟨y2.val - 128, by omega⟩ : Fin 128).val, by simp only []; omega⟩ := Fin.ext (by simp only []; omega)
    refine (congrArg (fun z : Fin 256 => View.canon (ins m c t).run.2.2.1 (ix3 0 y1 z)) e).trans ?_
    refine (out_dv (ins m c t) y1 ⟨y2.val - 128, by omega⟩).trans ?_
    simp only [prb_at, ins6]

theorem array11 : (dats m 0 c).arrAt 11 (cfgs 0).N = G11 m c := by
  refine (dats m 0 c).arrAt_eq_of_covers 11 _ (by decide +kernel) fun t _ y => ?_
  blk_simp
  rw [after0_11]
  idx_vars y
  obtain rfl : y0 = 0 := Subsingleton.elim _ _
  obtain rfl : y1 = 0 := Subsingleton.elim _ _
  refine Eq.trans ?_ (congrArg (G11 m c) (show ix4 (ph t) (pb t) y2 y3 = _ from ?_))
  · refine Eq.trans (congrFun (body11 m c t) _) ?_
    rw [out_dkr]
    simp only [dsc_at, ins1]
    rfl
  · funext a
    refine Fin.ext ?_
    fin_cases a
    all_goals (try simp only [ValueKit.finMkLit, Fin.isValue]) <;> (try blk_simp [idx t])
    · exact (Nat.add_zero _).symm
    · exact (Nat.add_zero _).symm

end Cert.Kernel2Ideal.Attn

end
-- ==== Proof.AttnTail.lean ====
/- The host lines after the attention's backward kernel: its four results in terms of the arguments, at `F := Ideal`. -/
module

public import proofs.«01_k».proof.Proof.AttnFinal

@[expose] public section

set_option maxRecDepth 16384

noncomputable section

namespace Cert.Kernel2Ideal.Attn

open Idealize.ShloMosaic Idealize.ShloMosaic.TcCoe Idealize.SL Idealize.SL.Sem Cert.Kernel2Ideal.Gen
open Idealize.ShloMosaic.Pipeline (Dat)

/-! The lines at any contents of the memory. -/

section Lines

variable (W : Valuation τ sig (Elt Ideal))

def after45 : FVec Ideal S4x2048x4x128 .f32 := shapeCast S4x2048x4x128 (W (Proc.devRef .tc main_v44_0)) shapeCasts_S4x2048x512_S4x2048x4x128
def after46 : FVec Ideal S4x2048x4x128 .f32 := shapeCast S4x2048x4x128 (W (Proc.devRef .tc main_v44_1)) shapeCasts_S4x2048x512_S4x2048x4x128
def after48 : FVec Ideal S4x2048x4x256 .f32 := shapeCast S4x2048x4x256 (W (Proc.devRef .tc main_v44_2)) shapeCasts_S4x2048x1024_S4x2048x4x256

theorem line45 : StableHlo.after hostOps1 W (Proc.devRef .tc main_v45) = after45 W := by
  after_results_simp; rfl
theorem line47 : StableHlo.after hostOps1 W (Proc.devRef .tc main_v47)
    = extractStridedSlice S4x2048x4x64 ![0, 0, 0, 0] (after46 W) slices_S4x2048x4x128_S4x2048x4x64_0_0_0_0 := by
  after_results_simp; rfl
theorem line48 : StableHlo.after hostOps1 W (Proc.devRef .tc main_v48) = after48 W := by
  after_results_simp; rfl

/-- The rotary key's gradient summed over the four heads. -/
def heads (A : FVec Ideal S4x4x2048x128 .f32) : FVec Ideal S4x2048x128 .f32 :=
  addf (addf (addf (shapeCast S4x2048x128 (extractStridedSlice S1x4x2048x128 ![0, 0, 0, 0] A slices_S4x4x2048x128_S1x4x2048x128_0_0_0_0) shapeCasts_S1x4x2048x128_S4x2048x128)
    (shapeCast S4x2048x128 (extractStridedSlice S1x4x2048x128 ![1, 0, 0, 0] A slices_S4x4x2048x128_S1x4x2048x128_1_0_0_0) shapeCasts_S1x4x2048x128_S4x2048x128))
    (shapeCast S4x2048x128 (extractStridedSlice S1x4x2048x128 ![2, 0, 0, 0] A slices_S4x4x2048x128_S1x4x2048x128_2_0_0_0) shapeCasts_S1x4x2048x128_S4x2048x128))
    (shapeCast S4x2048x128 (extractStridedSlice S1x4x2048x128 ![3, 0, 0, 0] A slices_S4x4x2048x128_S1x4x2048x128_3_0_0_0) shapeCasts_S1x4x2048x128_S4x2048x128)

theorem line60 : StableHlo.after hostOps1 W (Proc.devRef .tc main_v60)
    = extractStridedSlice S4x2048x64 ![0, 0, 0] (heads (W (Proc.devRef .tc main_v44_3))) slices_S4x2048x128_S4x2048x64_0_0_0 := by
  after_results_simp; rfl

theorem heads_at (A : FVec Ideal S4x4x2048x128 .f32) (b : Fin 4) (k : Fin 2048) (d : Fin 128) :
    heads A (ix3 b k d) = A (ix4 0 b k d) + A (ix4 1 b k d) + A (ix4 2 b k d) + A (ix4 3 b k d) := by
  pointwise [heads]

end Lines

variable (m : (ℓ : Loc nD τ sig) → Buf (Elt Ideal) ℓ) (c : Dev nD)

/-- The memory as the kernel leaves it. -/
def left : Valuation τ sig (Elt Ideal) := Pipeline.withArrays (cfgs 0).spec c (V0 m c) fun w => (dats m 0 c).arrAt w (cfgs 0).N

theorem left_arr (w : Fin (cfgs 0).W) : left m c (Proc.devRef .tc (Pipeline.arrRef (cfgs 0).spec w)) = (dats m 0 c).arrAt w (cfgs 0).N :=
  (dats m 0 c).withArrays_arrAt (by decide) (V0 m c) (A_eq m c) w

theorem result45 (b : Fin 4) (r : Fin 2048) (h : Fin 4) (d : Fin 128) : StableHlo.after hostOps1 (left m c) (Proc.devRef .tc main_v45) (ix4 b r h d) = R8 m c b r h d := by
  have e : left m c (Proc.devRef .tc main_v44_0) = G8 m c := (left_arr m c 8).trans (array8 m c)
  rw [line45]
  pointwise [after45]
  rw [e, ← G8_at]
  exact congrArg (fun z => G8 m c (ix3 b r z)) (Fin.ext (by simp only [lane]; omega))
theorem result47 (b : Fin 4) (r : Fin 2048) (h : Fin 4) (d : Fin 64) : StableHlo.after hostOps1 (left m c) (Proc.devRef .tc main_v47) (ix4 b r h d) = R9 m c b r h ⟨d.val, by omega⟩ := by
  have e : left m c (Proc.devRef .tc main_v44_1) = G9 m c := (left_arr m c 9).trans (array9 m c)
  rw [line47]
  pointwise [after46]
  rw [e, ← G9_at]
  exact congrArg (fun z => G9 m c (ix3 b r z)) (Fin.ext (by simp only [lane]; omega))
theorem result48 (b : Fin 4) (r : Fin 2048) (h : Fin 4) (d : Fin 256) : StableHlo.after hostOps1 (left m c) (Proc.devRef .tc main_v48) (ix4 b r h d) = R10 m c b r h d := by
  have e : left m c (Proc.devRef .tc main_v44_2) = G10 m c := (left_arr m c 10).trans (array10 m c)
  rw [line48]
  pointwise [after48]
  rw [e, ← G10_at]
  exact congrArg (fun z => G10 m c (ix3 b r z)) (Fin.ext (by simp only [lane2]; omega))
theorem result60 (b : Fin 4) (k : Fin 2048) (d : Fin 64) : StableHlo.after hostOps1 (left m c) (Proc.devRef .tc main_v60) (ix3 b k d)
    = R11 m c 0 b k ⟨d.val, by omega⟩ + R11 m c 1 b k ⟨d.val, by omega⟩ + R11 m c 2 b k ⟨d.val, by omega⟩ + R11 m c 3 b k ⟨d.val, by omega⟩ := by
  have e : left m c (Proc.devRef .tc main_v44_3) = G11 m c := (left_arr m c 11).trans (array11 m c)
  rw [line60, e]
  refine Eq.trans ?_ (heads_at (G11 m c) b k ⟨d.val, by omega⟩)
  pointwise

end Cert.Kernel2Ideal.Attn

end
-- ==== Proof.AttnRow.lean ====
/- One row of a masked softmax and its gradient, over the reals: the form that keeps the row's logarithm of the sum and
   the form that differentiates the quotient agree where the scores are real numbers. -/
module

public import proofs.«01_k».proof.Proof.RmsRow

@[expose] public section

noncomputable section

open Idealize.ShloMosaic RmsRow

namespace AttnRow

variable {n : ℕ} (mask : Fin n → Prop) [DecidablePred mask] (s : Fin n → EReal) (M : EReal)

/-- The masked row's exponentials less its greatest score. -/
def ex (k : Fin n) : EReal := Ideal.exp ((if mask k then s k else ⊥) - M)

theorem ex_real (hs : ∀ k, IsReal (s k)) (hM : IsReal M) :
    ∃ e : Fin n → ℝ, (∀ k, ex mask s M k = (e k : EReal)) ∧ ∀ k, (mask k → 0 < e k) ∧ (¬ mask k → e k = 0) := by
  choose t ht using hs
  obtain ⟨M', rfl⟩ := hM
  refine ⟨fun k => if mask k then Real.exp (t k - M') else 0, fun k => ?_, fun k => ⟨fun h => ?_, fun h => if_neg h⟩⟩
  · unfold ex
    by_cases h : mask k
    · beta_reduce; rw [if_pos h, if_pos h, ht, ← EReal.coe_sub, Ideal.exp_coe]
    · beta_reduce; rw [if_neg h, if_neg h, EReal.bot_sub, Ideal.exp_bot, EReal.coe_zero]
  · simp only [if_pos h]; exact Real.exp_pos _

/-- The row read over the reals. -/
structure Row where
  e : Fin n → ℝ
  he : ∀ k, ex mask s M k = (e k : EReal)
  d : ℝ
  hd : ∑ k, ex mask s M k = (d : EReal)
  pos : 0 < d
  off : ∀ k, ¬ mask k → e k = 0
  prob : ∀ k, mask k → Ideal.exp (s k - (M + Ideal.log (∑ j, ex mask s M j))) = ((e k / d : ℝ) : EReal)

theorem row (hs : ∀ k, IsReal (s k)) (hM : IsReal M) (hk : ∃ k, mask k) : Nonempty (Row mask s M) := by
  obtain ⟨e, he, h⟩ := ex_real mask s M hs hM
  have nn : ∀ k, 0 ≤ e k := fun k => by
    by_cases m : mask k
    · exact ((h k).1 m).le
    · exact ((h k).2 m).ge
  have hd : ∑ k, ex mask s M k = ((∑ k, e k : ℝ) : EReal) := by simp only [he]; exact coe_sum _ _
  have pos : 0 < ∑ k, e k := by
    obtain ⟨k, m⟩ := hk
    exact Finset.sum_pos' (fun k _ => nn k) ⟨k, Finset.mem_univ _, (h k).1 m⟩
  refine ⟨⟨e, he, _, hd, pos, fun k => (h k).2, fun k m => ?_⟩⟩
  rw [hd, Ideal.log_coe, if_neg (not_le.mpr pos)]
  obtain ⟨t, ht⟩ := hs k
  obtain ⟨M', hM'⟩ := hM
  have hek := he k
  rw [ex, if_pos m, ht, hM', ← EReal.coe_sub, Ideal.exp_coe] at hek
  rw [ht, hM', ← EReal.coe_add, ← EReal.coe_sub, Ideal.exp_coe, ← EReal.coe_eq_coe_iff.mp hek]
  refine congrArg _ ?_
  rw [← sub_sub, Real.exp_sub, Real.exp_log pos]

variable {mask s M}

theorem Row.div (R : Row mask s M) (k : Fin n) : Ideal.div (ex mask s M k) (∑ j, ex mask s M j) = ((R.e k / R.d : ℝ) : EReal) := by
  rw [R.he, R.hd]
  exact div_real _ R.pos.ne'

/-- The gradient of the masked scores: `p (dp − ∑ p dp)` is the derivative of the quotient of the exponentials by their
    sum, `(dp / d − ∑ dp e / d²) e`. -/
theorem Row.grad (R : Row mask s M) (q : Fin n → EReal) (hq : ∀ k, IsReal (q k)) (k : Fin n) :
    (if mask k then Ideal.exp (s k - (M + Ideal.log (∑ j, ex mask s M j))) else 0)
        * (q k - ∑ j, Ideal.div (ex mask s M j) (∑ j, ex mask s M j) * q j)
      = if mask k then (Ideal.div (q k) (∑ j, ex mask s M j)
          + -∑ j, q j * Ideal.div ((1 : ℝ) : EReal) ((∑ j, ex mask s M j) * ∑ j, ex mask s M j) * ex mask s M j) * ex mask s M k else 0 := by
  choose t ht using hq
  simp only [R.div]
  by_cases m : mask k
  · rw [if_pos m, if_pos m, R.prob k m, R.hd]
    simp only [ht, R.he, ← EReal.coe_mul, coe_sum, ← EReal.coe_sub, ← EReal.coe_neg, ← EReal.coe_add,
      div_real _ R.pos.ne', div_real _ (mul_pos R.pos R.pos).ne']
    refine congrArg _ ?_
    have e : ∑ j, t j * (1 / (R.d * R.d)) * R.e j = (∑ j, R.e j / R.d * t j) / R.d := by
      rw [Finset.sum_div]
      refine Finset.sum_congr rfl fun j _ => ?_
      field_simp
    rw [e]
    ring
  · simp only [if_neg m, ht, ← EReal.coe_mul, coe_sum, ← EReal.coe_sub, zero_mul]

/-- The row's sum of the output's gradient times the output is the sum of the probabilities times their gradients. -/
theorem Row.delta {D : ℕ} (R : Row mask s M) (u : Fin D → EReal) (v : Fin n → Fin D → EReal) (hu : ∀ i, IsReal (u i)) (hv : ∀ k i, IsReal (v k i)) :
    ∑ i, u i * ∑ k, v k i * Ideal.div (ex mask s M k) (∑ j, ex mask s M j)
      = ∑ k, Ideal.div (ex mask s M k) (∑ j, ex mask s M j) * ∑ i, u i * v k i := by
  choose u' hu' using hu
  choose v' hv' using hv
  simp only [R.div, hu', hv', ← EReal.coe_mul, coe_sum]
  refine congrArg _ ?_
  simp only [Finset.mul_sum]
  rw [Finset.sum_comm]
  refine Finset.sum_congr rfl fun k _ => Finset.sum_congr rfl fun i _ => ?_
  ring

/-- The greatest of finitely many entries none of which is `⊤`, one of which is real, is real. -/
theorem isReal_fold_max {ι : Type*} (S : Finset ι) (f : ι → EReal) (h : ∀ i ∈ S, f i < ⊤) (i : ι) (hi : i ∈ S) (hr : IsReal (f i)) :
    IsReal (S.fold max ⊥ f) := by
  obtain ⟨x, hx⟩ := hr
  have h1 : S.fold max ⊥ f < ⊤ := (Finset.fold_max_lt _).mpr ⟨bot_lt_top, h⟩
  have h2 : ⊥ < S.fold max ⊥ f := (Finset.lt_fold_max _).mpr (Or.inr ⟨i, hi, by rw [hx]; exact EReal.bot_lt_coe _⟩)
  exact ⟨_, (EReal.coe_toReal h1.ne h2.ne').symm⟩

end AttnRow

end
-- ==== Proof.AttnReal.lean ====
/- The attention's reference gradients read at an index, and the gradient of its scores beside the kernel's, at
   `F := Ideal`. -/
module

public import proofs.«01_k».proof.Proof.AttnFinal
public import proofs.«01_k».proof.Proof.AttnRow
public import proofs.«01_k».proof.Proof.Consts

@[expose] public section

set_option maxRecDepth 16384

noncomputable section

namespace Cert.Kernel2Ideal.Attn

open Idealize.ShloMosaic Idealize.ShloMosaic.TcCoe Idealize.SL Idealize.SL.Sem Cert.Kernel2Ideal.Gen Cert.Reference2Ideal.Read RmsRow Consts

section Read

variable (x0 : FVec Ideal S4x2048x4x128 .f32) (x1 : FVec Ideal S4x2048x4x64 .f32) (x2 : FVec Ideal S4x2048x4x256 .f32)
  (x3 : FVec Ideal S4x2048x64 .f32) (x4 : FVec Ideal S4x2048x4x128 .f32)

theorem sge_row (r k : Fin 2048) : IntOp.cmpi .sge (BitVec.ofNat 32 r.val) (BitVec.ofNat 32 k.val) = if k ≤ r then 1#1 else 0#1 := by
  have ha : (BitVec.ofNat 32 r.val).toInt = r.val := by
    rw [BitVec.toInt_eq_toNat_of_lt] <;> rw [BitVec.toNat_ofNat] <;> have := r.isLt <;> omega
  have hb : (BitVec.ofNat 32 k.val).toInt = k.val := by
    rw [BitVec.toInt_eq_toNat_of_lt] <;> rw [BitVec.toNat_ofNat] <;> have := k.isLt <;> omega
  simp only [IntOp.cmpi, BitVec.sle, ha, hb, Nat.cast_le, Fin.val_fin_le]
  by_cases h : k ≤ r <;> simp [h]

theorem v2_at (b h : Fin 4) (r k : Fin 2048) : val_main_v2 (F := Ideal) x0 x2 (ix4 b h r k) = ∑ d : Fin 128, x0 (ix4 b r h d) * x2 (ix4 b k h ⟨d.val, by omega⟩) := by
  pointwise [val_main_v2, val_main_v0]
theorem v4_at (b h : Fin 4) (r k : Fin 2048) : val_main_v4 (F := Ideal) x1 x3 (ix4 b h r k) = ∑ d : Fin 64, x3 (ix3 b k d) * x1 (ix4 b r h d) := by
  pointwise [val_main_v4, val_main_v3]
theorem v47_at (b h : Fin 4) (r k : Fin 2048) : val_main_v47 (F := Ideal) x2 x4 (ix4 b h r k) = ∑ d : Fin 128, x4 (ix4 b r h d) * x2 (ix4 b k h ⟨128 + d.val, by omega⟩) := by
  pointwise [val_main_v47, val_main_v46, val_main_v1]

theorem v15_at (b h : Fin 4) (r k : Fin 2048) : val_main_v15_0 (F := Ideal) x0 x1 x2 x3 (ix4 b h r k)
    = if k ≤ r then (val_main_v2 (F := Ideal) x0 x2 (ix4 b h r k) + val_main_v4 (F := Ideal) x1 x3 (ix4 b h r k)) * sc else ⊥ := by
  rw [val_main_v15_0_apply]
  pointwise [val_main_v15_1, val_main_v14, val_main_v7, val_main_v6, val_main_v5, val_main_v13, val_main_v12, val_main_v11, val_main_v10, val_main_v9, val_main_v8, val_main_call0_v2, val_main_call0_v0, val_main_cst_0, val_main_cst]
  rw [sge_row]
  by_cases h : k ≤ r
  · simp [h, Scalar.select, sc]
  · simp only [h, Scalar.select]
    exact ninf_eq

theorem v23_at (b h : Fin 4) (r : Fin 2048) : val_main_v23 (F := Ideal) x0 x1 x2 x3 (ix3 b h r) = val_main_v16 (F := Ideal) x0 x1 x2 x3 (ix3 b h r) := by
  rw [val_main_v23_apply]
  generalize val_main_v16 (F := Ideal) x0 x1 x2 x3 (ix3 b h r) = z
  show max (Ideal.ofBits .f32 0xFF800000#32) z = z
  rw [ninf_eq]
  exact max_bot_left z

theorem v34_at (b h : Fin 4) (r k : Fin 2048) : val_main_v34 (F := Ideal) x0 x1 x2 x3 (ix4 b h r k) = val_main_v16 (F := Ideal) x0 x1 x2 x3 (ix3 b h r) := by
  refine Eq.trans ?_ (v23_at x0 x1 x2 x3 b h r)
  unfold val_main_v34 val_main_v33
  generalize val_main_v23 (F := Ideal) x0 x1 x2 x3 = z
  pointwise

theorem v36_at (b h : Fin 4) (r k : Fin 2048) : val_main_v36 (F := Ideal) x0 x1 x2 x3 (ix4 b h r k)
    = Ideal.exp (val_main_v15_0 (F := Ideal) x0 x1 x2 x3 (ix4 b h r k) - val_main_v16 (F := Ideal) x0 x1 x2 x3 (ix3 b h r)) := by
  rw [val_main_v36_apply, val_main_v35_apply, v34_at]
  rfl

theorem v38_at (b h : Fin 4) (r : Fin 2048) : val_main_v38 (F := Ideal) x0 x1 x2 x3 (ix4 b h r 0) = ∑ k, val_main_v36 (F := Ideal) x0 x1 x2 x3 (ix4 b h r k) := by
  unfold val_main_v38 val_main_v37 val_main_cst_9
  generalize val_main_v36 (F := Ideal) x0 x1 x2 x3 = z
  pointwise
theorem v56_at (b h : Fin 4) (r k : Fin 2048) : val_main_v56 (F := Ideal) x0 x1 x2 x3 (ix4 b h r k) = val_main_v38 (F := Ideal) x0 x1 x2 x3 (ix4 b h r 0) := by
  unfold val_main_v56
  generalize val_main_v38 (F := Ideal) x0 x1 x2 x3 = z
  pointwise
theorem v58_at (b h : Fin 4) (r : Fin 2048) : val_main_v58 (F := Ideal) x0 x1 x2 x3 x4 (ix3 b h r)
    = -∑ k, val_main_v47 (F := Ideal) x2 x4 (ix4 b h r k) * Ideal.div ((1 : ℝ) : EReal)
          (val_main_v38 (F := Ideal) x0 x1 x2 x3 (ix4 b h r 0) * val_main_v38 (F := Ideal) x0 x1 x2 x3 (ix4 b h r 0))
        * val_main_v36 (F := Ideal) x0 x1 x2 x3 (ix4 b h r k) := by
  unfold val_main_v58 val_main_v55 val_main_v54 val_main_v53 val_main_v52 val_main_v51 val_main_v50 val_main_v43 val_main_v42 val_main_v41 val_main_cst_12 val_main_cst_11 val_main_cst_10
  generalize val_main_v36 (F := Ideal) x0 x1 x2 x3 = z
  generalize val_main_v38 (F := Ideal) x0 x1 x2 x3 = z2
  generalize val_main_v47 (F := Ideal) x2 x4 = z3
  pointwise
  exact Fin.sum_univ_one _
theorem v64_at (b h : Fin 4) (r k : Fin 2048) : val_main_v64 (F := Ideal) x0 x1 x2 x3 x4 (ix4 b h r k)
    = (if k ≤ r then (Ideal.div (val_main_v47 (F := Ideal) x2 x4 (ix4 b h r k)) (val_main_v38 (F := Ideal) x0 x1 x2 x3 (ix4 b h r 0))
        + val_main_v58 (F := Ideal) x0 x1 x2 x3 x4 (ix3 b h r)) * val_main_v36 (F := Ideal) x0 x1 x2 x3 (ix4 b h r k) else 0) * sc := by
  rw [← v56_at x0 x1 x2 x3 b h r k]
  unfold val_main_v64 val_main_v63 val_main_v62 val_main_v61 val_main_v60 val_main_v57 val_main_v59 val_main_v15_1 val_main_v14 val_main_v13 val_main_v12 val_main_v11 val_main_v10 val_main_v9 val_main_v8 val_main_call1_v0 val_main_call1_cst val_main_cst_13
  generalize val_main_v36 (F := Ideal) x0 x1 x2 x3 = z
  generalize val_main_v56 (F := Ideal) x0 x1 x2 x3 = z2
  generalize val_main_v47 (F := Ideal) x2 x4 = z3
  generalize val_main_v58 (F := Ideal) x0 x1 x2 x3 x4 = z4
  pointwise
  rw [sge_row]
  by_cases h : k ≤ r <;> simp [h, Scalar.select, sc]

theorem v40_at (b h : Fin 4) (r k : Fin 2048) : val_main_v40 (F := Ideal) x0 x1 x2 x3 (ix4 b h r k)
    = Ideal.div (val_main_v36 (F := Ideal) x0 x1 x2 x3 (ix4 b h r k)) (val_main_v38 (F := Ideal) x0 x1 x2 x3 (ix4 b h r 0)) := by
  unfold val_main_v40 val_main_v39
  generalize val_main_v36 (F := Ideal) x0 x1 x2 x3 = z
  generalize val_main_v38 (F := Ideal) x0 x1 x2 x3 = z2
  pointwise
theorem v49_at (b h : Fin 4) (k : Fin 2048) (d : Fin 128) : val_main_v49 (F := Ideal) x0 x1 x2 x3 x4 (ix4 b k h d)
    = ∑ r, x4 (ix4 b r h d) * val_main_v40 (F := Ideal) x0 x1 x2 x3 (ix4 b h r k) := by
  unfold val_main_v49 val_main_v48 val_main_v46
  generalize val_main_v40 (F := Ideal) x0 x1 x2 x3 = z
  pointwise
theorem v71_at (b h : Fin 4) (r : Fin 2048) (d : Fin 128) : val_main_v71 (F := Ideal) x0 x1 x2 x3 x4 (ix4 b r h d)
    = ∑ k, val_main_v64 (F := Ideal) x0 x1 x2 x3 x4 (ix4 b h r k) * x2 (ix4 b k h ⟨d.val, by omega⟩) := by
  unfold val_main_v71 val_main_v70 val_main_v0
  generalize val_main_v64 (F := Ideal) x0 x1 x2 x3 x4 = z
  pointwise
theorem v66_at (b h : Fin 4) (r : Fin 2048) (d : Fin 64) : val_main_v66 (F := Ideal) x0 x1 x2 x3 x4 (ix4 b r h d)
    = ∑ k, val_main_v64 (F := Ideal) x0 x1 x2 x3 x4 (ix4 b h r k) * x3 (ix3 b k d) := by
  unfold val_main_v66 val_main_v65
  generalize val_main_v64 (F := Ideal) x0 x1 x2 x3 x4 = z
  pointwise
theorem v67_at (b : Fin 4) (k : Fin 2048) (d : Fin 64) : val_main_v67 (F := Ideal) x0 x1 x2 x3 x4 (ix3 b k d)
    = ∑ r, ∑ h, val_main_v64 (F := Ideal) x0 x1 x2 x3 x4 (ix4 b h r k) * x1 (ix4 b r h d) := by
  unfold val_main_v67 val_main_v65
  generalize val_main_v64 (F := Ideal) x0 x1 x2 x3 x4 = z
  pointwise
theorem v69_at (b h : Fin 4) (k : Fin 2048) (d : Fin 128) : val_main_v69 (F := Ideal) x0 x1 x2 x3 x4 (ix4 b k h d)
    = ∑ r, val_main_v64 (F := Ideal) x0 x1 x2 x3 x4 (ix4 b h r k) * x0 (ix4 b r h d) := by
  unfold val_main_v69 val_main_v68
  generalize val_main_v64 (F := Ideal) x0 x1 x2 x3 x4 = z
  pointwise

theorem v72_at (b h : Fin 4) (k : Fin 2048) (d : Fin 256) : val_main_v72 (F := Ideal) x0 x1 x2 x3 x4 (ix4 b k h d)
    = if hd : d.val < 128 then val_main_v69 (F := Ideal) x0 x1 x2 x3 x4 (ix4 b k h ⟨d.val, hd⟩)
      else val_main_v49 (F := Ideal) x0 x1 x2 x3 x4 (ix4 b k h ⟨d.val - 128, by omega⟩) := by
  unfold val_main_v72
  generalize val_main_v69 (F := Ideal) x0 x1 x2 x3 x4 = z
  generalize val_main_v49 (F := Ideal) x0 x1 x2 x3 x4 = z2
  pointwise

end Read

variable (m : (ℓ : Loc nD τ sig) → Buf (Elt Ideal) ℓ) (c : Dev nD)

/-- The arguments are finite. -/
structure Finite : Prop where
  qn : ∀ i, IsReal (qn m c i)
  qr : ∀ i, IsReal (qr m c i)
  kv : ∀ i, IsReal (kv m c i)
  kr : ∀ i, IsReal (kr m c i)
  dout : ∀ i, IsReal (dout m c i)

variable {m c}

theorem sc_real : IsReal sc := scale_eq

theorem score_real (H : Finite m c) (b h : Fin 4) (r k : Fin 2048) : IsReal (raw m c b h r k * sc) := by
  unfold raw
  exact IsReal.mul (IsReal.add (IsReal.sum _ fun d => (H.qn _).mul (H.kv _)) (IsReal.sum _ fun d => (H.qr _).mul (H.kr _))) sc_real

theorem S_at (b h : Fin 4) (r k : Fin 2048) : S m c (ix4 b h r k) = if k ≤ r then raw m c b h r k * sc else ⊥ := by
  refine (v15_at _ _ _ _ b h r k).trans ?_
  rw [v2_at, v4_at]
  have e : ∀ d : Fin 64, kr m c (ix3 b k d) * qr m c (ix4 b r h d) = qr m c (ix4 b r h d) * kr m c (ix3 b k d) := fun d => mul_comm _ _
  simp only [e]
  rfl

theorem S_lt (H : Finite m c) (i : S4x4x2048x2048.Idx) : S m c i < ⊤ := by
  idx_vars i
  rw [S_at]
  split_ifs
  · obtain ⟨x, hx⟩ := score_real H i0 i1 i2 i3
    rw [hx]
    exact EReal.coe_lt_top x
  · exact bot_lt_top

theorem M_real (H : Finite m c) (b h : Fin 4) (r : Fin 2048) : IsReal (M m c (ix3 b h r)) := by
  unfold M val_main_v16
  rw [Host.reduce_eq_fold]
  have e : (val_main_cst_1 (F := Ideal)) (Shape.Idx.first Cert.Reference2Ideal.Gen.h_S_) = (⊥ : EReal) := ninf_eq
  rw [e]
  refine AttnRow.isReal_fold_max _ _ (fun i _ => S_lt H i) (ix4 b h r r) ?_ ?_
  · rw [Finset.mem_filter]
    refine ⟨Finset.mem_univ _, ?_⟩
    funext a
    fin_cases a <;> rfl
  · rw [← S, S_at, if_pos le_rfl]
    exact score_real H b h r r

/-- The row of the softmax, over the reals. -/
abbrev rowEx (m : (ℓ : Loc nD τ sig) → Buf (Elt Ideal) ℓ) (c : Dev nD) (b h : Fin 4) (r : Fin 2048) : Fin 2048 → EReal :=
  AttnRow.ex (fun k => k ≤ r) (fun k => raw m c b h r k * sc) (M m c (ix3 b h r))

theorem ex_eq (b h : Fin 4) (r k : Fin 2048) : ex m c b h r k = rowEx m c b h r k := by
  unfold ex rowEx AttnRow.ex
  rw [S_at]
theorem den_eq (b h : Fin 4) (r : Fin 2048) : den m c b h r = ∑ k, rowEx m c b h r k := by
  unfold den
  simp only [ex_eq]
theorem ref_ex (b h : Fin 4) (r k : Fin 2048) : val_main_v36 (F := Ideal) (qn m c) (qr m c) (kv m c) (kr m c) (ix4 b h r k) = rowEx m c b h r k :=
  (v36_at _ _ _ _ b h r k).trans (ex_eq b h r k)
theorem ref_den (b h : Fin 4) (r : Fin 2048) : val_main_v38 (F := Ideal) (qn m c) (qr m c) (kv m c) (kr m c) (ix4 b h r 0) = ∑ k, rowEx m c b h r k := by
  rw [v38_at]
  simp only [ref_ex]

theorem row (H : Finite m c) (b h : Fin 4) (r : Fin 2048) :
    Nonempty (AttnRow.Row (fun k => k ≤ r) (fun k => raw m c b h r k * sc) (M m c (ix3 b h r))) :=
  AttnRow.row _ _ _ (score_real H b h r) (M_real H b h r) ⟨r, le_rfl⟩

theorem dP_real (H : Finite m c) (b h : Fin 4) (r k : Fin 2048) : IsReal (dP m c b h r k) := by
  unfold dP
  exact IsReal.sum _ fun d => (H.dout _).mul (H.kv _)

theorem dl_eq (H : Finite m c) (b h : Fin 4) (r : Fin 2048) :
    dl m c b h r = ∑ k, Ideal.div (rowEx m c b h r k) (∑ j, rowEx m c b h r j) * dP m c b h r k := by
  obtain ⟨R⟩ := row H b h r
  unfold dl att
  simp only [ex_eq, den_eq]
  exact R.delta _ _ (fun _ => H.dout _) fun _ _ => H.kv _

theorem P_eq (H : Finite m c) (b h : Fin 4) (r k : Fin 2048) :
    P m c b h r k = val_main_v40 (F := Ideal) (qn m c) (qr m c) (kv m c) (kr m c) (ix4 b h r k) := by
  obtain ⟨R⟩ := row H b h r
  rw [v40_at, ref_ex, ref_den, R.div]
  unfold P lse
  rw [den_eq]
  split_ifs with h
  · exact R.prob k h
  · rw [R.off k h, zero_div, EReal.coe_zero]

theorem D_eq (H : Finite m c) (b h : Fin 4) (r k : Fin 2048) :
    D m c b h r k = val_main_v64 (F := Ideal) (qn m c) (qr m c) (kv m c) (kr m c) (dout m c) (ix4 b h r k) := by
  obtain ⟨R⟩ := row H b h r
  rw [v64_at, v58_at, ref_ex, ref_den]
  simp only [ref_ex, v47_at]
  unfold D P lse
  rw [den_eq, dl_eq H]
  exact congrArg (· * sc) (R.grad (fun k => dP m c b h r k) (dP_real H b h r) k)

end Cert.Kernel2Ideal.Attn

end
-- ==== Proof.AttnClaim.lean ====
/- The attention's backward kernel: its run ends with the reference's gradients. -/
module

public import proofs.«01_k».proof.Defs
public import proofs.«01_k».proof.Proof.AttnTail
public import proofs.«01_k».proof.Proof.AttnReal
public import proofs.«01_k».proof.Proof.NormClaim
public import proofs.«01_k».proof.Proof.Gen.Pre_finite2
public import Idealize.ShloMosaic.Adequacy
public import Idealize.ShloMosaic.Init

@[expose] public section

set_option maxRecDepth 16384

noncomputable section

namespace Cert.Kernel2Ideal.Attn

open Idealize.ShloMosaic Idealize.ShloMosaic.TcCoe Idealize.SL Idealize.SL.Sem Cert.Kernel2Ideal.Gen Cert.Reference2Ideal.Read RmsRow Consts

variable (m : (ℓ : Loc nD τ sig) → Buf (Elt Ideal) ℓ) (c : Dev nD)

theorem finite_of_pre (h : Cert.Pre_Kernel2Ideal_finite2 m) : Finite m c := by
  obtain ⟨h0, h1, h2, h3, h4⟩ := h c
  exact ⟨Cert.KernelIdeal.NormBwd.real_of_pre _ _ (fun _ => inf_eq) h0, Cert.KernelIdeal.NormBwd.real_of_pre _ _ (fun _ => inf_eq) h1,
    Cert.KernelIdeal.NormBwd.real_of_pre _ _ (fun _ => inf_eq) h2, Cert.KernelIdeal.NormBwd.real_of_pre _ _ (fun _ => inf_eq) h3,
    Cert.KernelIdeal.NormBwd.real_of_pre _ _ (fun _ => inf_eq) h4⟩

/-! The four results are the reference's. -/

theorem final_dqn (H : Finite m c) : StableHlo.after hostOps1 (left m c) (Proc.devRef .tc main_v45)
    = val_main_v71 (F := Ideal) (qn m c) (qr m c) (kv m c) (kr m c) (dout m c) := by
  funext i
  idx_vars i
  rw [result45, v71_at]
  simp only [R8, D_eq H]

theorem final_dqr (H : Finite m c) : StableHlo.after hostOps1 (left m c) (Proc.devRef .tc main_v47)
    = val_main_v66 (F := Ideal) (qn m c) (qr m c) (kv m c) (kr m c) (dout m c) := by
  funext i
  idx_vars i
  rw [result47, v66_at]
  simp only [R9, D_eq H, Fin.is_lt, dite_true]

theorem final_dkv (H : Finite m c) : StableHlo.after hostOps1 (left m c) (Proc.devRef .tc main_v48)
    = val_main_v72 (F := Ideal) (qn m c) (qr m c) (kv m c) (kr m c) (dout m c) := by
  funext i
  idx_vars i
  rw [result48, v72_at]
  unfold R10
  split_ifs with h
  · rw [v69_at]
    simp only [D_eq H]
  · rw [v49_at]
    simp only [P_eq H]
    exact Finset.sum_congr (M := EReal) rfl fun r _ => mul_comm _ _

theorem final_dkr (H : Finite m c) : StableHlo.after hostOps1 (left m c) (Proc.devRef .tc main_v60)
    = val_main_v67 (F := Ideal) (qn m c) (qr m c) (kv m c) (kr m c) (dout m c) := by
  funext i
  idx_vars i
  rw [result60, v67_at]
  simp only [R11, D_eq H, Fin.is_lt, dite_true]
  have e : ∀ f : Fin 2048 → Fin 4 → EReal, ∑ r, ∑ h, f r h = ∑ h, ∑ r, f r h := fun f => Finset.sum_comm
  have e4 : ∀ f : Fin 4 → EReal, f 0 + f 1 + f 2 + f 3 = ∑ h, f h := fun f => (Fin.sum_univ_four f).symm
  exact (e4 fun h => ∑ r, val_main_v64 (F := Ideal) (qn m c) (qr m c) (kv m c) (kr m c) (dout m c) (ix4 i0 h r i1) * qr m c (ix4 i0 r h i2)).trans
    (e fun r h => val_main_v64 (F := Ideal) (qn m c) (qr m c) (kv m c) (kr m c) (dout m c) (ix4 i0 h r i1) * qr m c (ix4 i0 r h i2)).symm

/-- The four results, each under a name of its own. -/
@[irreducible] def out45 : FVec Ideal S4x2048x4x128 .f32 := StableHlo.after hostOps1 (left m c) (Proc.devRef .tc main_v45)
@[irreducible] def out47 : FVec Ideal S4x2048x4x64 .f32 := StableHlo.after hostOps1 (left m c) (Proc.devRef .tc main_v47)
@[irreducible] def out48 : FVec Ideal S4x2048x4x256 .f32 := StableHlo.after hostOps1 (left m c) (Proc.devRef .tc main_v48)
@[irreducible] def out60 : FVec Ideal S4x2048x64 .f32 := StableHlo.after hostOps1 (left m c) (Proc.devRef .tc main_v60)
theorem out45_eq : out45 m c = StableHlo.after hostOps1 (left m c) (Proc.devRef .tc main_v45) := by rw [out45]
theorem out47_eq : out47 m c = StableHlo.after hostOps1 (left m c) (Proc.devRef .tc main_v47) := by rw [out47]
theorem out48_eq : out48 m c = StableHlo.after hostOps1 (left m c) (Proc.devRef .tc main_v48) := by rw [out48]
theorem out60_eq : out60 m c = StableHlo.after hostOps1 (left m c) (Proc.devRef .tc main_v60) := by rw [out60]

/-- The kernel's run: the four results and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v45) = out45 m c
      ∧ r.2.mem ((c.tc : Thread nD τ).loc main_v47) = out47 m c
      ∧ r.2.mem ((c.tc : Thread nD τ).loc main_v48) = out48 m c
      ∧ r.2.mem ((c.tc : Thread nD τ).loc main_v60) = out60 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1.rest_eq c main_v45 (by decide)).trans (out45_eq m c).symm, (h.1.rest_eq c main_v47 (by decide)).trans (out47_eq m c).symm, (h.1.rest_eq c main_v48 (by decide)).trans (out48_eq m c).symm,
    (h.1.rest_eq c main_v60 (by decide)).trans (out60_eq m c).symm, h.2 c⟩) (θ_run_and (run_main m ρ) (unchanged m ρ))

theorem algebraic : Cert.algebraic_Kernel2Ideal_Reference2Ideal_pre_finite2 := by
  pair_intro
  · run_from run m g
  · refine (θ_run _ _ _).mono (fun r h c => ?_) (Cert.Reference2Ideal.Value.run m' g')
    obtain ⟨a0, a1, a2, a3, a4⟩ := hagree c
    obtain ⟨h0, h1, h2, h3, hr⟩ := h c
    refine ⟨h0.trans ?_, h1.trans ?_, h2.trans ?_, h3.trans ?_, hr⟩
    · refine (val_main_v71_eq m' c).trans ?_
      rw [a0, a1, a2, a3, a4]
      exact ((out45_eq m c).trans (final_dqn m c (finite_of_pre m c hpre))).symm
    · refine (val_main_v66_eq m' c).trans ?_
      rw [a0, a1, a2, a3, a4]
      exact ((out47_eq m c).trans (final_dqr m c (finite_of_pre m c hpre))).symm
    · refine (val_main_v72_eq m' c).trans ?_
      rw [a0, a1, a2, a3, a4]
      exact ((out48_eq m c).trans (final_dkv m c (finite_of_pre m c hpre))).symm
    · refine (val_main_v67_eq m' c).trans ?_
      rw [a0, a1, a2, a3, a4]
      exact ((out60_eq m c).trans (final_dkr m c (finite_of_pre m c hpre))).symm

end Cert.Kernel2Ideal.Attn

end
-- ==== Proof.FwdRun.lean ====
/- The forward attention's body at one grid point, run once in each of two cases: an odd number of blocks before the
   diagonal, and an even number. -/
module

public import proofs.«01_k».proof.Proof.Gen.Kernel3Ideal.Loops
public import proofs.«01_k».proof.Proof.Gen.Kernel3Ideal.Frame

@[expose] public section

set_option maxRecDepth 16384

noncomputable section

namespace Cert.Kernel3Ideal.Fwd

open Idealize.ShloMosaic Idealize.ShloMosaic.TcCoe Idealize.ShloMosaic.Tactic Cert.Kernel3Ideal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body's six buffers at a grid point: two blocks of queries, the keys with the values, the rotary keys, and the two
    results. -/
structure Bufs where
  q : Memref sig .tc .vmem S1x256x512 .bf16
  qr : Memref sig .tc .vmem S1x256x512 .bf16
  kv : Memref sig .tc .vmem S1x2048x1024 .bf16
  kr : Memref sig .tc .vmem S1x2048x128 .bf16
  o : Memref sig .tc .vmem S1x256x512 .f32
  lse : Memref sig .tc .vmem S1x4x256x128 .f32
  hq : q.IsWhole
  hqr : qr.IsWhole
  hkv : kv.IsWhole
  hkr : kr.IsWhole
  ho : o.IsWhole
  hlse : lse.IsWhole

/-- The contents of the four inputs. -/
structure Ins (F : FTy → Type) where
  q : Vec F S1x256x512 .bf16
  qr : Vec F S1x256x512 .bf16
  kv : Vec F S1x2048x1024 .bf16
  kr : Vec F S1x2048x128 .bf16

/-- The inputs' buffers at their contents. -/
def held (c : Dev nD) (b : Bufs) (x : Ins F) : sProp 𝕄 :=
  iprop(owns (c : Thread nD τ) b.q fullShare x.q ∗ owns (c : Thread nD τ) b.qr fullShare x.qr
    ∗ owns (c : Thread nD τ) b.kv fullShare x.kv ∗ owns (c : Thread nD τ) b.kr fullShare x.kr)

/-- From the inputs at `x` and the results' buffers at anything, the body runs, leaves the inputs, and has written the pieces
    `Lo` and `Ll` into the results' buffers. -/
def Runs (c : Dev nD) (i : grid0.Coords) (b : Bufs) (x : Ins F) (Lo : List (View.Piece (Elt F) S1x256x512 .f32))
    (Ll : List (View.Piece (Elt F) S1x4x256x128 .f32)) : Prop :=
  ∀ (E : Set ℕ) (K : PUnit → sProp 𝕄),
    iprop(held c b x ∗ (∃ d, owns (c : Thread nD τ) b.o fullShare d) ∗ (∃ d, owns (c : Thread nD τ) b.lse fullShare d)
        ∗ (iprop(held c b x ∗ (∃ f, b.o.view.loc (c : Thread nD τ) ↦[b.o.view.set]{fullShare} b.o.view.writes (Elt F) f Lo)
            ∗ (∃ f, b.lse.view.loc (c : Thread nD τ) ↦[b.lse.view.set]{fullShare} b.lse.view.writes (Elt F) f Ll)) -∗ K ⟨⟩))
      ⊢ wp Idealize.ShloMosaic.frame (wpE (defs₀ (F := F)) Variants.none c none) E (cc0_attn_fwd i b.q b.hq b.qr b.hqr b.kv b.hkv b.kr b.hkr b.o b.ho b.lse b.hlse) K

/-- The inputs' buffers at their contents, as the run reads them. -/
def raw (c : Dev nD) (b : Bufs) (x : Ins F) : sProp 𝕄 :=
  iprop((b.q.view.loc (c : Thread nD τ) ↦[b.q.view.set]{fullShare} b.hq.unread x.q)
    ∗ (b.qr.view.loc (c : Thread nD τ) ↦[b.qr.view.set]{fullShare} b.hqr.unread x.qr)
    ∗ (b.kv.view.loc (c : Thread nD τ) ↦[b.kv.view.set]{fullShare} b.hkv.unread x.kv)
    ∗ (b.kr.view.loc (c : Thread nD τ) ↦[b.kr.view.set]{fullShare} b.hkr.unread x.kr))

theorem held_raw (c : Dev nD) (b : Bufs) (x : Ins F) : held c b x ⊢ raw c b x := by
  unfold held raw owns
  iintro ⟨⟨%f0, %hf0, H0⟩, ⟨%f1, %hf1, H1⟩, ⟨%f2, %hf2, H2⟩, ⟨%f3, %hf3, H3⟩⟩
  obtain rfl := b.hq.eq_unread hf0; obtain rfl := b.hqr.eq_unread hf1; obtain rfl := b.hkv.eq_unread hf2; obtain rfl := b.hkr.eq_unread hf3
  isplitl [H0]; · iexact H0
  isplitl [H1]; · iexact H1
  isplitl [H2]; · iexact H2
  iexact H3

theorem raw_held (c : Dev nD) (b : Bufs) (x : Ins F) : raw c b x ⊢ held c b x := by
  unfold held raw owns
  iintro ⟨H0, H1, H2, H3⟩
  isplitl [H0]
  · iexists _; isplitr; · ipureintro; exact b.hq.read_unread _
    iexact H0
  isplitl [H1]
  · iexists _; isplitr; · ipureintro; exact b.hqr.read_unread _
    iexact H1
  isplitl [H2]
  · iexists _; isplitr; · ipureintro; exact b.hkv.read_unread _
    iexact H2
  iexists _; isplitr; · ipureintro; exact b.hkr.read_unread _
  iexact H3

set_option maxHeartbeats 2000000 in
/-- The run with an odd number of blocks before the diagonal. -/
def runOdd (c : Dev nD) (i : grid0.Coords) (b : Bufs) (x : Ins F) (h : k0_cond1 i = 1#1) :
    Σ' Lo : List (View.Piece (Elt F) S1x256x512 .f32), { Ll : List (View.Piece (Elt F) S1x4x256x128 .f32) // Runs c i b x Lo Ll } := by
  refine ⟨?_, ?_, fun E K => ?_⟩
  rotate_left 2
  simp only [cc0_attn_fwd_eq_skeleton]; unfold cc0_attn_fwd_skel
  simp only [k0_part11_eq_skeleton, k0_part12_eq_skeleton, k0_part13_eq_skeleton, k0_part14_eq_skeleton, k0_part15_eq_skeleton, k0_part16_eq_skeleton, k0_part17_eq_skeleton, k0_part18_eq_skeleton]
  iintro ⟨H, HO, HL, Hk⟩
  ihave H := (held_raw c b x) $$ H
  unfold raw owns
  icases H with ⟨H0, H1, H2, H3⟩
  icases HO with ⟨%d4, %f4, -, H4⟩
  icases HL with ⟨%d5, %f5, -, H5⟩
  sl_exec (disch := sl_exact h)
  sl_step
  iapply Hk
  isplitl [H0 H1 H2 H3]
  · iapply (raw_held c b x)
    unfold raw
    isplitl [H0]; · iexact H0
    isplitl [H1]; · iexact H1
    isplitl [H2]; · iexact H2
    iexact H3
  isplitl [H4]; · iexists _; iexact H4
  iexists _; iexact H5

set_option maxHeartbeats 2000000 in
/-- The run with an even number of blocks before the diagonal. -/
def runEven (c : Dev nD) (i : grid0.Coords) (b : Bufs) (x : Ins F) (h : ¬k0_cond1 i = 1#1) :
    Σ' Lo : List (View.Piece (Elt F) S1x256x512 .f32), { Ll : List (View.Piece (Elt F) S1x4x256x128 .f32) // Runs c i b x Lo Ll } := by
  refine ⟨?_, ?_, fun E K => ?_⟩
  rotate_left 2
  simp only [cc0_attn_fwd_eq_skeleton]; unfold cc0_attn_fwd_skel
  simp only [k0_part14_eq_skeleton, k0_part15_eq_skeleton, k0_part16_eq_skeleton, k0_part17_eq_skeleton, k0_part18_eq_skeleton]
  iintro ⟨H, HO, HL, Hk⟩
  ihave H := (held_raw c b x) $$ H
  unfold raw owns
  icases H with ⟨H0, H1, H2, H3⟩
  icases HO with ⟨%d4, %f4, -, H4⟩
  icases HL with ⟨%d5, %f5, -, H5⟩
  sl_exec (disch := sl_exact h)
  sl_step
  iapply Hk
  isplitl [H0 H1 H2 H3]
  · iapply (raw_held c b x)
    unfold raw
    isplitl [H0]; · iexact H0
    isplitl [H1]; · iexact H1
    isplitl [H2]; · iexact H2
    iexact H3
  isplitl [H4]; · iexists _; iexact H4
  iexists _; iexact H5

end Cert.Kernel3Ideal.Fwd

end
-- ==== Proof.FwdFrame.lean ====
/- The forward attention's frame: what its two results hold after each grid point, the pipeline's proof data, the body's
   obligation, and the run of the whole program. -/
module

public import proofs.«01_k».proof.Proof.FwdRun
public import Idealize.ShloMosaic.Lib.Claim

@[expose] public section

set_option maxRecDepth 16384

noncomputable section

namespace Cert.Kernel3Ideal.Fwd

open Idealize.ShloMosaic Idealize.ShloMosaic.TcCoe Idealize.ShloMosaic.Tactic Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's run in the case the grid point is in. -/
def runAt (c : Dev nD) (i : grid0.Coords) (b : Bufs) (x : Ins F) :
    Σ' Lo : List (View.Piece (Elt F) S1x256x512 .f32), { Ll : List (View.Piece (Elt F) S1x4x256x128 .f32) // Runs c i b x Lo Ll } :=
  if h : k0_cond1 i = 1#1 then runOdd c i b x h else runEven c i b x h

theorem runAt_odd (c : Dev nD) (i : grid0.Coords) (b : Bufs) (x : Ins F) (h : k0_cond1 i = 1#1) : runAt c i b x = runOdd c i b x h := dif_pos h
theorem runAt_even (c : Dev nD) (i : grid0.Coords) (b : Bufs) (x : Ins F) (h : ¬k0_cond1 i = 1#1) : runAt c i b x = runEven c i b x h := dif_neg h

/-- The stores of the first result cover its block. -/
theorem cover_o (c : Dev nD) (i : grid0.Coords) (b : Bufs) (x : Ins F) (y : S1x256x512.Idx) : ∃ pc ∈ (runAt c i b x).1, y ∈ pc.1.set := by
  by_cases h : k0_cond1 i = 1#1
  · rw [runAt_odd c i b x h]; exact View.cover_of_tiledL (runOdd c i b x h).1 S1x256x128.size (by sl_kernel_rfl) y
  · rw [runAt_even c i b x h]; exact View.cover_of_tiledL (runEven c i b x h).1 S1x256x128.size (by sl_kernel_rfl) y

/-- The stores of the second result cover its block. -/
theorem cover_lse (c : Dev nD) (i : grid0.Coords) (b : Bufs) (x : Ins F) (y : S1x4x256x128.Idx) : ∃ pc ∈ (runAt c i b x).2.1, y ∈ pc.1.set := by
  by_cases h : k0_cond1 i = 1#1
  · rw [runAt_odd c i b x h]; exact View.cover_of_tiledL (runOdd c i b x h).2.1 S1x1x256x128.size (by sl_kernel_rfl) y
  · rw [runAt_even c i b x h]; exact View.cover_of_tiledL (runEven c i b x h).2.1 S1x1x256x128.size (by sl_kernel_rfl) y

/-- A view of each result's block, to read pieces back through. -/
abbrev viewO : View sig .tc .vmem S1x256x512 .f32 := (Memref.whole cc0_stg4_0 : Memref sig .tc .vmem S1x256x512 .f32).view
abbrev viewL : View sig .tc .vmem S1x4x256x128 .f32 := (Memref.whole cc0_stg5_0 : Memref sig .tc .vmem S1x4x256x128 .f32).view

/-- What the body leaves in the two results' buffers. -/
def outO (c : Dev nD) (i : grid0.Coords) (b : Bufs) (x : Ins F) : Vec F S1x256x512 .f32 :=
  viewO.read (Elt F) (viewO.writes (Elt F) viewO.junk (runAt c i b x).1)
def outL (c : Dev nD) (i : grid0.Coords) (b : Bufs) (x : Ins F) : Vec F S1x4x256x128 .f32 :=
  viewL.read (Elt F) (viewL.writes (Elt F) viewL.junk (runAt c i b x).2.1)

/-- The buffers the body is called with at a point. -/
def bufs (t : Fin cfg0.N) : Bufs where
  q := win0_0.stage (cfg0.slots t 0)
  qr := win0_1.stage (cfg0.slots t 1)
  kv := win0_2.stage (cfg0.slots t 2)
  kr := win0_3.stage (cfg0.slots t 3)
  o := win0_4.stage (cfg0.slots t 4)
  lse := win0_5.stage (cfg0.slots t 5)
  hq := hstage0_0 ((cfg0.slots t 0).cast nbuf0_0)
  hqr := hstage0_1 ((cfg0.slots t 1).cast nbuf0_1)
  hkv := hstage0_2 ((cfg0.slots t 2).cast nbuf0_2)
  hkr := hstage0_3 ((cfg0.slots t 3).cast nbuf0_3)
  ho := hstage0_4 ((cfg0.slots t 4).cast nbuf0_4)
  hlse := hstage0_5 ((cfg0.slots t 5).cast nbuf0_5)

variable (m : (ℓ : Loc nD τ sig) → Buf (Elt F) ℓ) (ρ : Dev nD → PrngReg)

/-- The blocks of the inputs at a point. -/
def ins (c : Dev nD) (t : Fin cfg0.N) : Ins F := ⟨iblk m c 0 t, iblk m c 1 t, iblk m c 2 t, iblk m c 3 t⟩

/-- The pipeline's proof data: each input stays at its block, each result is left at what the body's run stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outO c (grid0.coords t) (bufs t) (ins m c t)
    | ⟨5, _⟩ => outL c (grid0.coords t) (bufs t) (ins m c t)
  Φ _ := Pipeline.ΦA spec0 c
  q _ := fullShare
  owed _ := 0

theorem A_eq (c : Dev nD) (w : Fin cfg0.W) : (dats m 0 c).A w = V m c (Pipeline.arrRef spec0 w) := by dsimp only [dats]

theorem after_q (c : Dev nD) (t : Fin cfg0.N) : (dats m 0 c).after 0 t = iblk m c 0 t := by dsimp only [dats]
theorem after_qr (c : Dev nD) (t : Fin cfg0.N) : (dats m 0 c).after 1 t = iblk m c 1 t := by dsimp only [dats]
theorem after_kv (c : Dev nD) (t : Fin cfg0.N) : (dats m 0 c).after 2 t = iblk m c 2 t := by dsimp only [dats]
theorem after_kr (c : Dev nD) (t : Fin cfg0.N) : (dats m 0 c).after 3 t = iblk m c 3 t := by dsimp only [dats]
theorem after_o (c : Dev nD) (t : Fin cfg0.N) : (dats m 0 c).after 4 t = outO c (grid0.coords t) (bufs t) (ins m c t) := by dsimp only [dats]
theorem after_lse (c : Dev nD) (t : Fin cfg0.N) : (dats m 0 c).after 5 t = outL c (grid0.coords t) (bufs t) (ins m c t) := by dsimp only [dats]

set_option maxHeartbeats 1200000 in
/-- The body at a point: its buffers hold the inputs' blocks, so the run applies. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  refine triple_restated (P := iprop((dats m 0 c).Φ t.castSucc ∗ (dats m 0 c).owesAt () t.castSucc
    ∗ (∃ d, owns (c : Thread nD τ) (bufs t).q fullShare ((dats m 0 c).before 0 t d))
    ∗ (∃ d, owns (c : Thread nD τ) (bufs t).qr fullShare ((dats m 0 c).before 1 t d))
    ∗ (∃ d, owns (c : Thread nD τ) (bufs t).kv fullShare ((dats m 0 c).before 2 t d))
    ∗ (∃ d, owns (c : Thread nD τ) (bufs t).kr fullShare ((dats m 0 c).before 3 t d))
    ∗ (∃ d, owns (c : Thread nD τ) (bufs t).o fullShare ((dats m 0 c).before 4 t d))
    ∗ (∃ d, owns (c : Thread nD τ) (bufs t).lse fullShare ((dats m 0 c).before 5 t d))))
    (W := wp frame (wpE (defs₀ (F := F)) Variants.none c none) Set.univ (bodyAt0 t))
    (Q := fun _ => iprop((dats m 0 c).Φ t.succ ∗ (dats m 0 c).owesAt () t.succ
    ∗ owns (c : Thread nD τ) (bufs t).q fullShare ((dats m 0 c).after 0 t)
    ∗ owns (c : Thread nD τ) (bufs t).qr fullShare ((dats m 0 c).after 1 t)
    ∗ owns (c : Thread nD τ) (bufs t).kv fullShare ((dats m 0 c).after 2 t)
    ∗ owns (c : Thread nD τ) (bufs t).kr fullShare ((dats m 0 c).after 3 t)
    ∗ owns (c : Thread nD τ) (bufs t).o fullShare ((dats m 0 c).after 4 t)
    ∗ owns (c : Thread nD τ) (bufs t).lse fullShare ((dats m 0 c).after 5 t))) ?_ rfl .rfl fun _ => .rfl
  simp only [before0_0_of m (dats m 0 c) (A_eq m c 0) (after_q m c), before0_1_of m (dats m 0 c) (A_eq m c 1) (after_qr m c),
    before0_2_of m (dats m 0 c) (A_eq m c 2) (after_kv m c), before0_3_of m (dats m 0 c) (A_eq m c 3) (after_kr m c)]
  rw [show (dats m 0 c).Φ t.succ = (dats m 0 c).Φ t.castSucc from rfl,
    show (dats m 0 c).owesAt () t.succ = (dats m 0 c).owesAt () t.castSucc from rfl, after_q, after_qr, after_kv, after_kr, after_o, after_lse]
  iintro ⟨HΦ, Ho, ⟨%d0, H0⟩, ⟨%d1, H1⟩, ⟨%d2, H2⟩, ⟨%d3, H3⟩, ⟨%d4, H4⟩, ⟨%d5, H5⟩⟩
  iapply ((runAt c (grid0.coords t) (bufs t) (ins m c t)).2.2 Set.univ _)
  unfold held ins; dsimp only
  isplitl [H0 H1 H2 H3]
  · isplitl [H0]; · iexact H0
    isplitl [H1]; · iexact H1
    isplitl [H2]; · iexact H2
    iexact H3
  isplitl [H4]; · iexists _; iexact H4
  isplitl [H5]; · iexists _; iexact H5
  iintro ⟨⟨H0, H1, H2, H3⟩, ⟨%e4, H4⟩, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover_o c _ _ _)
  unfold owns; iexists _; isplitr
  swap; · iexact H5
  ipureintro; exact View.read_writes_of_cover _ _ _ _ _ (cover_lse c _ _ _)

set_option backward.isDefEq.respectTransparency.types false in
set_option maxHeartbeats 800000 in
/-- The program runs, leaves each of the pipeline's arrays at what its proof data says, and every counter at zero. -/
theorem run_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main (fun c => (body_obligation m c).loose)
    (fun _ w => by fin_cases w <;> rfl) (fun _ _ => rfl) (V m) (hmain m Variants.none) (A_eq m) (fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Kernel3Ideal.Fwd

end
-- ==== Proof.FwdBits.lean ====
/- The frame of the forward attention as it stands, from that of its reading with the mask's number named: at the machine's
   floats, with the name read as the number, the two programs are one. -/
module

public import proofs.«01_k».proof.Proof.FwdFrame
public import proofs.«01_k».proof.Proof.Gen.Kernel3
public import Idealize.ShloMosaic.PureOps.BitExact

@[expose] public section

set_option maxRecDepth 16384

noncomputable section

namespace Cert.Kernel3.Fwd

open Idealize.ShloMosaic Idealize.ShloMosaic.TcCoe Idealize.ShloMosaic.Tactic Idealize.SL.Sem

/-- Every name read as the number it stands for. -/
local instance namedBits : Named Bits := ⟨fun _ _ {φ} b => Scalar.ofBits φ b⟩

theorem frame (m : (ℓ : Loc Cert.Kernel3.nD Cert.Kernel3.τ Cert.Kernel3.sig) → Buf (Elt Bits) ℓ) (ρ : Dev Cert.Kernel3.nD → PrngReg) :
    θ_run (Cert.Kernel3.defs (F := Bits)) (onTc (τ := Cert.Kernel3.τ) (Cert.Kernel3.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := Cert.Kernel3Ideal.Fwd.frame (F := Bits) m ρ
  refine Eq.mp ?_ h
  sl_kernel_rfl

end Cert.Kernel3.Fwd

end
-- ==== Proof.FwdModel.lean ====
/- The forward attention's body as one step per head and block of keys: the running maximum, the sum of the exponentials and
   the weighted values, carried over the blocks before the diagonal and through the diagonal one. -/
module

public import proofs.«01_k».proof.Proof.FwdFrame

@[expose] public section

set_option maxRecDepth 16384

noncomputable section

namespace Cert.Kernel3Ideal.Fwd

open Idealize.ShloMosaic Idealize.ShloMosaic.TcCoe Idealize.ShloMosaic.Tactic Cert.Kernel3Ideal.Gen

variable {F : FTy → Type} [FloatOps F] [Named F]

/-- The first row of a block of keys. -/
abbrev Row := { s : ℕ // s + 256 ≤ 2048 }

theorem inb_kr (s : Row) : ∀ a : Fin 3, ![0, s.1, 0] a + S1x256x128.size a ≤ S1x2048x128.size a := by
  intro a; fin_cases a
  · exact (by decide : 0 + 1 ≤ 1)
  · exact s.2
  · exact (by decide : 0 + 128 ≤ 128)
theorem inb_kv (s : Row) (e : Fin 8) : ∀ a : Fin 3, ![0, s.1, 128 * e.val] a + S1x256x128.size a ≤ S1x2048x1024.size a := by
  intro a; fin_cases a
  · exact (by decide : 0 + 1 ≤ 1)
  · exact s.2
  · have : ∀ e : Fin 8, 128 * e.val + 128 ≤ 1024 := by decide
    exact this e
theorem inb_q (h : Fin 4) : ∀ a : Fin 3, ![0, 0, 128 * h.val] a + S1x256x128.size a ≤ S1x256x512.size a := by
  revert h; decide
theorem inb_lse (h : Fin 4) : ∀ a : Fin 4, ![0, h.val, 0, 0] a + S1x1x256x128.size a ≤ S1x4x256x128.size a := by
  revert h; decide

variable (b : Bufs) (x : Ins F)

/-- 128 columns of the keys and values, and the rotary keys, of one block. -/
def ldkv (s : Row) (e : Fin 8) : Vec F S1x256x128 .bf16 :=
  View.readAt (Elt F) b.kv.view (Rect.unit (s := S1x2048x1024) ![0, s.1, 128 * e.val] S1x256x128.size (inb_kv s e)).toLoadRect (b.hkv.unread x.kv)
def ldkr (s : Row) : Vec F S1x256x128 .bf16 :=
  View.readAt (Elt F) b.kr.view (Rect.unit (s := S1x2048x128) ![0, s.1, 0] S1x256x128.size (inb_kr s)).toLoadRect (b.hkr.unread x.kr)
/-- One head's 128 columns of the queries and of the rotary queries. -/
def ldq (h : Fin 4) : Vec F S1x256x128 .bf16 :=
  View.readAt (Elt F) b.q.view (Rect.unit (s := S1x256x512) ![0, 0, 128 * h.val] S1x256x128.size (inb_q h)).toLoadRect (b.hq.unread x.q)
def ldqr (h : Fin 4) : Vec F S1x256x128 .bf16 :=
  View.readAt (Elt F) b.qr.view (Rect.unit (s := S1x256x512) ![0, 0, 128 * h.val] S1x256x128.size (inb_q h)).toLoadRect (b.hqr.unread x.qr)

/-- A block without its leading axis, and two such side by side. -/
def two (v : Vec F S1x256x128 .bf16) : FVec F S256x128 .bf16 := shapeCast S256x128 v shapeCasts_S1x256x128_S256x128
def cat (u v : Vec F S1x256x128 .bf16) : FVec F S256x256 .bf16 :=
  concatenate S256x256 1 [⟨S256x128, two u⟩, ⟨S256x128, two v⟩] concatenates_S256x128_S256x128_S256x256_d1

/-- The scaled scores of the queries `q` with the keys `k`. -/
def scores (q k : FVec F S256x256 .bf16) : FVec F S256x256 .f32 :=
  mulf (matmul dot_S256x256_S256x256_S256x256_1_1_0_0_n_n none q k (constant S256x256 .f32 0x00000000#32)) (broadcast S256x256 (Scalar.ofBits .f32 0x3D93CD3A#32))
/-- The scores of the diagonal block, those of later keys replaced by the named constant. -/
def diagScores (S : FVec F S256x256 .f32) : FVec F S256x256 .f32 :=
  select k0_pay130 S (broadcast S256x256 (Named.named (F := F) κ "mask" 0xF149F2CA#32))

/-- What is carried of one head. -/
structure Head (F : FTy → Type) where
  m : FVec F S256x1 .f32
  l : FVec F S256x1 .f32
  a : FVec F S256x128 .f32

/-- The maximum after a block of scores. -/
def newMax (S : FVec F S256x256 .f32) (m : FVec F S256x1 .f32) : FVec F S256x1 .f32 :=
  maximumf m (shapeCast S256x1 (multiReduction .maximumf [1] S256 S 0xFF800000#32 reduces_S256x256_S256 (.inl rfl) rfl) shapeCasts_S256_S256x1)
/-- The exponentials of a block of scores, less the maximum `m`. -/
def expo (S : FVec F S256x256 .f32) (m : FVec F S256x1 .f32) : FVec F S256x256 .f32 :=
  exp (subf S (broadcastTo S256x256 m broadcasts_S256x1_S256x256))

/-- One block of scores `S` with values `v`. -/
def upd (S : FVec F S256x256 .f32) (v : Vec F S1x256x128 .bf16) (H : Head F) : Head F where
  m := newMax S H.m
  l := addf (mulf (exp (subf H.m (newMax S H.m))) H.l)
    (shapeCast S256x1 (multiReduction .add [1] S256 (expo S (newMax S H.m)) 0x00000000#32 reduces_S256x256_S256 (.inl rfl) rfl) shapeCasts_S256_S256x1)
  a := addf (mulf (broadcastTo S256x128 (exp (subf H.m (newMax S H.m))) broadcasts_S256x1_S256x128) H.a)
    (matmul dot_S256x256_S256x128_S256x128_1_0_0_1_n_n none (truncf .bf16 (expo S (newMax S H.m)) bitsLt_bf16_f32) (two v) (constant S256x128 .f32 0x00000000#32))

/-- The columns of a head's keys, and of its values. -/
abbrev colK (h : Fin 4) : Fin 8 := ⟨2 * h.val, by omega⟩
abbrev colV (h : Fin 4) : Fin 8 := ⟨2 * h.val + 1, by omega⟩

/-- A head's scores with a block of keys. -/
def blockScores (s : Row) (h : Fin 4) : FVec F S256x256 .f32 := scores (cat (ldq b x h) (ldqr b x h)) (cat (ldkv b x s (colK h)) (ldkr b x s))

/-- A block before the diagonal, and the diagonal block. -/
def step (s : Row) (H : Fin 4 → Head F) (h : Fin 4) : Head F := upd (blockScores b x s h) (ldkv b x s (colV h)) (H h)
def stepD (s : Row) (H : Fin 4 → Head F) (h : Fin 4) : Head F := upd (diagScores (blockScores b x s h)) (ldkv b x s (colV h)) (H h)

/-- What is carried before the first block. -/
def start (_ : Fin 4) : Head F := ⟨k0_pay131, k0_pay132, k0_pay133 (Scalar.ofBits .f32 0x00000000#32)⟩

/-- The four heads as the loop carries them. -/
abbrev Carry (F : FTy → Type) := FVec F S256x1 .f32 × FVec F S256x1 .f32 × FVec F S256x128 .f32 × FVec F S256x1 .f32 × FVec F S256x1 .f32 × FVec F S256x128 .f32
  × FVec F S256x1 .f32 × FVec F S256x1 .f32 × FVec F S256x128 .f32 × FVec F S256x1 .f32 × FVec F S256x1 .f32 × FVec F S256x128 .f32
def pack (H : Fin 4 → Head F) : Carry F :=
  ((H 0).m, (H 0).l, (H 0).a, (H 1).m, (H 1).l, (H 1).a, (H 2).m, (H 2).l, (H 2).a, (H 3).m, (H 3).l, (H 3).a)

variable (c : Dev nD) (i : grid0.Coords)

/-- The rows of the blocks. -/
def rowA (t : Fin (k0_t1_loop i).trips) : Row := ⟨k0_off1 i t 1, k0_off1_inb i t 1⟩
def rowB (t : Fin (k0_t1_loop i).trips) : Row := ⟨k0_off10 i t 1, k0_off10_inb i t 1⟩
def rowC (h : k0_cond1 i = 1#1) : Row := ⟨k0_off37 i 1, k0_off37_inb i h 1⟩
def rowD : Row := ⟨k0_off46 i 1, k0_off46_inb i 1⟩

/-- One trip of the loop. -/
abbrev trip (t : Fin (k0_t1_loop i).trips) (H : Carry F) : Carry F :=
  tripR_k0_t1 Variants.none c none i b.q b.hq b.qr b.hqr b.kv b.hkv b.kr b.hkr b.o b.ho b.lse b.hlse (BitVec.ofNat 32 (i 1).val)
    (cat (ldq b x 0) (ldqr b x 0)) (cat (ldq b x 1) (ldqr b x 1)) (cat (ldq b x 2) (ldqr b x 2)) (cat (ldq b x 3) (ldqr b x 3))
    k0_pay131 k0_pay132 (Scalar.ofBits .f32 0x00000000#32) (b.hkv.unread x.kv) (b.hkr.unread x.kr) t H

theorem trip_eq (t : Fin (k0_t1_loop i).trips) (H : Fin 4 → Head F) :
    trip b x c i t (pack H) = pack (step b x (rowB i t) (step b x (rowA i t) H)) := by
  sl_kernel_rfl

/-- The carry before trip `k`. -/
abbrev loop (k : ℕ) : Carry F :=
  st_k0_t1 Variants.none c none i b.q b.hq b.qr b.hqr b.kv b.hkv b.kr b.hkr b.o b.ho b.lse b.hlse (BitVec.ofNat 32 (i 1).val)
    (cat (ldq b x 0) (ldqr b x 0)) (cat (ldq b x 1) (ldqr b x 1)) (cat (ldq b x 2) (ldqr b x 2)) (cat (ldq b x 3) (ldqr b x 3))
    k0_pay131 k0_pay132 (Scalar.ofBits .f32 0x00000000#32) (b.hkv.unread x.kv) (b.hkr.unread x.kr) (pack start) k
/-- The carry before trip `k` of the second loop, which has none. -/
abbrev loop2 (k : ℕ) : Carry F :=
  st_k0_t2 Variants.none c none i b.q b.hq b.qr b.hqr b.kv b.hkv b.kr b.hkr b.o b.ho b.lse b.hlse (BitVec.ofNat 32 (i 1).val)
    (cat (ldq b x 0) (ldqr b x 0)) (cat (ldq b x 1) (ldqr b x 1)) (cat (ldq b x 2) (ldqr b x 2)) (cat (ldq b x 3) (ldqr b x 3))
    k0_pay131 k0_pay132 (Scalar.ofBits .f32 0x00000000#32) (k0_t1_loop i).ub (b.hkv.unread x.kv) (b.hkr.unread x.kr)
    (loop b x c i (k0_t1_loop i).trips) k

/-- The four heads of a carry. -/
def unpack (H : Carry F) (h : Fin 4) : Head F :=
  match h with
  | 0 => ⟨H.1, H.2.1, H.2.2.1⟩
  | 1 => ⟨H.2.2.2.1, H.2.2.2.2.1, H.2.2.2.2.2.1⟩
  | 2 => ⟨H.2.2.2.2.2.2.1, H.2.2.2.2.2.2.2.1, H.2.2.2.2.2.2.2.2.1⟩
  | 3 => ⟨H.2.2.2.2.2.2.2.2.2.1, H.2.2.2.2.2.2.2.2.2.2.1, H.2.2.2.2.2.2.2.2.2.2.2⟩

theorem unpack_pack (H : Fin 4 → Head F) : unpack (pack H) = H := by
  funext h; fin_cases h <;> rfl

/-- A head's two results. -/
def blockO (H : Head F) : FVec F S1x256x128 .f32 :=
  shapeCast S1x256x128 (divf H.a (broadcastTo S256x128 H.l broadcasts_S256x1_S256x128)) shapeCasts_S256x128_S1x256x128
def blockL (H : Head F) : FVec F S1x1x256x128 .f32 :=
  shapeCast S1x1x256x128 (broadcastTo S256x128 (shapeCast S256x1 (addf H.m (log H.l)) shapeCasts_S256x1_S256x1) broadcasts_S256x1_S256x128) shapeCasts_S256x128_S1x1x256x128

def rectO (h : Fin 4) : Rect S1x256x512 := Rect.unit (s := S1x256x512) ![0, 0, 128 * h.val] S1x256x128.size (inb_q h)
def rectL (h : Fin 4) : Rect S1x4x256x128 := Rect.unit (s := S1x4x256x128) ![0, h.val, 0, 0] S1x1x256x128.size (inb_lse h)

/-- The pieces stored, the last first, for the heads after the diagonal block. -/
def piecesO (H : Fin 4 → Head F) : List (View.Piece (Elt F) S1x256x512 .f32) :=
  [⟨rectO 3, blockO (H 3)⟩, ⟨rectO 2, blockO (H 2)⟩, ⟨rectO 1, blockO (H 1)⟩, ⟨rectO 0, blockO (H 0)⟩]
def piecesL (H : Fin 4 → Head F) : List (View.Piece (Elt F) S1x4x256x128 .f32) :=
  [⟨rectL 3, blockL (H 3)⟩, ⟨rectL 2, blockL (H 2)⟩, ⟨rectL 1, blockL (H 1)⟩, ⟨rectL 0, blockL (H 0)⟩]

theorem even_o (h : ¬k0_cond1 i = 1#1) :
    (runEven c i b x h).1 = piecesO (stepD b x (rowD i) (unpack (loop2 b x c i (k0_t2_loop i).trips))) := by
  sl_kernel_rfl
theorem even_l (h : ¬k0_cond1 i = 1#1) :
    (runEven c i b x h).2.1 = piecesL (stepD b x (rowD i) (unpack (loop2 b x c i (k0_t2_loop i).trips))) := by
  sl_kernel_rfl
theorem odd_o (h : k0_cond1 i = 1#1) :
    (runOdd c i b x h).1 = piecesO (stepD b x (rowD i) (step b x (rowC i h) (unpack (loop2 b x c i (k0_t2_loop i).trips)))) := by
  sl_kernel_rfl
theorem odd_l (h : k0_cond1 i = 1#1) :
    (runOdd c i b x h).2.1 = piecesL (stepD b x (rowD i) (step b x (rowC i h) (unpack (loop2 b x c i (k0_t2_loop i).trips)))) := by
  sl_kernel_rfl

/-! The rows of the blocks and the numbers of trips, over the grid. -/

theorem trips_eq : ∀ i : grid0.Coords, (k0_t1_loop i).trips = (i 1).val / 2 := by decide +kernel
theorem trips2_eq : ∀ i : grid0.Coords, (k0_t2_loop i).trips = 0 := by decide +kernel
theorem cond_eq : ∀ i : grid0.Coords, k0_cond1 i = 1#1 ↔ (i 1).val % 2 = 1 := by decide +kernel
theorem row_lt (i : grid0.Coords) : (i 1).val < 8 := (i 1).isLt
theorem offA_eq : ∀ (i : grid0.Coords) (t : Fin (k0_t1_loop i).trips), k0_off1 i t 1 = 256 * (2 * t.val) := by decide +kernel
theorem offB_eq : ∀ (i : grid0.Coords) (t : Fin (k0_t1_loop i).trips), k0_off10 i t 1 = 256 * (2 * t.val + 1) := by decide +kernel
theorem offC_eq : ∀ i : grid0.Coords, k0_cond1 i = 1#1 → k0_off37 i 1 = 256 * ((i 1).val - 1) := by decide +kernel
theorem offD_eq : ∀ i : grid0.Coords, k0_off46 i 1 = 256 * (i 1).val := by decide +kernel

/-- The `n`-th block's row. -/
def blk (n : ℕ) : Row := ⟨256 * (n % 8), by omega⟩

/-- The heads after the first `n` blocks. -/
def upto : ℕ → Fin 4 → Head F
  | 0 => start
  | n + 1 => step b x (blk n) (upto n)

theorem rowA_eq (t : Fin (k0_t1_loop i).trips) : rowA i t = blk (2 * t.val) :=
  Subtype.ext ((offA_eq i t).trans (by
    have := t.isLt; have := trips_eq i; have := row_lt i
    show _ = 256 * (2 * t.val % 8)
    omega))
theorem rowB_eq (t : Fin (k0_t1_loop i).trips) : rowB i t = blk (2 * t.val + 1) :=
  Subtype.ext ((offB_eq i t).trans (by
    have := t.isLt; have := trips_eq i; have := row_lt i
    show _ = 256 * ((2 * t.val + 1) % 8)
    omega))
theorem rowC_eq (h : k0_cond1 i = 1#1) : rowC i h = blk ((i 1).val - 1) :=
  Subtype.ext ((offC_eq i h).trans (by
    have := row_lt i
    show _ = 256 * (((i 1).val - 1) % 8)
    omega))
theorem rowD_eq : rowD i = blk (i 1).val :=
  Subtype.ext ((offD_eq i).trans (by
    have := row_lt i
    show _ = 256 * ((i 1).val % 8)
    omega))

theorem loop_eq (k : ℕ) (hk : k ≤ (k0_t1_loop i).trips) : loop b x c i k = pack (upto b x (2 * k)) := by
  induction k with
  | zero => rfl
  | succ k ih =>
    refine (st_k0_t1_succ Variants.none c none i b.q b.hq b.qr b.hqr b.kv b.hkv b.kr b.hkr b.o b.ho b.lse b.hlse _ _ _ _ _ _ _ _ _ _ _ ⟨k, hk⟩).trans ?_
    rw [show st_k0_t1 Variants.none c none i b.q b.hq b.qr b.hqr b.kv b.hkv b.kr b.hkr b.o b.ho b.lse b.hlse (BitVec.ofNat 32 (i 1).val)
      (cat (ldq b x 0) (ldqr b x 0)) (cat (ldq b x 1) (ldqr b x 1)) (cat (ldq b x 2) (ldqr b x 2)) (cat (ldq b x 3) (ldqr b x 3))
      k0_pay131 k0_pay132 (Scalar.ofBits .f32 0x00000000#32) (b.hkv.unread x.kv) (b.hkr.unread x.kr) (pack start) k = pack (upto b x (2 * k)) from
      ih (Nat.le_of_succ_le hk)]
    refine (trip_eq b x c i ⟨k, hk⟩ _).trans ?_
    rw [rowA_eq, rowB_eq]
    rfl

theorem loop2_eq : loop2 b x c i (k0_t2_loop i).trips = pack (upto b x (2 * (k0_t1_loop i).trips)) := by
  rw [trips2_eq]
  exact loop_eq b x c i _ le_rfl

/-- The heads after the diagonal block. -/
def final (n : ℕ) : Fin 4 → Head F := stepD b x (blk n) (upto b x n)

theorem stored_o : (runAt c i b x).1 = piecesO (final b x (i 1).val) := by
  by_cases h : k0_cond1 i = 1#1
  · have hq := (cond_eq i).mp h
    rw [runAt_odd c i b x h, odd_o, loop2_eq, unpack_pack, rowC_eq, rowD_eq, trips_eq, show 2 * ((i 1).val / 2) = (i 1).val - 1 by omega]
    unfold final
    rw [show upto b x (i 1).val = upto b x ((i 1).val - 1 + 1) by congr 1; omega]
    rfl
  · have hq := mt (cond_eq i).mpr h
    rw [runAt_even c i b x h, even_o, loop2_eq, unpack_pack, rowD_eq, trips_eq, show 2 * ((i 1).val / 2) = (i 1).val by omega]
    rfl
theorem stored_l : (runAt c i b x).2.1 = piecesL (final b x (i 1).val) := by
  by_cases h : k0_cond1 i = 1#1
  · have hq := (cond_eq i).mp h
    rw [runAt_odd c i b x h, odd_l, loop2_eq, unpack_pack, rowC_eq, rowD_eq, trips_eq, show 2 * ((i 1).val / 2) = (i 1).val - 1 by omega]
    unfold final
    rw [show upto b x (i 1).val = upto b x ((i 1).val - 1 + 1) by congr 1; omega]
    rfl
  · have hq := mt (cond_eq i).mpr h
    rw [runAt_even c i b x h, even_l, loop2_eq, unpack_pack, rowD_eq, trips_eq, show 2 * ((i 1).val / 2) = (i 1).val by omega]
    rfl

end Cert.Kernel3Ideal.Fwd

end
-- ==== Proof.OnlineRow.lean ====
/- One row of a softmax taken block by block, over the reals: a running maximum, the sum of the exponentials and the
   weighted sum of the values, each less the maximum, which every block rescales. -/
module

public import proofs.«01_k».proof.Proof.AttnRow

@[expose] public section

noncomputable section

open Idealize.ShloMosaic RmsRow

namespace OnlineRow

/-- The three running values `m`, `l`, `a` hold the sum `X` of the exponentials and the weighted sum `Y` of the blocks so far,
    both scaled by `exp (-m)`; before the first block `m` is `⊥`. -/
def Acc (X Y : ℝ) (m l a : EReal) : Prop :=
  (X = 0 ∧ Y = 0 ∧ m = ⊥ ∧ l = 0 ∧ a = 0) ∨ ∃ M : ℝ, m = M ∧ l = ((Real.exp (-M) * X : ℝ) : EReal) ∧ a = ((Real.exp (-M) * Y : ℝ) : EReal)

theorem acc_init : Acc 0 0 ⊥ 0 0 := Or.inl ⟨rfl, rfl, rfl, rfl, rfl⟩

variable {n : ℕ} (w : Fin n → Prop) [DecidablePred w] (x v : Fin n → ℝ)

/-- A block's scores after the mask. -/
def masked (k : Fin n) : EReal := if w k then (x k : EReal) else ⊥

theorem weight (M : ℝ) (k : Fin n) : Ideal.exp (masked w x k - M) = ((Real.exp (-M) * (if w k then Real.exp (x k) else 0) : ℝ) : EReal) := by
  unfold masked
  split_ifs
  · rw [← EReal.coe_sub, Ideal.exp_coe, ← Real.exp_add, neg_add_eq_sub]
  · rw [EReal.bot_sub, Ideal.exp_bot, mul_zero, EReal.coe_zero]

/-- One block: the running values rescaled to the new maximum, and the block's own sums. -/
theorem step {X Y : ℝ} {m l a bm : EReal} (h : Acc X Y m l a) (hb : IsReal bm) :
    Acc (X + ∑ k, if w k then Real.exp (x k) else 0) (Y + ∑ k, (if w k then Real.exp (x k) else 0) * v k) (max m bm)
      (Ideal.exp (m - max m bm) * l + ∑ k, Ideal.exp (masked w x k - max m bm))
      (Ideal.exp (m - max m bm) * a + ∑ k, Ideal.exp (masked w x k - max m bm) * (v k : EReal)) := by
  obtain ⟨B, rfl⟩ := hb
  rcases h with ⟨rfl, rfl, rfl, rfl, rfl⟩ | ⟨M, rfl, rfl, rfl⟩
  · refine Or.inr ⟨B, max_bot_left _, ?_, ?_⟩
    · rw [max_bot_left, EReal.bot_sub, Ideal.exp_bot, zero_mul, zero_add]
      simp only [weight, coe_sum, zero_add, Finset.mul_sum]
    · rw [max_bot_left, EReal.bot_sub, Ideal.exp_bot, zero_mul, zero_add]
      simp only [weight, ← EReal.coe_mul, coe_sum, zero_add, Finset.mul_sum, mul_assoc]
  · have e : max (M : EReal) (B : EReal) = ((max M B : ℝ) : EReal) := (EReal.coe_strictMono.monotone.map_max).symm
    have r : ∀ Z : ℝ, Real.exp (M - max M B) * (Real.exp (-M) * Z) = Real.exp (-max M B) * Z := fun Z => by
      rw [← mul_assoc, ← Real.exp_add]
      congr 2
      ring
    refine Or.inr ⟨max M B, e, ?_, ?_⟩
    · rw [e]
      simp only [weight, ← EReal.coe_sub, Ideal.exp_coe, ← EReal.coe_mul, coe_sum, ← EReal.coe_add]
      rw [r, mul_add, Finset.mul_sum]
    · rw [e]
      simp only [weight, ← EReal.coe_sub, Ideal.exp_coe, ← EReal.coe_mul, coe_sum, ← EReal.coe_add]
      rw [r, mul_add, Finset.mul_sum]
      simp only [mul_assoc]

/-- After the last block, the weighted sum by the sum of the exponentials. -/
theorem quot {X Y : ℝ} {m l a : EReal} (h : Acc X Y m l a) (hX : 0 < X) : Ideal.div a l = ((Y / X : ℝ) : EReal) := by
  rcases h with ⟨h, -⟩ | ⟨M, rfl, rfl, rfl⟩
  · exact absurd h hX.ne'
  · rw [div_real _ (mul_pos (Real.exp_pos _) hX).ne', mul_div_mul_left _ _ (Real.exp_pos _).ne']

/-- After the last block, the logarithm of the sum of the exponentials. -/
theorem logsum {X Y : ℝ} {m l a : EReal} (h : Acc X Y m l a) (hX : 0 < X) : m + Ideal.log l = ((Real.log X : ℝ) : EReal) := by
  rcases h with ⟨h, -⟩ | ⟨M, rfl, rfl, rfl⟩
  · exact absurd h hX.ne'
  · rw [Ideal.log_coe, if_neg (not_le.mpr (mul_pos (Real.exp_pos _) hX)), ← EReal.coe_add, Real.log_mul (Real.exp_pos _).ne' hX.ne',
      Real.log_exp, add_neg_cancel_left]

end OnlineRow

end
-- ==== Proof.FwdPoint.lean ====
/- The forward attention's blocks element by element, at `F := Ideal`: a row of scores, and what one block does to the carry. -/
module

public import proofs.«01_k».proof.Proof.FwdModel
public import proofs.«01_k».proof.Proof.OnlineRow
public import proofs.«01_k».proof.Proof.AttnPoint
public import proofs.«01_k».proof.Proof.Consts
public import Idealize.ShloMosaic.Lib.Pipeline.ValueKit
public import Idealize.ShloMosaic.Lib.Pointwise
public import Idealize.ShloMosaic.Lib.WholeRead

@[expose] public section

set_option maxRecDepth 16384

noncomputable section

namespace Cert.Kernel3Ideal.Fwd

open Idealize.ShloMosaic Idealize.ShloMosaic.TcCoe Cert.Kernel3Ideal.Gen RmsRow
open Cert.Kernel2Ideal.Attn (sc sge_eq)

variable (b : Bufs) (x : Ins Ideal)

abbrev keyRow (s : Row) (k : Fin 256) : Fin 2048 := ⟨s.1 + k.val, by have := s.2; omega⟩
abbrev laneQ (h : Fin 4) (d : Fin 128) : Fin 512 := ⟨128 * h.val + d.val, by omega⟩
abbrev laneK (e : Fin 8) (d : Fin 128) : Fin 1024 := ⟨128 * e.val + d.val, by omega⟩

theorem ldkv_at (s : Row) (e : Fin 8) (k : Fin 256) (d : Fin 128) : ldkv b x s e (ix3 0 k d) = x.kv (ix3 0 (keyRow s k) (laneK e d)) := by
  unfold ldkv
  rw [Memref.IsWhole.readAt_unread]
  congr 1
  funext k; fin_cases k <;> apply Fin.ext <;> simp [Rect.idx_unit_val, ix3]
theorem ldkr_at (s : Row) (k : Fin 256) (d : Fin 128) : ldkr b x s (ix3 0 k d) = x.kr (ix3 0 (keyRow s k) d) := by
  unfold ldkr
  rw [Memref.IsWhole.readAt_unread]
  congr 1
  funext k; fin_cases k <;> apply Fin.ext <;> simp [Rect.idx_unit_val, ix3]
theorem ldq_at (h : Fin 4) (r : Fin 256) (d : Fin 128) : ldq b x h (ix3 0 r d) = x.q (ix3 0 r (laneQ h d)) := by
  unfold ldq
  rw [Memref.IsWhole.readAt_unread]
  congr 1
  funext k; fin_cases k <;> apply Fin.ext <;> simp [Rect.idx_unit_val, ix3]
theorem ldqr_at (h : Fin 4) (r : Fin 256) (d : Fin 128) : ldqr b x h (ix3 0 r d) = x.qr (ix3 0 r (laneQ h d)) := by
  unfold ldqr
  rw [Memref.IsWhole.readAt_unread]
  congr 1
  funext k; fin_cases k <;> apply Fin.ext <;> simp [Rect.idx_unit_val, ix3]

theorem two_at (u : Vec Ideal S1x256x128 .bf16) (r : Fin 256) (d : Fin 128) : two u (ix2 r d) = u (ix3 0 r d) := by
  pointwise [two]

theorem cat_at (u v : Vec Ideal S1x256x128 .bf16) (r d : Fin 256) : cat u v (ix2 r d) =
    if h : d.val < 128 then u (ix3 0 r ⟨d.val, h⟩) else v (ix3 0 r ⟨d.val - 128, by omega⟩) := by
  pointwise [cat, two]

/-- A row of a head's queries, and of its keys, with the rotary lanes last. -/
def qry (h : Fin 4) (r d : Fin 256) : EReal := if e : d.val < 128 then x.q (ix3 0 r (laneQ h ⟨d.val, e⟩)) else x.qr (ix3 0 r (laneQ h ⟨d.val - 128, by omega⟩))
def key (h : Fin 4) (k : Fin 2048) (d : Fin 256) : EReal := if e : d.val < 128 then x.kv (ix3 0 k (laneK (colK h) ⟨d.val, e⟩)) else x.kr (ix3 0 k ⟨d.val - 128, by omega⟩)

/-- The scaled score of a row with a key. -/
def sco (h : Fin 4) (r : Fin 256) (k : Fin 2048) : EReal := (∑ d, qry x h r d * key x h k d) * sc

theorem scores_at (q k : FVec Ideal S256x256 .bf16) (r a : Fin 256) : scores q k (ix2 r a) = (∑ d, q (ix2 r d) * k (ix2 a d)) * sc := by
  pointwise [scores]
  rfl

theorem blockScores_at (s : Row) (h : Fin 4) (r a : Fin 256) : blockScores b x s h (ix2 r a) = sco x h r (keyRow s a) := by
  unfold blockScores sco
  rw [scores_at]
  refine congrArg (· * sc) (Finset.sum_congr rfl fun d _ => congrArg₂ (fun u v : EReal => u * v) ?_ ?_)
  · rw [cat_at]; unfold qry; simp only [ldq_at, ldqr_at]
  · rw [cat_at]; unfold key; simp only [ldkv_at, ldkr_at]

theorem mask_bot : (Named.named (F := Ideal) κ "mask" (0xF149F2CA#32 : BitVec (FTy.bits .f32)) : Ideal .f32) = (⊥ : EReal) :=
  IdealRules.named_const.ideal_named_scalar _ _ _ _ rfl

theorem diagScores_at (S : FVec Ideal S256x256 .f32) (r a : Fin 256) : diagScores S (ix2 r a) = if a ≤ r then S (ix2 r a) else (⊥ : EReal) := by
  have e := mask_bot
  unfold diagScores
  generalize (Named.named (F := Ideal) κ "mask" (0xF149F2CA#32 : BitVec (FTy.bits .f32)) : Ideal .f32) = z at e ⊢
  pointwise [k0_pay130]
  rw [sge_eq]
  by_cases h : a ≤ r <;> simp [h, Scalar.select, e]

/-- The greatest score of a row of a block. -/
def top (S : FVec Ideal S256x256 .f32) (r : Fin 256) : EReal :=
  multiReduction (F := Ideal) .maximumf [1] S256 S 0xFF800000#32 reduces_S256x256_S256 (.inl rfl) rfl (ix1 r)

theorem top_real (S : FVec Ideal S256x256 .f32) (r : Fin 256) (hlt : ∀ a, S (ix2 r a) < (⊤ : EReal)) (a : Fin 256) (ha : IsReal (S (ix2 r a))) : IsReal (top S r) := by
  rw [show top S r = _ from multiReduction_maximumf_eq_fold S 0xFF800000#32 reduces_S256x256_S256 (.inl rfl) rfl (ix1 r)]
  have e : (FloatOps.ofBits .f32 0xFF800000#32 : Ideal .f32) = (⊥ : EReal) := Consts.ninf_eq
  rw [e]
  refine AttnRow.isReal_fold_max _ _ (fun i hi => ?_) (ix2 r a) ?_ ha
  · rw [Finset.mem_filter] at hi
    have h0 : i 0 = r := congrFun hi.2 0
    have : i = ix2 r (i 1) := by
      funext k
      fin_cases k
      · exact h0
      · rfl
    rw [this]
    exact hlt _
  · rw [Finset.mem_filter]
    refine ⟨Finset.mem_univ _, ?_⟩
    funext a
    fin_cases a
    rfl

theorem newMax_at (S : FVec Ideal S256x256 .f32) (m : FVec Ideal S256x1 .f32) (r : Fin 256) : newMax S m (ix2 r 0) = max (m (ix2 r 0)) (top S r) := by
  unfold newMax top
  generalize multiReduction (F := Ideal) .maximumf [1] S256 S 0xFF800000#32 reduces_S256x256_S256 (.inl rfl) rfl = z
  pointwise

theorem expo_at (S : FVec Ideal S256x256 .f32) (m : FVec Ideal S256x1 .f32) (r a : Fin 256) : expo S m (ix2 r a) = Ideal.exp (S (ix2 r a) - m (ix2 r 0)) := by
  pointwise [expo]

variable (S : FVec Ideal S256x256 .f32) (v : Vec Ideal S1x256x128 .bf16) (H : Head Ideal)

theorem upd_m (r : Fin 256) : (upd S v H).m (ix2 r 0) = max (H.m (ix2 r 0)) (top S r) := newMax_at S H.m r

theorem upd_l (r : Fin 256) : (upd S v H).l (ix2 r 0)
    = Ideal.exp (H.m (ix2 r 0) - max (H.m (ix2 r 0)) (top S r)) * H.l (ix2 r 0) + ∑ k, Ideal.exp (S (ix2 r k) - max (H.m (ix2 r 0)) (top S r)) := by
  rw [← newMax_at]
  unfold upd
  generalize newMax S H.m = z
  pointwise [expo_at]

theorem upd_a (r : Fin 256) (d : Fin 128) : (upd S v H).a (ix2 r d)
    = Ideal.exp (H.m (ix2 r 0) - max (H.m (ix2 r 0)) (top S r)) * H.a (ix2 r d)
      + ∑ k, Ideal.exp (S (ix2 r k) - max (H.m (ix2 r 0)) (top S r)) * v (ix3 0 k d) := by
  rw [← newMax_at]
  unfold upd
  generalize newMax S H.m = z
  pointwise [expo_at, two]

theorem upd_acc (r : Fin 256) (d : Fin 128) (w : Fin 256 → Prop) [DecidablePred w] (t u : Fin 256 → ℝ) (hS : ∀ k, S (ix2 r k) = OnlineRow.masked w t k)
    (hv : ∀ k, v (ix3 0 k d) = (u k : EReal)) (k₀ : Fin 256) (hk : w k₀) {X Y : ℝ}
    (h : OnlineRow.Acc X Y (H.m (ix2 r 0)) (H.l (ix2 r 0)) (H.a (ix2 r d))) :
    OnlineRow.Acc (X + ∑ k, if w k then Real.exp (t k) else 0) (Y + ∑ k, (if w k then Real.exp (t k) else 0) * u k)
      ((upd S v H).m (ix2 r 0)) ((upd S v H).l (ix2 r 0)) ((upd S v H).a (ix2 r d)) := by
  rw [upd_m, upd_l, upd_a]
  have ht : IsReal (top S r) := by
    refine top_real S r (fun a => ?_) k₀ ⟨t k₀, ?_⟩
    · rw [hS]; unfold OnlineRow.masked
      split_ifs
      · exact EReal.coe_lt_top _
      · exact bot_lt_top
    · rw [hS]; exact if_pos hk
  have := OnlineRow.step w t u h ht
  simp only [hS, hv]
  exact this

theorem start_acc (h : Fin 4) (r : Fin 256) (d : Fin 128) :
    OnlineRow.Acc 0 0 ((start (F := Ideal) h).m (ix2 r 0)) ((start (F := Ideal) h).l (ix2 r 0)) ((start (F := Ideal) h).a (ix2 r d)) := by
  have e : (start (F := Ideal) h).m (ix2 r 0) = (⊥ : EReal) := mask_bot
  have e1 : (start (F := Ideal) h).l (ix2 r 0) = (0 : EReal) := Consts.zero_eq
  have e2 : (start (F := Ideal) h).a (ix2 r d) = (0 : EReal) := Consts.zero_eq
  rw [e, e1, e2]
  exact OnlineRow.acc_init

end Cert.Kernel3Ideal.Fwd

end
-- ==== Proof.FwdRow.lean ====
/- A row of the forward attention's two results, over the reals: the blocks' sums put together are the row's. -/
module

public import proofs.«01_k».proof.Proof.FwdPoint

@[expose] public section

set_option maxRecDepth 16384

noncomputable section

namespace Cert.Kernel3Ideal.Fwd

open Idealize.ShloMosaic Idealize.ShloMosaic.TcCoe Cert.Kernel3Ideal.Gen RmsRow
open Cert.Kernel2Ideal.Attn (sc at8)

/-- The sum of `f` over the first `n` blocks of keys. -/
def below (f : Fin 2048 → ℝ) (n : ℕ) : ℝ := ∑ i : Fin 8, if i.val < n then ∑ a : Fin 256, f (at8 i a) else 0

theorem below_zero (f : Fin 2048 → ℝ) : below f 0 = 0 :=
  Finset.sum_eq_zero fun i _ => if_neg (Nat.not_lt_zero _)

theorem below_succ (f : Fin 2048 → ℝ) (n : Fin 8) : below f (n.val + 1) = below f n.val + ∑ a : Fin 256, f (at8 n a) := by
  have e : (∑ a : Fin 256, f (at8 n a)) = ∑ i : Fin 8, if i = n then ∑ a : Fin 256, f (at8 i a) else 0 := by
    rw [Finset.sum_ite_eq' Finset.univ n]; exact (if_pos (Finset.mem_univ _)).symm
  unfold below
  rw [e, ← Finset.sum_add_distrib]
  refine Finset.sum_congr rfl fun i _ => ?_
  rcases lt_trichotomy i n with h | rfl | h
  · rw [if_pos (Nat.lt_succ_of_lt h), if_pos (show i.val < n.val from h), if_neg h.ne, add_zero]
  · rw [if_pos (Nat.lt_succ_self _), if_neg (Nat.lt_irrefl _), if_pos rfl, zero_add]
  · rw [if_neg (show ¬ i.val < n.val + 1 by have : n.val < i.val := h; omega), if_neg (show ¬ i.val < n.val by have : n.val < i.val := h; omega),
      if_neg h.ne', add_zero]

theorem below_row (f : Fin 2048 → ℝ) (n : Fin 8) (r : Fin 256) :
    below f n.val + ∑ a : Fin 256, (if a ≤ r then f (at8 n a) else 0) = ∑ k, if k ≤ at8 n r then f k else 0 := by
  have hs : ∀ g : Fin 2048 → ℝ, ∑ k, g k = ∑ i : Fin 8, ∑ a : Fin 256, g (at8 i a) := fun g => by
    rw [← Fintype.sum_prod_type']
    refine (Fintype.sum_equiv (finProdFinEquiv (m := 8) (n := 256)) _ _ fun x => ?_).symm
    exact congrArg g (Fin.ext (by simp [finProdFinEquiv]; omega))
  have e : (∑ a : Fin 256, if a ≤ r then f (at8 n a) else 0) = ∑ i : Fin 8, if i = n then ∑ a : Fin 256, (if a ≤ r then f (at8 i a) else 0) else 0 := by
    rw [Finset.sum_ite_eq' Finset.univ n]; exact (if_pos (Finset.mem_univ _)).symm
  rw [hs]
  unfold below
  rw [e, ← Finset.sum_add_distrib]
  refine Finset.sum_congr rfl fun i _ => ?_
  have key : ∀ a : Fin 256, at8 i a ≤ at8 n r ↔ 256 * i.val + a.val ≤ 256 * n.val + r.val := fun a => Iff.rfl
  simp only [key]
  rcases lt_trichotomy i n with h | rfl | h
  · have h' : i.val < n.val := h
    rw [if_pos h', if_neg h.ne, add_zero]
    exact Finset.sum_congr rfl fun a _ => (if_pos (by omega)).symm
  · rw [if_neg (Nat.lt_irrefl _), if_pos rfl, zero_add]
    refine Finset.sum_congr rfl fun a _ => if_congr ?_ rfl rfl
    rw [Nat.add_le_add_iff_left]
    exact Iff.rfl
  · have h' : n.val < i.val := h
    rw [if_neg (by omega), if_neg h.ne', add_zero]
    exact (Finset.sum_eq_zero fun a _ => if_neg (by omega)).symm

variable (b : Bufs) (x : Ins Ideal)

theorem keyRow_blk (n : Fin 8) (a : Fin 256) : keyRow (blk n.val) a = at8 n a :=
  Fin.ext (by show 256 * (n.val % 8) + a.val = 256 * n.val + a.val; rw [Nat.mod_eq_of_lt n.isLt])

section Row

variable (h : Fin 4) (r : Fin 256) (d : Fin 128) (T U : Fin 2048 → ℝ) (hT : ∀ k, sco x h r k = (T k : EReal))
  (hU : ∀ k, x.kv (ix3 0 k (laneK (colV h) d)) = (U k : EReal))
include hT hU

/-- The carry after the first `n` blocks. -/
theorem upto_acc (n : ℕ) (hn : n ≤ 7) :
    OnlineRow.Acc (below (fun k => Real.exp (T k)) n) (below (fun k => Real.exp (T k) * U k) n)
      ((upto b x n h).m (ix2 r 0)) ((upto b x n h).l (ix2 r 0)) ((upto b x n h).a (ix2 r d)) := by
  induction n with
  | zero => rw [below_zero, below_zero]; exact start_acc h r d
  | succ n ih =>
    have ih := ih (by omega)
    have := upd_acc (blockScores b x (blk n) h) (ldkv b x (blk n) (colV h)) (upto b x n h) r d (fun _ => True)
      (fun a => T (keyRow (blk n) a)) (fun a => U (keyRow (blk n) a))
      (fun a => by rw [blockScores_at, hT]; exact (if_pos trivial).symm) (fun a => by rw [ldkv_at, hU]) 0 trivial ih
    have e1 := below_succ (fun k => Real.exp (T k)) ⟨n, by omega⟩
    have e2 := below_succ (fun k => Real.exp (T k) * U k) ⟨n, by omega⟩
    have k (a : Fin 256) := keyRow_blk ⟨n, by omega⟩ a
    simp only [← k] at e1 e2
    rw [e1, e2]
    simp only [if_true] at this
    exact this

/-- The carry after the diagonal block. -/
theorem final_acc (n : Fin 8) :
    OnlineRow.Acc (∑ k, if k ≤ at8 n r then Real.exp (T k) else 0) (∑ k, if k ≤ at8 n r then Real.exp (T k) * U k else 0)
      ((final b x n.val h).m (ix2 r 0)) ((final b x n.val h).l (ix2 r 0)) ((final b x n.val h).a (ix2 r d)) := by
  have := upd_acc (diagScores (blockScores b x (blk n.val) h)) (ldkv b x (blk n.val) (colV h)) (upto b x n.val h) r d (fun a => a ≤ r)
    (fun a => T (keyRow (blk n.val) a)) (fun a => U (keyRow (blk n.val) a))
    (fun a => by rw [diagScores_at, blockScores_at, hT]; rfl) (fun a => by rw [ldkv_at, hU]) r le_rfl
    (upto_acc b x h r d T U hT hU n.val (by omega))
  rw [← below_row, ← below_row]
  simp only [keyRow_blk, ite_mul, zero_mul] at this
  exact this

theorem pos (n : Fin 8) : 0 < ∑ k, if k ≤ at8 n r then Real.exp (T k) else 0 :=
  Finset.sum_pos' (fun k _ => by split_ifs; exacts [(Real.exp_pos _).le, le_rfl])
    ⟨at8 n r, Finset.mem_univ _, by rw [if_pos le_rfl]; exact Real.exp_pos _⟩

theorem blockO_at (n : Fin 8) : blockO (final b x n.val h) (ix3 0 r d)
    = (((∑ k, if k ≤ at8 n r then Real.exp (T k) * U k else 0) / ∑ k, if k ≤ at8 n r then Real.exp (T k) else 0 : ℝ) : EReal) := by
  rw [← OnlineRow.quot (final_acc b x h r d T U hT hU n) (pos x h r d T U hT hU n)]
  generalize final b x n.val h = H
  pointwise [blockO]

theorem blockL_at (n : Fin 8) (e : Fin 128) : blockL (final b x n.val h) (ix4 0 0 r e)
    = ((Real.log (∑ k, if k ≤ at8 n r then Real.exp (T k) else 0) : ℝ) : EReal) := by
  rw [← OnlineRow.logsum (final_acc b x h r d T U hT hU n) (pos x h r d T U hT hU n)]
  generalize final b x n.val h = H
  pointwise [blockL]

end Row

/-! The stored pieces, read back. -/

/-- An index of a head's piece. -/
def spotO (r : Fin 256) (d : Fin 128) (g : Fin 4) : (rectO g).shape.Idx := ix3 0 r d

theorem canon4_o (w : (g : Fin 4) → (rectO g).shape.Idx → Elt Ideal .f32) (h : Fin 4) (r : Fin 256) (d : Fin 128) :
    View.canon (Val := Elt Ideal) (e := .f32) [⟨rectO 3, w 3⟩, ⟨rectO 2, w 2⟩, ⟨rectO 1, w 1⟩, ⟨rectO 0, w 0⟩] (ix3 0 r (laneQ h d)) = w h (spotO r d h) := by
  have hin (g : Fin 4) : ix3 0 r (laneQ g d) = (rectO g).emb (spotO r d g) := by
    unfold rectO spotO
    funext k; fin_cases k <;> apply Fin.ext <;> simp [ValueKit.rect_emb_unit_val, ix3]
  have out (g : Fin 4) (hg : g ≠ h) : ix3 0 r (laneQ h d) ∉ (rectO g).set := fun hm => by
    obtain ⟨z, hz, he⟩ := (LoadRect.mem_set _).mp hm 2
    have hz' : z < 128 := hz
    have he' : 128 * h.val + d.val = 128 * g.val + 1 * z := he
    exact hg (Fin.ext (by omega))
  rcases (by omega : h = 0 ∨ h = 1 ∨ h = 2 ∨ h = 3) with rfl | rfl | rfl | rfl
  · rw [View.canon_cons_of_not_mem ⟨rectO 3, w 3⟩ _ (out 3 (by decide)), View.canon_cons_of_not_mem ⟨rectO 2, w 2⟩ _ (out 2 (by decide)),
      View.canon_cons_of_not_mem ⟨rectO 1, w 1⟩ _ (out 1 (by decide)), hin, View.canon_cons_emb]
  · rw [View.canon_cons_of_not_mem ⟨rectO 3, w 3⟩ _ (out 3 (by decide)), View.canon_cons_of_not_mem ⟨rectO 2, w 2⟩ _ (out 2 (by decide)), hin, View.canon_cons_emb]
  · rw [View.canon_cons_of_not_mem ⟨rectO 3, w 3⟩ _ (out 3 (by decide)), hin, View.canon_cons_emb]
  · rw [hin, View.canon_cons_emb]

theorem canon_o (H : Fin 4 → Head Ideal) (h : Fin 4) (r : Fin 256) (d : Fin 128) :
    View.canon (piecesO H) (ix3 0 r (laneQ h d)) = blockO (H h) (ix3 0 r d) := canon4_o (fun g => blockO (H g)) h r d

/-- An index of a head's piece. -/
def spotL (r : Fin 256) (d : Fin 128) (g : Fin 4) : (rectL g).shape.Idx := ix4 0 0 r d

theorem canon4_l (w : (g : Fin 4) → (rectL g).shape.Idx → Elt Ideal .f32) (h : Fin 4) (r : Fin 256) (d : Fin 128) :
    View.canon (Val := Elt Ideal) (e := .f32) [⟨rectL 3, w 3⟩, ⟨rectL 2, w 2⟩, ⟨rectL 1, w 1⟩, ⟨rectL 0, w 0⟩] (ix4 0 h r d) = w h (spotL r d h) := by
  have hin (g : Fin 4) : ix4 0 g r d = (rectL g).emb (spotL r d g) := by
    unfold rectL spotL
    funext k; fin_cases k <;> apply Fin.ext <;> simp [ValueKit.rect_emb_unit_val, ix4]
  have out (g : Fin 4) (hg : g ≠ h) : ix4 0 h r d ∉ (rectL g).set := fun hm => by
    obtain ⟨z, hz, he⟩ := (LoadRect.mem_set _).mp hm 1
    have hz' : z < 1 := hz
    have he' : h.val = g.val + 1 * z := he
    exact hg (Fin.ext (by omega))
  rcases (by omega : h = 0 ∨ h = 1 ∨ h = 2 ∨ h = 3) with rfl | rfl | rfl | rfl
  · rw [View.canon_cons_of_not_mem ⟨rectL 3, w 3⟩ _ (out 3 (by decide)), View.canon_cons_of_not_mem ⟨rectL 2, w 2⟩ _ (out 2 (by decide)),
      View.canon_cons_of_not_mem ⟨rectL 1, w 1⟩ _ (out 1 (by decide)), hin, View.canon_cons_emb]
  · rw [View.canon_cons_of_not_mem ⟨rectL 3, w 3⟩ _ (out 3 (by decide)), View.canon_cons_of_not_mem ⟨rectL 2, w 2⟩ _ (out 2 (by decide)), hin, View.canon_cons_emb]
  · rw [View.canon_cons_of_not_mem ⟨rectL 3, w 3⟩ _ (out 3 (by decide)), hin, View.canon_cons_emb]
  · rw [hin, View.canon_cons_emb]

theorem canon_l (H : Fin 4 → Head Ideal) (h : Fin 4) (r : Fin 256) (d : Fin 128) :
    View.canon (piecesL H) (ix4 0 h r d) = blockL (H h) (ix4 0 0 r d) := canon4_l (fun g => blockL (H g)) h r d

theorem outO_at (c : Dev nD) (i : grid0.Coords) (h : Fin 4) (r : Fin 256) (d : Fin 128) :
    outO c i b x (ix3 0 r (laneQ h d)) = blockO (final b x (i 1).val h) (ix3 0 r d) := by
  have e : outO c i b x = View.canon (runAt c i b x).1 := View.read_writes_junk_eq_canon viewO _
  rw [e, stored_o, canon_o]
theorem outL_at (c : Dev nD) (i : grid0.Coords) (h : Fin 4) (r : Fin 256) (d : Fin 128) :
    outL c i b x (ix4 0 h r d) = blockL (final b x (i 1).val h) (ix4 0 0 r d) := by
  have e : outL c i b x = View.canon (runAt c i b x).2.1 := View.read_writes_junk_eq_canon viewL _
  rw [e, stored_l, canon_l]

end Cert.Kernel3Ideal.Fwd

end
-- ==== Proof.FwdHost.lean ====
/- What the forward attention writes into its two arrays, in terms of the arguments, at `F := Ideal`. -/
module

public import proofs.«01_k».proof.Proof.FwdRow
public import proofs.«01_k».proof.Proof.AttnFinal
public import proofs.«01_k».proof.Proof.Gen.Reference3Ideal.Read
public import Idealize.ShloMosaic.Lib.StableHlo.RunRead

@[expose] public section

set_option maxRecDepth 16384

noncomputable section

namespace Cert.Kernel3Ideal.Fwd

open Idealize.ShloMosaic Idealize.ShloMosaic.TcCoe Idealize.SL Idealize.SL.Sem Cert.Kernel3Ideal.Gen RmsRow
open Idealize.ShloMosaic.Pipeline (Dat)
open Cert.Kernel2Ideal.Attn (sc at8 row_cases sum_pad sum_two hd lo lane hd_lane lo_lane)

variable (m : (ℓ : Loc nD τ sig) → Buf (Elt Ideal) ℓ) (c : Dev nD)

/-! The arguments, at their own types. -/

abbrev qn : FVec Ideal Cert.Reference3Ideal.S4x2048x4x128 .f32 := m ((c : Thread nD τ).loc main_arg0)
abbrev qr : FVec Ideal Cert.Reference3Ideal.S4x2048x4x64 .f32 := m ((c : Thread nD τ).loc main_arg1)
abbrev kv : FVec Ideal Cert.Reference3Ideal.S4x2048x4x256 .f32 := m ((c : Thread nD τ).loc main_arg2)
abbrev kr : FVec Ideal Cert.Reference3Ideal.S4x2048x64 .f32 := m ((c : Thread nD τ).loc main_arg3)

theorem qn_array (b : Fin 4) (r : Fin 2048) (h : Fin 4) (d : Fin 128) :
    V m c main_v1 (ix3 b r (laneQ h d)) = qn m c (ix4 b r h d) := by
  have e : V m c main_v1 = truncf .bf16 (shapeCast S4x2048x512 (qn m c) shapeCasts_S4x2048x4x128_S4x2048x512) bitsLt_bf16_f32 := by
    rfl
  rw [e]
  pointwise
  blk_point []

theorem qr_array (b : Fin 4) (r : Fin 2048) (h : Fin 4) (d : Fin 128) :
    V m c main_v5 (ix3 b r (laneQ h d)) = if e : d.val < 64 then qr m c (ix4 b r h ⟨d.val, e⟩) else 0 := by
  have e : V m c main_v5 = shapeCast S4x2048x512 (truncf .bf16 (concatenate S4x2048x4x128 3 [⟨S4x2048x4x64, qr m c⟩,
      ⟨S4x2048x4x64, broadcastInDim S4x2048x4x64 ![] bcast_S_S4x2048x4x64 (constant S_ .f32 0x00000000#32)⟩]
      concatenates_S4x2048x4x64_S4x2048x4x64_S4x2048x4x128_d3) bitsLt_bf16_f32) shapeCasts_S4x2048x4x128_S4x2048x512 := by
    after_results_simp; rfl
  rw [e]
  pointwise
  blk_point [] <;> (exfalso; omega)

theorem kr_array (b : Fin 4) (r : Fin 2048) (d : Fin 128) :
    V m c main_v10 (ix3 b r d) = if e : d.val < 64 then kr m c (ix3 b r ⟨d.val, e⟩) else 0 := by
  have e : V m c main_v10 = truncf .bf16 (concatenate S4x2048x128 2 [⟨S4x2048x64, kr m c⟩,
      ⟨S4x2048x64, broadcastInDim S4x2048x64 ![] bcast_S_S4x2048x64 (constant S_ .f32 0x00000000#32)⟩]
      concatenates_S4x2048x64_S4x2048x64_S4x2048x128_d2) bitsLt_bf16_f32 := by
    after_results_simp; rfl
  rw [e]
  pointwise

theorem kv_array (b : Fin 4) (r : Fin 2048) (h : Fin 4) (d : Fin 256) :
    V m c main_v7 (ix3 b r ⟨256 * h.val + d.val, by omega⟩) = kv m c (ix4 b r h d) := by
  have e : V m c main_v7 = truncf .bf16 (shapeCast S4x2048x1024 (kv m c) shapeCasts_S4x2048x4x256_S4x2048x1024) bitsLt_bf16_f32 := by
    rfl
  rw [e]
  pointwise

/-! The blocks at a grid point, which is a batch and a block of 256 queries. -/

abbrev pb (t : Fin cfg0.N) : Fin 4 := ⟨t.val / 8, by have := lt_of_lt_of_eq t.isLt N_0; omega⟩
abbrev pq (t : Fin cfg0.N) : Fin 8 := ⟨t.val % 8, by omega⟩

theorem coord : ∀ t : Fin cfg0.N, (grid0.coords t 1).val = t.val % 8 := (by decide +kernel : ∀ t : Fin grid0.N, _)

theorem idx : ∀ t : Fin cfg0.N, win0_0.index t = ![t.val / 8, t.val % 8, 0] ∧ win0_1.index t = ![t.val / 8, t.val % 8, 0]
    ∧ win0_2.index t = ![t.val / 8, 0, 0] ∧ win0_3.index t = ![t.val / 8, 0, 0]
    ∧ win0_4.index t = ![t.val / 8, t.val % 8, 0] ∧ win0_5.index t = ![t.val / 8, 0, t.val % 8, 0] :=
  (by decide +kernel : ∀ t : Fin grid0.N, _)

theorem read0 (t : Fin cfg0.N) (r : Fin 256) (d : Fin 512) (A : FVec Ideal S4x2048x512 .bf16) :
    (win0_0.blk t).view.read (Elt Ideal) A (ix3 0 r d) = A (ix3 (pb t) (at8 (pq t) r) d) := by
  blk_ext [idx t]
theorem read1 (t : Fin cfg0.N) (r : Fin 256) (d : Fin 512) (A : FVec Ideal S4x2048x512 .bf16) :
    (win0_1.blk t).view.read (Elt Ideal) A (ix3 0 r d) = A (ix3 (pb t) (at8 (pq t) r) d) := by
  blk_ext [idx t]
theorem read2 (t : Fin cfg0.N) (r : Fin 2048) (d : Fin 1024) (A : FVec Ideal S4x2048x1024 .bf16) :
    (win0_2.blk t).view.read (Elt Ideal) A (ix3 0 r d) = A (ix3 (pb t) r d) := by
  blk_ext [idx t]
theorem read3 (t : Fin cfg0.N) (r : Fin 2048) (d : Fin 128) (A : FVec Ideal S4x2048x128 .bf16) :
    (win0_3.blk t).view.read (Elt Ideal) A (ix3 0 r d) = A (ix3 (pb t) r d) := by
  blk_ext [idx t]

variable (t : Fin cfg0.N)

theorem ins_q (r : Fin 256) (h : Fin 4) (d : Fin 128) : (ins m c t).q (ix3 0 r (laneQ h d)) = qn m c (ix4 (pb t) (at8 (pq t) r) h d) :=
  (read0 t r _ (V m c main_v1)).trans (qn_array m c (pb t) _ h d)
theorem ins_qr (r : Fin 256) (h : Fin 4) (d : Fin 128) : (ins m c t).qr (ix3 0 r (laneQ h d))
    = if e : d.val < 64 then qr m c (ix4 (pb t) (at8 (pq t) r) h ⟨d.val, e⟩) else 0 :=
  (read1 t r _ (V m c main_v5)).trans (qr_array m c (pb t) _ h d)
theorem ins_k (k : Fin 2048) (h : Fin 4) (d : Fin 128) : (ins m c t).kv (ix3 0 k (laneK (colK h) d)) = kv m c (ix4 (pb t) k h ⟨d.val, by omega⟩) := by
  refine (read2 t k _ (V m c main_v7)).trans (Eq.trans ?_ (kv_array m c (pb t) k h ⟨d.val, by omega⟩))
  exact congrArg (fun z => V m c main_v7 (ix3 (pb t) k z)) (Fin.ext (by simp only []; omega))
theorem ins_v (k : Fin 2048) (h : Fin 4) (d : Fin 128) : (ins m c t).kv (ix3 0 k (laneK (colV h) d)) = kv m c (ix4 (pb t) k h ⟨128 + d.val, by omega⟩) := by
  refine (read2 t k _ (V m c main_v7)).trans (Eq.trans ?_ (kv_array m c (pb t) k h ⟨128 + d.val, by omega⟩))
  exact congrArg (fun z => V m c main_v7 (ix3 (pb t) k z)) (Fin.ext (by simp only []; omega))
theorem ins_kr (k : Fin 2048) (d : Fin 128) : (ins m c t).kr (ix3 0 k d) = if e : d.val < 64 then kr m c (ix3 (pb t) k ⟨d.val, e⟩) else 0 :=
  (read3 t k d (V m c main_v10)).trans (kr_array m c (pb t) k d)

/-- The scores before the scale. -/
def dots (b h : Fin 4) (r k : Fin 2048) : EReal :=
  (∑ d : Fin 128, qn m c (ix4 b r h d) * kv m c (ix4 b k h ⟨d.val, by omega⟩)) + ∑ d : Fin 64, qr m c (ix4 b r h d) * kr m c (ix3 b k d)

theorem sco_at (h : Fin 4) (r : Fin 256) (k : Fin 2048) : sco (ins m c t) h r k = dots m c (pb t) h (at8 (pq t) r) k * sc := by
  unfold sco dots
  rw [sum_two]
  congr 2
  · refine Finset.sum_congr rfl fun d _ => ?_
    unfold qry key
    rw [dif_pos d.isLt, dif_pos d.isLt]
    exact congrArg₂ (fun a b : EReal => a * b) (ins_q m c t r h d) (ins_k m c t k h d)
  · refine sum_pad _ _ fun d => ?_
    unfold qry key
    have e : ¬ 128 + d.val < 128 := by omega
    have e1 : (⟨128 + d.val - 128, by omega⟩ : Fin 128) = d := Fin.ext (by simp only []; omega)
    rw [dif_neg e, dif_neg e]
    simp only [e1, ins_qr, ins_kr]
    split_ifs
    · rfl
    · exact mul_zero 0

/-- The arguments are finite. -/
structure Finite : Prop where
  qn : ∀ i, IsReal (qn m c i)
  qr : ∀ i, IsReal (qr m c i)
  kv : ∀ i, IsReal (kv m c i)
  kr : ∀ i, IsReal (kr m c i)

variable {m c}

theorem score_real (H : Finite m c) (b h : Fin 4) (r k : Fin 2048) : IsReal (dots m c b h r k * sc) := by
  unfold dots
  exact IsReal.mul (IsReal.add (IsReal.sum _ fun d => (H.qn _).mul (H.kv _)) (IsReal.sum _ fun d => (H.qr _).mul (H.kr _))) Consts.scale_eq

/-- The scores and the values, as real numbers. -/
def scr (H : Finite m c) (b h : Fin 4) (r k : Fin 2048) : ℝ := (score_real H b h r k).choose
theorem scr_eq (H : Finite m c) (b h : Fin 4) (r k : Fin 2048) : dots m c b h r k * sc = (scr H b h r k : EReal) := (score_real H b h r k).choose_spec
def val (H : Finite m c) (b h : Fin 4) (d : Fin 128) (k : Fin 2048) : ℝ := (H.kv (ix4 b k h ⟨128 + d.val, by omega⟩)).choose
theorem val_eq (H : Finite m c) (b h : Fin 4) (d : Fin 128) (k : Fin 2048) : kv m c (ix4 b k h ⟨128 + d.val, by omega⟩) = (val H b h d k : EReal) :=
  (H.kv (ix4 b k h ⟨128 + d.val, by omega⟩)).choose_spec

/-- A row's sum of exponentials, and its sum weighted by the values. -/
def den (H : Finite m c) (b h : Fin 4) (r : Fin 2048) : ℝ := ∑ k, if k ≤ r then Real.exp (scr H b h r k) else 0
def num (H : Finite m c) (b h : Fin 4) (r : Fin 2048) (d : Fin 128) : ℝ := ∑ k, if k ≤ r then Real.exp (scr H b h r k) * val H b h d k else 0

/-! The two arrays. -/

def arrO (H : Finite m c) : FVec Ideal S4x2048x512 .f32 := fun i => ((num H (i 0) (hd (i 2)) (i 1) (lo (i 2)) / den H (i 0) (hd (i 2)) (i 1) : ℝ) : EReal)
def arrL (H : Finite m c) : FVec Ideal S4x4x2048x128 .f32 := fun i => ((Real.log (den H (i 0) (i 1) (i 2)) : ℝ) : EReal)

theorem arrO_at (H : Finite m c) (b : Fin 4) (r : Fin 2048) (h : Fin 4) (d : Fin 128) : arrO H (ix3 b r (lane h d)) = ((num H b h r d / den H b h r : ℝ) : EReal) := by
  show ((num H b (hd (lane h d)) r (lo (lane h d)) / den H b (hd (lane h d)) r : ℝ) : EReal) = _
  rw [hd_lane, lo_lane]

theorem lane_cases (j : Fin 512) : ∃ h : Fin 4, ∃ d : Fin 128, j = laneQ h d :=
  ⟨⟨j.val / 128, by omega⟩, ⟨j.val % 128, by omega⟩, Fin.ext (by simp only []; omega)⟩

theorem block_o (H : Finite m c) (h : Fin 4) (r : Fin 256) (d : Fin 128) :
    outO c (grid0.coords t) (bufs t) (ins m c t) (ix3 0 r (laneQ h d)) = arrO H (ix3 (pb t) (at8 (pq t) r) (lane h d)) := by
  have e := blockO_at (bufs t) (ins m c t) h r d (fun k => scr H (pb t) h (at8 (pq t) r) k) (fun k => val H (pb t) h d k)
    (fun k => (sco_at m c t h r k).trans (scr_eq H ..)) (fun k => (ins_v m c t k h d).trans (val_eq H ..)) (pq t)
  rw [arrO_at, outO_at, coord]
  exact e

theorem block_l (H : Finite m c) (h : Fin 4) (r : Fin 256) (d : Fin 128) :
    outL c (grid0.coords t) (bufs t) (ins m c t) (ix4 0 h r d) = arrL H (ix4 (pb t) h (at8 (pq t) r) d) := by
  have e := blockL_at (bufs t) (ins m c t) h r d (fun k => scr H (pb t) h (at8 (pq t) r) k) (fun k => val H (pb t) h d k)
    (fun k => (sco_at m c t h r k).trans (scr_eq H ..)) (fun k => (ins_v m c t k h d).trans (val_eq H ..)) (pq t) d
  rw [outL_at, coord]
  exact e

theorem array_o (H : Finite m c) : (dats m 0 c).arrAt 4 (cfgs 0).N = arrO H := by
  refine (dats m 0 c).arrAt_eq_of_covers 4 _ (by decide +kernel) fun t _ y => ?_
  blk_simp
  rw [after_o]
  idx_vars y
  obtain rfl : y0 = 0 := Subsingleton.elim _ _
  obtain ⟨h, d, rfl⟩ := lane_cases y2
  refine Eq.trans (block_o t H h y1 d) (congrArg (arrO H) (show ix3 (pb t) (at8 (pq t) y1) (lane h d) = _ by blk_ext [idx t]))

theorem array_l (H : Finite m c) : (dats m 0 c).arrAt 5 (cfgs 0).N = arrL H := by
  refine (dats m 0 c).arrAt_eq_of_covers 5 _ (by decide +kernel) fun t _ y => ?_
  blk_simp
  rw [after_lse]
  idx_vars y
  obtain rfl : y0 = 0 := Subsingleton.elim _ _
  refine Eq.trans (block_l t H y1 y2 y3) (congrArg (arrL H) (show ix4 (pb t) y1 (at8 (pq t) y2) y3 = _ from ?_))
  blk_ext [idx t]

end Cert.Kernel3Ideal.Fwd

end
-- ==== Proof.FwdReal.lean ====
/- The reference's attention at the arguments: the row's quotient and its logarithm are those of the two arrays. -/
module

public import proofs.«01_k».proof.Proof.FwdHost
public import proofs.«01_k».proof.Proof.AttnReal

@[expose] public section

set_option maxRecDepth 16384

noncomputable section

namespace AttnRow

open Idealize.ShloMosaic RmsRow

variable {n : ℕ} (mask : Fin n → Prop) [DecidablePred mask] (t : Fin n → ℝ) (M : ℝ)

/-- A masked row of exponentials. -/
def ew (k : Fin n) : ℝ := if mask k then Real.exp (t k) else 0

theorem ew_pos (hk : ∃ k, mask k) : 0 < ∑ k, ew mask t k := by
  obtain ⟨k, m⟩ := hk
  refine Finset.sum_pos' (fun j _ => ?_) ⟨k, Finset.mem_univ _, ?_⟩
  · unfold ew
    split_ifs
    · exact (Real.exp_pos _).le
    · exact le_rfl
  · unfold ew
    rw [if_pos m]
    exact Real.exp_pos _

theorem ex_ew (k : Fin n) : ex mask (fun k => (t k : EReal)) (M : EReal) k = ((Real.exp (-M) * ew mask t k : ℝ) : EReal) := by
  unfold ex ew
  by_cases h : mask k
  · simp only [if_pos h]
    rw [← EReal.coe_sub, Ideal.exp_coe, ← Real.exp_add, neg_add_eq_sub]
  · simp only [if_neg h]
    rw [EReal.bot_sub, Ideal.exp_bot, mul_zero, EReal.coe_zero]

theorem sum_ex_ew : ∑ k, ex mask (fun k => (t k : EReal)) (M : EReal) k = ((Real.exp (-M) * ∑ k, ew mask t k : ℝ) : EReal) := by
  simp only [ex_ew]
  rw [coe_sum, Finset.mul_sum]

/-- The probabilities' mean of the values does not depend on the number taken off the scores. -/
theorem mean (hk : ∃ k, mask k) (u : Fin n → ℝ) :
    ∑ k, (u k : EReal) * Ideal.div (ex mask (fun k => (t k : EReal)) (M : EReal) k) (∑ j, ex mask (fun k => (t k : EReal)) (M : EReal) j)
      = (((∑ k, ew mask t k * u k) / ∑ k, ew mask t k : ℝ) : EReal) := by
  have p := ew_pos mask t hk
  have q := Real.exp_pos (-M)
  rw [sum_ex_ew]
  simp only [ex_ew]
  have e : ∀ k, (u k : EReal) * Ideal.div ((Real.exp (-M) * ew mask t k : ℝ) : EReal) ((Real.exp (-M) * ∑ k, ew mask t k : ℝ) : EReal)
      = ((ew mask t k * u k / ∑ k, ew mask t k : ℝ) : EReal) := fun k => by
    rw [div_real _ (mul_pos q p).ne', ← EReal.coe_mul]
    refine congrArg _ ?_
    rw [mul_div_mul_left _ _ q.ne']
    ring
  simp only [e]
  rw [coe_sum, Finset.sum_div]

/-- Nor does the logarithm of the sum. -/
theorem logsum (hk : ∃ k, mask k) :
    (M : EReal) + Ideal.log (∑ j, ex mask (fun k => (t k : EReal)) (M : EReal) j) = ((Real.log (∑ k, ew mask t k) : ℝ) : EReal) := by
  have p := ew_pos mask t hk
  have q := Real.exp_pos (-M)
  rw [sum_ex_ew, Ideal.log_coe, if_neg (not_le.mpr (mul_pos q p)), ← EReal.coe_add]
  refine congrArg _ ?_
  rw [Real.log_mul q.ne' p.ne', Real.log_exp]
  ring

end AttnRow

namespace Cert.Kernel3Ideal.Fwd

open Idealize.ShloMosaic Idealize.ShloMosaic.TcCoe Idealize.SL Idealize.SL.Sem Cert.Kernel3Ideal.Gen Cert.Reference3Ideal.Read RmsRow Consts
open Cert.Kernel2Ideal.Attn (sc)

section Read

variable (x0 : FVec Ideal Cert.Reference3Ideal.S4x2048x4x128 .f32) (x1 : FVec Ideal Cert.Reference3Ideal.S4x2048x4x64 .f32)
  (x2 : FVec Ideal Cert.Reference3Ideal.S4x2048x4x256 .f32) (x3 : FVec Ideal Cert.Reference3Ideal.S4x2048x64 .f32)

/-- The masked scores are those of the attention's gradient. -/
theorem v15_at (b h : Fin 4) (r k : Fin 2048) : val_main_v15 (F := Ideal) x0 x1 x2 x3 (ix4 b h r k)
    = if k ≤ r then ((∑ d : Fin 128, x0 (ix4 b r h d) * x2 (ix4 b k h ⟨d.val, by omega⟩)) + ∑ d : Fin 64, x1 (ix4 b r h d) * x3 (ix3 b k d)) * sc else ⊥ := by
  have e : val_main_v15 (F := Ideal) x0 x1 x2 x3 = Cert.Reference2Ideal.Read.val_main_v15_0 (F := Ideal) x0 x1 x2 x3 := rfl
  refine (congrFun e _).trans ((Cert.Kernel2Ideal.Attn.v15_at x0 x1 x2 x3 b h r k).trans ?_)
  rw [Cert.Kernel2Ideal.Attn.v2_at, Cert.Kernel2Ideal.Attn.v4_at]
  have e : ∀ d : Fin 64, x3 (ix3 b k d) * x1 (ix4 b r h d) = x1 (ix4 b r h d) * x3 (ix3 b k d) := fun d => mul_comm _ _
  simp only [e]

theorem v18_at (b h : Fin 4) (r : Fin 2048) : val_main_v18 (F := Ideal) x0 x1 x2 x3 (ix3 b h r) = val_main_v16 (F := Ideal) x0 x1 x2 x3 (ix3 b h r) := by
  rw [val_main_v18_apply]
  generalize val_main_v16 (F := Ideal) x0 x1 x2 x3 (ix3 b h r) = z
  show max (Ideal.ofBits .f32 0xFF800000#32) z = z
  rw [ninf_eq]
  exact max_bot_left z
theorem v20_at (b h : Fin 4) (r k : Fin 2048) : val_main_v20 (F := Ideal) x0 x1 x2 x3 (ix4 b h r k) = val_main_v16 (F := Ideal) x0 x1 x2 x3 (ix3 b h r) := by
  refine Eq.trans ?_ (v18_at x0 x1 x2 x3 b h r)
  unfold val_main_v20 val_main_v19
  generalize val_main_v18 (F := Ideal) x0 x1 x2 x3 = z
  pointwise
theorem v22_at (b h : Fin 4) (r k : Fin 2048) : val_main_v22 (F := Ideal) x0 x1 x2 x3 (ix4 b h r k)
    = Ideal.exp (val_main_v15 (F := Ideal) x0 x1 x2 x3 (ix4 b h r k) - val_main_v16 (F := Ideal) x0 x1 x2 x3 (ix3 b h r)) := by
  rw [val_main_v22_apply, val_main_v21_apply, v20_at]
  rfl
theorem v25_at (b h : Fin 4) (r k : Fin 2048) : val_main_v25 (F := Ideal) x0 x1 x2 x3 (ix4 b h r k) = ∑ j, val_main_v22 (F := Ideal) x0 x1 x2 x3 (ix4 b h r j) := by
  unfold val_main_v25 val_main_v24 val_main_v23 val_main_cst_3
  generalize val_main_v22 (F := Ideal) x0 x1 x2 x3 = z
  pointwise
theorem v29_at (b h : Fin 4) (r k : Fin 2048) : val_main_v29 (F := Ideal) x0 x1 x2 x3 (ix4 b h r k) = val_main_v16 (F := Ideal) x0 x1 x2 x3 (ix3 b h r) := by
  have e : val_main_v27 (F := Ideal) x0 x1 x2 x3 = val_main_v16 (F := Ideal) x0 x1 x2 x3 := rfl
  unfold val_main_v29 val_main_v28
  rw [e]
  generalize val_main_v16 (F := Ideal) x0 x1 x2 x3 = z
  pointwise
theorem v31_at (b h : Fin 4) (r k : Fin 2048) : val_main_v31 (F := Ideal) x0 x1 x2 x3 (ix4 b h r k) = val_main_v22 (F := Ideal) x0 x1 x2 x3 (ix4 b h r k) := by
  rw [v22_at, val_main_v31_apply, val_main_v30_apply, v29_at]
  rfl
theorem v32_at (b h : Fin 4) (r : Fin 2048) : val_main_v32 (F := Ideal) x0 x1 x2 x3 (ix3 b h r) = ∑ k, val_main_v22 (F := Ideal) x0 x1 x2 x3 (ix4 b h r k) := by
  simp only [← v31_at]
  unfold val_main_v32 val_main_cst_5
  generalize val_main_v31 (F := Ideal) x0 x1 x2 x3 = z
  pointwise
theorem v39_at (b h : Fin 4) (r : Fin 2048) (d : Fin 128) : val_main_v39 (F := Ideal) x0 x1 x2 x3 (ix4 b h r d)
    = val_main_v16 (F := Ideal) x0 x1 x2 x3 (ix3 b h r) + Ideal.log (∑ k, val_main_v22 (F := Ideal) x0 x1 x2 x3 (ix4 b h r k)) := by
  have e : val_main_v27 (F := Ideal) x0 x1 x2 x3 = val_main_v16 (F := Ideal) x0 x1 x2 x3 := rfl
  have e2 : val_main_v39 (F := Ideal) x0 x1 x2 x3 (ix4 b h r d) = val_main_v34 (F := Ideal) x0 x1 x2 x3 (ix3 b h r) := by
    unfold val_main_v39 val_main_v38
    generalize val_main_v34 (F := Ideal) x0 x1 x2 x3 = z
    pointwise
  rw [e2, val_main_v34_apply, val_main_v33_apply, v32_at, e]
  rfl
theorem v35_at (b h : Fin 4) (d : Fin 128) (r : Fin 2048) : val_main_v35 (F := Ideal) x0 x1 x2 x3 (ix4 b h d r)
    = ∑ k, x2 (ix4 b k h ⟨128 + d.val, by omega⟩) * Ideal.div (val_main_v22 (F := Ideal) x0 x1 x2 x3 (ix4 b h r k)) (∑ j, val_main_v22 (F := Ideal) x0 x1 x2 x3 (ix4 b h r j)) := by
  have e : ∀ k, val_main_v26 (F := Ideal) x0 x1 x2 x3 (ix4 b h r k) = Ideal.div (val_main_v22 (F := Ideal) x0 x1 x2 x3 (ix4 b h r k)) (∑ j, val_main_v22 (F := Ideal) x0 x1 x2 x3 (ix4 b h r j)) := fun k => by
    rw [val_main_v26_apply, v25_at]
    rfl
  simp only [← e]
  unfold val_main_v35 val_main_v1
  generalize val_main_v26 (F := Ideal) x0 x1 x2 x3 = z
  pointwise
theorem v37_at (b : Fin 4) (r : Fin 2048) (h : Fin 4) (d : Fin 128) : val_main_v37 (F := Ideal) x0 x1 x2 x3 (ix3 b r (laneQ h d))
    = val_main_v35 (F := Ideal) x0 x1 x2 x3 (ix4 b h d r) := by
  unfold val_main_v37 val_main_v36
  generalize val_main_v35 (F := Ideal) x0 x1 x2 x3 = z
  pointwise
  blk_point []

end Read

variable {m : (ℓ : Loc nD τ sig) → Buf (Elt Ideal) ℓ} {c : Dev nD}

abbrev S (m : (ℓ : Loc nD τ sig) → Buf (Elt Ideal) ℓ) (c : Dev nD) := val_main_v15 (F := Ideal) (qn m c) (qr m c) (kv m c) (kr m c)
abbrev M (m : (ℓ : Loc nD τ sig) → Buf (Elt Ideal) ℓ) (c : Dev nD) := val_main_v16 (F := Ideal) (qn m c) (qr m c) (kv m c) (kr m c)

theorem S_at (H : Finite m c) (b h : Fin 4) (r k : Fin 2048) : S m c (ix4 b h r k) = if k ≤ r then (scr H b h r k : EReal) else ⊥ := by
  rw [← scr_eq]
  exact v15_at _ _ _ _ b h r k

theorem S_lt (H : Finite m c) (i : Cert.Reference3Ideal.S4x4x2048x2048.Idx) : S m c i < ⊤ := by
  idx_vars i
  rw [S_at H]
  split_ifs
  · exact EReal.coe_lt_top _
  · exact bot_lt_top

theorem M_real (H : Finite m c) (b h : Fin 4) (r : Fin 2048) : IsReal (M m c (ix3 b h r)) := by
  unfold M val_main_v16
  rw [Host.reduce_eq_fold]
  have e : (val_main_cst_1 (F := Ideal)) (Shape.Idx.first Cert.Reference3Ideal.Gen.h_S_) = (⊥ : EReal) := ninf_eq
  rw [e]
  refine AttnRow.isReal_fold_max _ _ (fun i _ => S_lt H i) (ix4 b h r r) ?_ ?_
  · rw [Finset.mem_filter]
    refine ⟨Finset.mem_univ _, ?_⟩
    funext a
    fin_cases a <;> rfl
  · rw [← S, S_at H, if_pos le_rfl]
    exact ⟨_, rfl⟩

theorem ref_ex (H : Finite m c) (b h : Fin 4) (r : Fin 2048) : ∃ M' : ℝ, M m c (ix3 b h r) = (M' : EReal)
    ∧ ∀ k, val_main_v22 (F := Ideal) (qn m c) (qr m c) (kv m c) (kr m c) (ix4 b h r k)
      = AttnRow.ex (fun k => k ≤ r) (fun k => (scr H b h r k : EReal)) (M' : EReal) k := by
  obtain ⟨M', hM⟩ := M_real H b h r
  refine ⟨M', hM, fun k => ?_⟩
  rw [v22_at, ← M, ← S, hM, S_at H]
  rfl

theorem ew_mul {n : ℕ} (mask : Fin n → Prop) [DecidablePred mask] (t u : Fin n → ℝ) (k : Fin n) :
    AttnRow.ew mask t k * u k = if mask k then Real.exp (t k) * u k else 0 := by
  unfold AttnRow.ew
  split_ifs
  · rfl
  · exact zero_mul _

theorem final_o (H : Finite m c) : arrO H = val_main_v37 (F := Ideal) (qn m c) (qr m c) (kv m c) (kr m c) := by
  funext i
  idx_vars i
  obtain ⟨h, d, rfl⟩ := lane_cases i2
  obtain ⟨M', -, e⟩ := ref_ex H i0 h i1
  rw [v37_at, v35_at]
  simp only [e, val_eq H]
  refine Eq.trans ?_ (AttnRow.mean (fun k => k ≤ i1) (scr H i0 h i1) M' ⟨i1, le_rfl⟩ (val H i0 h d)).symm
  simp only [ew_mul]
  exact arrO_at H i0 i1 h d

theorem final_l (H : Finite m c) : arrL H = val_main_v39 (F := Ideal) (qn m c) (qr m c) (kv m c) (kr m c) := by
  funext i
  idx_vars i
  obtain ⟨M', hM, e⟩ := ref_ex H i0 i1 i2
  rw [v39_at, ← M, hM]
  simp only [e]
  exact (AttnRow.logsum (fun k => k ≤ i2) (scr H i0 i1 i2) M' ⟨i2, le_rfl⟩).symm

end Cert.Kernel3Ideal.Fwd

end
-- ==== Proof.FwdClaim.lean ====
/- The forward attention: its run ends with the reference's result and row logarithms. -/
module

public import proofs.«01_k».proof.Defs
public import proofs.«01_k».proof.Proof.FwdReal
public import proofs.«01_k».proof.Proof.NormClaim
public import proofs.«01_k».proof.Proof.Gen.Pre_finite3
public import Idealize.ShloMosaic.Adequacy
public import Idealize.ShloMosaic.Init

@[expose] public section

set_option maxRecDepth 16384

noncomputable section

namespace Cert.Kernel3Ideal.Fwd

open Idealize.ShloMosaic Idealize.ShloMosaic.TcCoe Idealize.SL Idealize.SL.Sem Cert.Kernel3Ideal.Gen Cert.Reference3Ideal.Read RmsRow Consts

variable (m : (ℓ : Loc nD τ sig) → Buf (Elt Ideal) ℓ) (c : Dev nD)

theorem finite_of_pre (h : Cert.Pre_Kernel3Ideal_finite3 m) : Finite m c := by
  obtain ⟨h0, h1, h2, h3⟩ := h c
  exact ⟨Cert.KernelIdeal.NormBwd.real_of_pre _ _ (fun _ => inf_eq) h0, Cert.KernelIdeal.NormBwd.real_of_pre _ _ (fun _ => inf_eq) h1,
    Cert.KernelIdeal.NormBwd.real_of_pre _ _ (fun _ => inf_eq) h2, Cert.KernelIdeal.NormBwd.real_of_pre _ _ (fun _ => inf_eq) h3⟩

/-- The two results, each under a name of its own. -/
@[irreducible] def outA : FVec Ideal S4x2048x512 .f32 := (dats m 0 c).arrAt 4 (cfgs 0).N
@[irreducible] def outS : FVec Ideal S4x4x2048x128 .f32 := (dats m 0 c).arrAt 5 (cfgs 0).N
theorem outA_eq : outA m c = (dats m 0 c).arrAt 4 (cfgs 0).N := by rw [outA]
theorem outS_eq : outS m c = (dats m 0 c).arrAt 5 (cfgs 0).N := by rw [outS]

/-- The kernel's run: the two results and the arguments. -/
theorem run (ρ : Dev nD → PrngReg) : θ_run defs (onTc (τ := τ) (main (F := Ideal))) ⟨m, fun _ => 0, ρ⟩ (fun r => ∀ c : Dev nD,
      r.2.mem ((c.tc : Thread nD τ).loc main_v11_0) = outA m c
      ∧ r.2.mem ((c.tc : Thread nD τ).loc main_v11_1) = outS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 4).trans (outA_eq m c).symm, ((h.1 c).1 5).trans (outS_eq m c).symm, h.2.1 c⟩)
    (θ_run_and (run_main m ρ) (frame m ρ))

theorem algebraic : Cert.algebraic_Kernel3Ideal_Reference3Ideal_pre_finite3 := by
  pair_intro
  · run_from run m g
  · refine (θ_run _ _ _).mono (fun r h c => ?_) (Cert.Reference3Ideal.Value.run m' g')
    obtain ⟨a0, a1, a2, a3⟩ := hagree c
    obtain ⟨h0, h1, hr⟩ := h c
    refine ⟨h0.trans ?_, h1.trans ?_, hr⟩
    · refine (val_main_v37_eq m' c).trans ?_
      rw [a0, a1, a2, a3]
      exact ((outA_eq m c).trans ((array_o (finite_of_pre m c hpre)).trans (final_o (finite_of_pre m c hpre)))).symm
    · refine (val_main_v39_eq _ _ _ _).trans ?_
      rw [a0, a1, a2, a3]
      exact ((outS_eq m c).trans ((array_l (finite_of_pre m c hpre)).trans (final_l (finite_of_pre m c hpre)))).symm

end Cert.Kernel3Ideal.Fwd

end
-- ==== Proof.PreNorm.lean ====
/- What one grid step of the pre-norm's forward kernel computes, at `F := Ideal`, beside the reference's own intermediate
   arrays: the normalized rows, and their products with the weights' three column ranges. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.PreNorm

open Cert.Kernel4Ideal Cert.Kernel4Ideal.Gen Cert.Reference4Ideal.Read

variable (m : (ℓ : Loc nD τ sig) → Buf (Elt Ideal) ℓ) (c : Dev nD)

/-- The block every window shows at grid step `t`: the rows' windows block `t`, the transposed rows' column block `t`. -/
theorem idx : ∀ t : Fin cfg0.N, win0_0.index t = ![t.val, 0] ∧ win0_1.index t = ![0, 0] ∧ win0_2.index t = ![0, 0]
    ∧ win0_3.index t = ![0, t.val] ∧ win0_4.index t = ![t.val, 0] ∧ win0_5.index t = ![t.val, 0]
    ∧ win0_6.index t = ![t.val, 0] :=
  (by decide +kernel : ∀ t : Fin grid0.N, _)

/-! The arguments, at their own types, and the reference's normalized rows. -/

abbrev x : FVec Ideal Cert.Reference4Ideal.S4x2048x1024 .f32 := m ((c : Thread nD τ).loc main_arg0)
abbrev g : FVec Ideal Cert.Reference4Ideal.S1x1024 .f32 := m ((c : Thread nD τ).loc main_arg1)
abbrev w : FVec Ideal Cert.Reference4Ideal.S1x1024x3136 .f32 := m ((c : Thread nD τ).loc main_arg2)

abbrev u (b : Fin 4) (s : Fin 2048) (e : Fin 1024) : EReal := val_main_v13 (F := Ideal) (x m c) (g m c) (ix3 b s e)

/-- Row `r` of step `t` in the row-major arrays. -/
abbrev row (t : Fin cfg0.N) (r : Fin 256) : Fin 8192 := ⟨256 * t.val + r.val, by have := lt_of_lt_of_eq t.isLt N_0; omega⟩

/-- The sequence and the token of that row. -/
abbrev seq (t : Fin cfg0.N) (r : Fin 256) : Fin 4 :=
  ⟨(256 * t.val + r.val) / 2048, by have := lt_of_lt_of_eq t.isLt N_0; omega⟩
abbrev tok (t : Fin cfg0.N) (r : Fin 256) : Fin 2048 := ⟨(256 * t.val + r.val) % 2048, by omega⟩

theorem block0_at (t : Fin cfg0.N) (r : Fin 256) (j : Fin 1024) :
    iblk m c 0 t (ix2 r j) = x m c (ix3 (seq t r) (tok t r) j) := by
  have h : V m c main_v6 (ix2 (row t r) j) = x m c (ix3 (seq t r) (tok t r) j) := by
    entry_read; pointwise
  exact Eq.trans (by blk_ext [iblk, idx t]) h

theorem block1_at (t : Fin cfg0.N) (j : Fin 1024) : iblk m c 1 t (ix2 0 j) = g m c (ix2 0 j) := by
  blk_ext [iblk, V, idx t]

/-- The weights' block is the whole array: the step's 64 zero columns lie after the attention's. -/
theorem block2_at (t : Fin cfg0.N) (e : Fin 1024) (j : Fin 3200) :
    iblk m c 2 t (ix2 e j) = if h : j.val < 448 then w m c (ix3 0 e ⟨j.val, by omega⟩)
      else if h : j.val < 512 then 0 else w m c (ix3 0 e ⟨j.val - 64, by omega⟩) := by
  have h : V m c main_v5 (ix2 e j) = if h : j.val < 448 then w m c (ix3 0 e ⟨j.val, by omega⟩)
      else if h : j.val < 512 then 0 else w m c (ix3 0 e ⟨j.val - 64, by omega⟩) := by
    unfold V
    simp only [StableHlo.after_cons, StableHlo.after_nil]
    after_results_simp
    dsimp only [Matrix.cons_val]
    after_results_simp
    pointwise
    blk_point [] <;> (exfalso; omega)
  exact Eq.trans (by blk_ext [iblk, idx t]) h

/-- The step's normalized rows are the reference's. -/
theorem pay1_at (t : Fin cfg0.N) (r : Fin 256) (e : Fin 1024) :
    k0_pay1 (F := Ideal) (iblk m c 0 t) (iblk m c 1 t) (ix2 r e) = u m c (seq t r) (tok t r) e := by
  have h0 := block0_at m c t r
  have h1 := block1_at m c t
  generalize seq t r = b at h0 ⊢
  generalize tok t r = s at h0 ⊢
  generalize iblk m c 0 t = v0 at h0 ⊢
  generalize iblk m c 1 t = v1 at h1 ⊢
  pointwise [k0_pay1, u, val_main_v13, val_main_v12, val_main_v11, val_main_v10, val_main_v9, val_main_v8, val_main_v7,
    val_main_v6, val_main_v5, val_main_v4, val_main_v3, val_main_v2, val_main_v1, val_main_v0, val_main_cst,
    val_main_cst_0, val_main_cst_1]
  simp only [h0, h1]

/-- The reference's projection, one entry a sum over the model's 1024 columns. -/
theorem proj_at (b : Fin 4) (s : Fin 2048) (j : Fin 3136) :
    val_main_v15 (F := Ideal) (x m c) (g m c) (w m c) (ix3 b s j) = ∑ e : Fin 1024, u m c b s e * w m c (ix3 0 e j) := by
  rw [val_main_v15_apply]
  refine Finset.sum_congr rfl fun k _ => ?_
  pointwise [val_main_v14]
  exact congrArg (· * w m c (ix3 0 k j)) (congrArg (val_main_v13 (F := Ideal) (x m c) (g m c)) (by blk_ext))

/-- The attention's columns: 448 of the projection, then 64 zeros. -/
theorem pay4_at (t : Fin cfg0.N) (r : Fin 256) (v : Vec Ideal S1024x512 .bf16)
    (hv : ∀ (e : Fin 1024) (j : Fin 512), v (ix2 e j) = iblk m c 2 t (ix2 e ⟨j.val, by omega⟩)) (j : Fin 512) :
    k0_pay4 (F := Ideal) (iblk m c 0 t) (iblk m c 1 t) v (ix2 r j) = if h : j.val < 448 then
      ∑ e : Fin 1024, u m c (seq t r) (tok t r) e * w m c (ix3 0 e ⟨j.val, by omega⟩) else 0 := by
  have hp : k0_pay4 (F := Ideal) (iblk m c 0 t) (iblk m c 1 t) v (ix2 r j)
      = ∑ e : Fin 1024, k0_pay1 (F := Ideal) (iblk m c 0 t) (iblk m c 1 t) (ix2 r e) * v (ix2 e j) := by
    pointwise [k0_pay4, k0_pay2]
  rw [hp]
  simp only [pay1_at, hv, block2_at]
  split
  · rfl
  · simp only [j.isLt, ↓reduceDIte, mul_zero, Finset.sum_const_zero]

theorem pay5_at (t : Fin cfg0.N) (r : Fin 256) (v : Vec Ideal S1024x1664 .bf16)
    (hv : ∀ (e : Fin 1024) (j : Fin 1664), v (ix2 e j) = iblk m c 2 t (ix2 e ⟨512 + j.val, by omega⟩)) (j : Fin 1664) :
    k0_pay5 (F := Ideal) (iblk m c 0 t) (iblk m c 1 t) v (ix2 r j)
      = ∑ e : Fin 1024, u m c (seq t r) (tok t r) e * w m c (ix3 0 e ⟨448 + j.val, by omega⟩) := by
  have hp : k0_pay5 (F := Ideal) (iblk m c 0 t) (iblk m c 1 t) v (ix2 r j)
      = ∑ e : Fin 1024, k0_pay1 (F := Ideal) (iblk m c 0 t) (iblk m c 1 t) (ix2 r e) * v (ix2 e j) := by
    pointwise [k0_pay5, k0_pay2]
  rw [hp]
  refine Finset.sum_congr rfl fun e _ => ?_
  rw [pay1_at, hv, block2_at, dif_neg (by dsimp only; omega), dif_neg (by dsimp only; omega)]
  congr 3
  exact Fin.ext (by dsimp only; omega)

theorem pay6_at (t : Fin cfg0.N) (r : Fin 256) (v : Vec Ideal S1024x1024 .bf16)
    (hv : ∀ (e : Fin 1024) (j : Fin 1024), v (ix2 e j) = iblk m c 2 t (ix2 e ⟨2176 + j.val, by omega⟩)) (j : Fin 1024) :
    k0_pay6 (F := Ideal) (iblk m c 0 t) (iblk m c 1 t) v (ix2 r j)
      = ∑ e : Fin 1024, u m c (seq t r) (tok t r) e * w m c (ix3 0 e ⟨2112 + j.val, by omega⟩) := by
  have hp : k0_pay6 (F := Ideal) (iblk m c 0 t) (iblk m c 1 t) v (ix2 r j)
      = ∑ e : Fin 1024, k0_pay1 (F := Ideal) (iblk m c 0 t) (iblk m c 1 t) (ix2 r e) * v (ix2 e j) := by
    pointwise [k0_pay6, k0_pay2]
  rw [hp]
  refine Finset.sum_congr rfl fun e _ => ?_
  rw [pay1_at, hv, block2_at, dif_neg (by dsimp only; omega), dif_neg (by dsimp only; omega)]
  congr 3
  exact Fin.ext (by dsimp only; omega)

theorem final3 : (dats m 0 c).arrAt 3 (cfgs 0).N = val_main_v23 (F := Ideal) (x m c) (g m c) := by
  refine (dats m 0 c).arrAt_eq_of_covers 3 _ (by decide +kernel) fun t _ y => ?_
  blk_simp
  rw [after0_3]
  idx_vars y
  refine Eq.trans ?_ (congrArg (val_main_v23 (F := Ideal) (x m c) (g m c)) (show ix2 y0 (row t y1) = _ by blk_ext [idx t]))
  have hR : val_main_v23 (F := Ideal) (x m c) (g m c) (ix2 y0 (row t y1)) = u m c (seq t y1) (tok t y1) y0 := by
    pointwise [val_main_v23, val_main_v22, val_main_v21]
  rw [hR, ← pay1_at]
  frame_out
  pointwise [k0_pay3]

theorem final4 : (dats m 0 c).arrAt 4 (cfgs 0).N = val_main_v24 (F := Ideal) (x m c) (g m c) (w m c) := by
  refine (dats m 0 c).arrAt_eq_of_covers 4 _ (by decide +kernel) fun t _ y => ?_
  blk_simp
  rw [after0_4]
  idx_vars y
  refine Eq.trans ?_ (congrArg (val_main_v24 (F := Ideal) (x m c) (g m c) (w m c)) (show ix2 (row t y0) y1 = _ by blk_ext [idx t]))
  have hR : val_main_v24 (F := Ideal) (x m c) (g m c) (w m c) (ix2 (row t y0) y1) = if h : y1.val < 448 then
      val_main_v15 (F := Ideal) (x m c) (g m c) (w m c) (ix3 (seq t y0) (tok t y0) ⟨y1.val, by omega⟩) else 0 := by
    pointwise [val_main_v24, val_main_v20, val_main_v19, val_main_v16, val_main_cst_2]
  simp only [hR, proj_at]
  frame_out
  exact pay4_at m c t y0 _ (by intros; pointwise; blk_ext) y1

theorem final5 : (dats m 0 c).arrAt 5 (cfgs 0).N = val_main_v25 (F := Ideal) (x m c) (g m c) (w m c) := by
  refine (dats m 0 c).arrAt_eq_of_covers 5 _ (by decide +kernel) fun t _ y => ?_
  blk_simp
  rw [after0_5]
  idx_vars y
  refine Eq.trans ?_ (congrArg (val_main_v25 (F := Ideal) (x m c) (g m c) (w m c)) (show ix2 (row t y0) y1 = _ by blk_ext [idx t]))
  have hR : val_main_v25 (F := Ideal) (x m c) (g m c) (w m c) (ix2 (row t y0) y1)
      = val_main_v15 (F := Ideal) (x m c) (g m c) (w m c) (ix3 (seq t y0) (tok t y0) ⟨448 + y1.val, by omega⟩) := by
    pointwise [val_main_v25, val_main_v17]
  rw [hR, proj_at]
  frame_out
  exact pay5_at m c t y0 _ (by intros; pointwise) y1

theorem final6 : (dats m 0 c).arrAt 6 (cfgs 0).N = val_main_v26 (F := Ideal) (x m c) (g m c) (w m c) := by
  refine (dats m 0 c).arrAt_eq_of_covers 6 _ (by decide +kernel) fun t _ y => ?_
  blk_simp
  rw [after0_6]
  idx_vars y
  refine Eq.trans ?_ (congrArg (val_main_v26 (F := Ideal) (x m c) (g m c) (w m c)) (show ix2 (row t y0) y1 = _ by blk_ext [idx t]))
  have hR : val_main_v26 (F := Ideal) (x m c) (g m c) (w m c) (ix2 (row t y0) y1)
      = val_main_v15 (F := Ideal) (x m c) (g m c) (w m c) (ix3 (seq t y0) (tok t y0) ⟨2112 + y1.val, by omega⟩) := by
    pointwise [val_main_v26, val_main_v18]
  rw [hR, proj_at]
  frame_out
  exact pay6_at m c t y0 _ (by intros; pointwise) y1

end Cert.Kernel4Ideal.PreNorm

end
-- ==== Proof.PreNormClaim.lean ====
/- The pre-norm's forward kernel: the value claim. -/
module

public import proofs.«01_k».proof.Defs
public import proofs.«01_k».proof.Proof.PreNorm
public import proofs.«01_k».proof.Proof.Gen.Kernel4Ideal.Value
public import proofs.«01_k».proof.Proof.Gen.Reference4Ideal.Run
public import Idealize.ShloMosaic.Adequacy
public import Idealize.ShloMosaic.Init

@[expose] public section

set_option maxRecDepth 16384

noncomputable section

namespace Cert.Kernel4Ideal.PreNorm

open Idealize.ShloMosaic Idealize.SL.Sem Cert.Kernel4Ideal

theorem algebraic : Cert.algebraic_Kernel4Ideal_Reference4Ideal := by
  pair_intro
  · run_from Cert.Kernel4Ideal.Value.run_blocks m g
  · run_from Cert.Reference4Ideal.Value.run m' g'
    all_goals obtain ⟨a0, a1, a2⟩ := hagree c
    · refine (Cert.Reference4Ideal.Read.val_main_v23_eq _ _).trans ?_
      exact (final3 m c).symm
    · refine (Cert.Reference4Ideal.Read.val_main_v24_eq _ _ _).trans ?_
      rw [a2]
      exact (final4 m c).symm
    · refine (Cert.Reference4Ideal.Read.val_main_v25_eq _ _ _).trans ?_
      exact (final5 m c).symm
    · refine (Cert.Reference4Ideal.Read.val_main_v26_eq _ _ _).trans ?_
      exact (final6 m c).symm

end Cert.Kernel4Ideal.PreNorm

end
-- ==== Proof.Adam.lean ====
/- The optimiser's step for the input projection's weights: what one grid step computes, at `F := Ideal`, beside the
   reference's arrays. -/
module

public import proofs.«01_k».proof.Proof.Gen.Kernel5Ideal.Value
public import proofs.«01_k».proof.Proof.Gen.Reference5Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Adam

open Cert.Kernel5Ideal Cert.Kernel5Ideal.Gen Cert.Reference5Ideal.Read

variable (m : (ℓ : Loc nD τ sig) → Buf (Elt Ideal) ℓ) (c : Dev nD)

/-- Every window shows the rows' block `t` at grid step `t`. -/
theorem idx : ∀ t : Fin cfg0.N, win0_0.index t = ![0, t.val, 0] ∧ win0_1.index t = ![0, t.val, 0]
    ∧ win0_2.index t = ![0, t.val, 0] ∧ win0_3.index t = ![0, t.val, 0] ∧ win0_4.index t = ![0, t.val, 0]
    ∧ win0_5.index t = ![0, t.val, 0] ∧ win0_6.index t = ![0, t.val, 0] ∧ win0_7.index t = ![0, t.val, 0] :=
  (by decide +kernel : ∀ t : Fin grid0.N, _)

abbrev parts : FVec Ideal Cert.Reference5Ideal.S4x1024x392 .bf16 := m ((c : Thread nD τ).loc main_arg0)
abbrev w : FVec Ideal Cert.Reference5Ideal.S1x1024x392 .f32 := m ((c : Thread nD τ).loc main_arg1)
abbrev mom : FVec Ideal Cert.Reference5Ideal.S1x1024x392 .f32 := m ((c : Thread nD τ).loc main_arg2)
abbrev var : FVec Ideal Cert.Reference5Ideal.S1x1024x392 .f32 := m ((c : Thread nD τ).loc main_arg3)

/-- Row `r` of step `t`. -/
abbrev row (t : Fin cfg0.N) (r : Fin 256) : Fin 1024 := ⟨256 * t.val + r.val, by have := lt_of_lt_of_eq t.isLt N_0; omega⟩

theorem block0_at (t : Fin cfg0.N) (p : Fin 4) (r : Fin 256) (j : Fin 392) :
    iblk m c 0 t (ix3 p r j) = parts m c (ix3 p (row t r) j) := by
  blk_ext [iblk, V, idx t]

theorem block1_at (t : Fin cfg0.N) (r : Fin 256) (j : Fin 392) : iblk m c 1 t (ix3 0 r j) = w m c (ix3 0 (row t r) j) := by
  blk_ext [iblk, V, idx t]

theorem block2_at (t : Fin cfg0.N) (r : Fin 256) (j : Fin 392) : iblk m c 2 t (ix3 0 r j) = mom m c (ix3 0 (row t r) j) := by
  blk_ext [iblk, V, idx t]

theorem block3_at (t : Fin cfg0.N) (r : Fin 256) (j : Fin 392) : iblk m c 3 t (ix3 0 r j) = var m c (ix3 0 (row t r) j) := by
  blk_ext [iblk, V, idx t]

/-- The reference's gradient: the four parts' sum. -/
theorem grad_at (n : Fin 1024) (j : Fin 392) : val_main_v2 (F := Ideal) (parts m c) (ix3 0 n j)
    = parts m c (ix3 0 n j) + parts m c (ix3 1 n j) + parts m c (ix3 2 n j) + parts m c (ix3 3 n j) := by
  pointwise [val_main_v2, val_main_v1, val_main_v0, val_main_cst]
  rw [Fin.sum_univ_four]

/-- The step's four parts, each loaded as one slab. -/
theorem pay5_at (t : Fin cfg0.N) (v0 v3 v7 v11 : Vec Ideal S1x256x392 .bf16)
    (h0 : ∀ r j, v0 (ix3 0 r j) = iblk m c 0 t (ix3 0 r j)) (h3 : ∀ r j, v3 (ix3 0 r j) = iblk m c 0 t (ix3 1 r j))
    (h7 : ∀ r j, v7 (ix3 0 r j) = iblk m c 0 t (ix3 2 r j)) (h11 : ∀ r j, v11 (ix3 0 r j) = iblk m c 0 t (ix3 3 r j))
    (r : Fin 256) (j : Fin 392) : k0_pay5 (F := Ideal) v0 v3 v7 v11 (ix2 r j)
      = val_main_v2 (F := Ideal) (parts m c) (ix3 0 (row t r) j) := by
  rw [grad_at]
  pointwise [k0_pay5]
  simp only [h0, h3, h7, h11, block0_at]

/-- The gradient, the first moment and the scaled second moment, as the grid step computes them. -/
theorem pay10_at (t : Fin cfg0.N) (r : Fin 256) (j : Fin 392) :
    k0_pay10 (F := Ideal) (iblk m c 0 t) (iblk m c 1 t) (iblk m c 2 t) (iblk m c 3 t) (ix2 r j)
      = val_main_v2 (F := Ideal) (parts m c) (ix3 0 (row t r) j) := by
  refine pay5_at m c t _ _ _ _ ?_ ?_ ?_ ?_ r j
  all_goals (intros; pointwise)

theorem pay11_at (t : Fin cfg0.N) (r : Fin 256) (j : Fin 392) :
    k0_pay11 (F := Ideal) (iblk m c 0 t) (iblk m c 1 t) (iblk m c 2 t) (iblk m c 3 t) (ix2 r j)
      = val_main_v7 (F := Ideal) (parts m c) (mom m c) (ix3 0 (row t r) j) := by
  have h10 := pay10_at m c t r j
  have h2 := block2_at m c t r j
  unfold k0_pay10 at h10
  pointwise [k0_pay11, k0_pay8, val_main_v7, val_main_v6, val_main_v5, val_main_v4, val_main_v3, val_main_cst_0,
    val_main_cst_1]
  rw [h10, h2]

theorem second_at (t : Fin cfg0.N) (r : Fin 256) (j : Fin 392) :
    k0_pay1 (F := Ideal) (k0_pay10 (iblk m c 0 t) (iblk m c 1 t) (iblk m c 2 t) (iblk m c 3 t))
      (k0_pay12 (iblk m c 0 t) (iblk m c 1 t) (iblk m c 2 t) (iblk m c 3 t)) (ix2 r j)
      = val_main_v13 (F := Ideal) (parts m c) (var m c) (ix3 0 (row t r) j) := by
  have h3 := block3_at m c t r j
  pointwise [k0_pay1, k0_pay12, k0_pay9, pay10_at, val_main_v13, val_main_v12, val_main_v11, val_main_v10, val_main_v9,
    val_main_v8, val_main_cst_2, val_main_cst_3]
  rw [h3]

/-- The weights' change. -/
theorem delta_at (t : Fin cfg0.N) (v : Vec Ideal S1x256x392 .f32) (r : Fin 256) (j : Fin 392)
    (hv : v (ix3 0 r j) = iblk m c 1 t (ix3 0 r j)) :
    k0_pay2 (F := Ideal) (k0_pay10 (iblk m c 0 t) (iblk m c 1 t) (iblk m c 2 t) (iblk m c 3 t)) (k0_pay7 v)
      (k0_pay11 (iblk m c 0 t) (iblk m c 1 t) (iblk m c 2 t) (iblk m c 3 t))
      (k0_pay12 (iblk m c 0 t) (iblk m c 1 t) (iblk m c 2 t) (iblk m c 3 t)) (ix3 0 r j)
      = val_main_v26 (F := Ideal) (parts m c) (w m c) (mom m c) (var m c) (ix3 0 (row t r) j) := by
  have h1 := block1_at m c t r j
  pointwise [k0_pay2, k0_pay7, val_main_v26, val_main_v25, val_main_v24, val_main_v23, val_main_v22, val_main_v21,
    val_main_v20, val_main_v19, val_main_v18, val_main_v17, val_main_v16, val_main_v15, val_main_v14, val_main_cst_4,
    val_main_cst_5, val_main_cst_6, val_main_cst_7, val_main_cst_8]
  rw [pay11_at, second_at, hv, h1]

theorem final4 : (dats m 0 c).arrAt 4 (cfgs 0).N = val_main_v2 (F := Ideal) (parts m c) := by
  refine (dats m 0 c).arrAt_eq_of_covers 4 _ (by decide +kernel) fun t _ y => ?_
  blk_simp
  rw [after0_4]
  idx_vars y
  obtain rfl : y0 = 0 := Subsingleton.elim _ _
  refine Eq.trans ?_ (congrArg (val_main_v2 (F := Ideal) (parts m c)) (show ix3 0 (row t y1) y2 = _ by blk_ext [idx t]))
  frame_out
  pointwise [k0_pay6]
  refine pay5_at m c t _ _ _ _ ?_ ?_ ?_ ?_ y1 y2
  all_goals (intros; pointwise)

theorem final5 : (dats m 0 c).arrAt 5 (cfgs 0).N
    = val_main_v26 (F := Ideal) (parts m c) (w m c) (mom m c) (var m c) := by
  refine (dats m 0 c).arrAt_eq_of_covers 5 _ (by decide +kernel) fun t _ y => ?_
  blk_simp
  rw [after0_5]
  idx_vars y
  obtain rfl : y0 = 0 := Subsingleton.elim _ _
  refine Eq.trans ?_ (congrArg (val_main_v26 (F := Ideal) (parts m c) (w m c) (mom m c) (var m c))
    (show ix3 0 (row t y1) y2 = _ by blk_ext [idx t]))
  frame_out
  exact delta_at m c t _ y1 y2 (by pointwise)

theorem final6 : (dats m 0 c).arrAt 6 (cfgs 0).N = val_main_v7 (F := Ideal) (parts m c) (mom m c) := by
  refine (dats m 0 c).arrAt_eq_of_covers 6 _ (by decide +kernel) fun t _ y => ?_
  blk_simp
  rw [after0_6]
  idx_vars y
  obtain rfl : y0 = 0 := Subsingleton.elim _ _
  refine Eq.trans ?_ (congrArg (val_main_v7 (F := Ideal) (parts m c) (mom m c)) (show ix3 0 (row t y1) y2 = _ by blk_ext [idx t]))
  frame_out
  pointwise [k0_pay3]
  exact pay11_at m c t y1 y2

theorem final7 : (dats m 0 c).arrAt 7 (cfgs 0).N = val_main_v13 (F := Ideal) (parts m c) (var m c) := by
  refine (dats m 0 c).arrAt_eq_of_covers 7 _ (by decide +kernel) fun t _ y => ?_
  blk_simp
  rw [after0_7]
  idx_vars y
  obtain rfl : y0 = 0 := Subsingleton.elim _ _
  refine Eq.trans ?_ (congrArg (val_main_v13 (F := Ideal) (parts m c) (var m c)) (show ix3 0 (row t y1) y2 = _ by blk_ext [idx t]))
  frame_out
  pointwise [k0_pay4]
  exact second_at m c t y1 y2

end Cert.Kernel5Ideal.Adam

end
-- ==== Proof.AdamClaim.lean ====
/- The optimiser's step for the input projection's weights: the value claim. -/
module

public import proofs.«01_k».proof.Defs
public import proofs.«01_k».proof.Proof.Adam
public import proofs.«01_k».proof.Proof.Gen.Kernel5Ideal.Value
public import proofs.«01_k».proof.Proof.Gen.Reference5Ideal.Run
public import Idealize.ShloMosaic.Adequacy
public import Idealize.ShloMosaic.Init

@[expose] public section

set_option maxRecDepth 16384

noncomputable section

namespace Cert.Kernel5Ideal.Adam

open Idealize.ShloMosaic Idealize.SL.Sem Cert.Kernel5Ideal

theorem algebraic : Cert.algebraic_Kernel5Ideal_Reference5Ideal := by
  pair_intro
  · run_from Cert.Kernel5Ideal.Value.run_blocks m g
  · refine (θ_run _ _ _).mono (fun r h c => ?_) (Cert.Reference5Ideal.Value.run m' g')
    obtain ⟨a0, a1, a2, a3⟩ := hagree c
    obtain ⟨h0, h1, h2, h3, hr⟩ := h c
    refine ⟨h0.trans ?_, h1.trans ?_, h2.trans ?_, h3.trans ?_, hr⟩
    · refine (Cert.Reference5Ideal.Read.val_main_v2_eq _).trans ?_
      rw [a0]
      exact (final4 m c).symm
    · refine (Cert.Reference5Ideal.Read.val_main_v26_eq _ _ _ _).trans ?_
      rw [a0, a1, a2, a3]
      exact (final5 m c).symm
    · refine (Cert.Reference5Ideal.Read.val_main_v7_eq _ _).trans ?_
      rw [a0, a2]
      exact (final6 m c).symm
    · refine (Cert.Reference5Ideal.Read.val_main_v13_eq _ _).trans ?_
      rw [a0, a3]
      exact (final7 m c).symm

end Cert.Kernel5Ideal.Adam

end
-- ==== Proof.WeightGrad.lean ====
/- The gradient of the input projection's weights: what the grid accumulates, at `F := Ideal`, beside the reference's
   product. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.WeightGrad

open Cert.Kernel6Ideal Cert.Kernel6Ideal.Gen Cert.Reference6Ideal.Read

variable (m : (ℓ : Loc nD τ sig) → Buf (Elt Ideal) ℓ) (c : Dev nD)

/-- The blocks at grid step `t`: row block `t % 8` of the two operands, column block `t / 8` of the gradients. -/
theorem idx : ∀ t : Fin cfg0.N, win0_0.index t = ![0, t.val % 8] ∧ win0_1.index t = ![t.val % 8, t.val / 8]
    ∧ win0_2.index t = ![0, t.val / 8] :=
  (by decide +kernel : ∀ t : Fin grid0.N, _)

abbrev x : FVec Ideal Cert.Reference6Ideal.S4x2048x1024 .f32 := m ((c : Thread nD τ).loc main_arg0)
abbrev g : FVec Ideal Cert.Reference6Ideal.S1x1024 .f32 := m ((c : Thread nD τ).loc main_arg1)
abbrev dp : FVec Ideal Cert.Reference6Ideal.S8192x3200 .bf16 := m ((c : Thread nD τ).loc main_arg2)

/-- The reference's normalized rows. -/
abbrev u (n : Fin 8192) (e : Fin 1024) : EReal := val_main_v15 (F := Ideal) (x m c) (g m c) (ix2 n e)

/-- The kernel's first operand: the same rows, transposed. -/
theorem array0_at (e : Fin 1024) (n : Fin 8192) : V m c main_v16 (ix2 e n) = u m c n e := by
  have h : V m c main_v16 = (truncf (F := Ideal) .bf16 (transpose S1024x8192 [1, 0] (val_main_v15 (F := Ideal) (x m c) (g m c))
      transposes_S8192x1024_S1024x8192_1_0) bitsLt_bf16_f32 : FVec Ideal S1024x8192 .bf16) := by
    rfl
  rw [h]
  pointwise

/-- Row `r` of step `t`'s row block. -/
abbrev row (t : Fin cfg0.N) (r : Fin 1024) : Fin 8192 := ⟨1024 * (t.val % 8) + r.val, by omega⟩
/-- Column `j` of its column block. -/
abbrev col (t : Fin cfg0.N) (j : Fin 640) : Fin 3200 :=
  ⟨640 * (t.val / 8) + j.val, by have := lt_of_lt_of_eq t.isLt N_0; omega⟩

theorem block0_at (t : Fin cfg0.N) (e r : Fin 1024) : iblk m c 0 t (ix2 e r) = u m c (row t r) e :=
  Eq.trans (by blk_ext [iblk, idx t]) (array0_at m c e (row t r))

theorem block1_at (t : Fin cfg0.N) (r : Fin 1024) (j : Fin 640) : iblk m c 1 t (ix2 r j) = dp m c (ix2 (row t r) (col t j)) := by
  blk_ext [iblk, V, idx t]

/-- One step's product: 1024 of the 8192 rows. -/
theorem pay1_at (t : Fin cfg0.N) (e : Fin 1024) (j : Fin 640) :
    k0_pay1 (F := Ideal) (iblk m c 0 t) (iblk m c 1 t) (ix2 e j)
      = ∑ r : Fin 1024, u m c (row t r) e * dp m c (ix2 (row t r) (col t j)) := by
  pointwise [k0_pay1]
  exact Finset.sum_congr rfl fun r _ => by rw [block0_at, block1_at]

/-- The reference's gradient, summed in the kernel's eight row blocks. -/
theorem ref_at (e : Fin 1024) (j : Fin 3200) : val_main_v20 (F := Ideal) (x m c) (g m c) (dp m c) (ix2 e j)
    = ∑ k : Fin 8, ∑ r : Fin 1024, u m c ⟨1024 * k.val + r.val, by omega⟩ e * dp m c (ix2 ⟨1024 * k.val + r.val, by omega⟩ j) := by
  have h : val_main_v20 (F := Ideal) (x m c) (g m c) (dp m c) (ix2 e j)
      = ∑ n : Fin 8192, u m c n e * dp m c (ix2 n j) := by
    pointwise [val_main_v20, val_main_v19, val_main_v18, val_main_v17]
    exact Finset.sum_congr rfl fun n _ => mul_comm (G := EReal) _ _
  rw [h, ← Fintype.sum_prod_type']
  refine (Fintype.sum_equiv (finProdFinEquiv.trans (finCongr (by rfl : 8 * 1024 = 8192))) _ _ fun p => ?_).symm
  obtain ⟨k, r⟩ := p
  congr 2 <;> first | (apply Fin.ext; simp [finProdFinEquiv, add_comm]) | (congr 1; apply Fin.ext; simp [finProdFinEquiv, add_comm])

/-- The accumulator at a column block's last step: the sum over its eight steps. -/
theorem acc_at (t : Fin cfg0.N) (ht : t.val % 8 = 7) (e : Fin 1024) (j : Fin 640) :
    (outsAt0 m c t.val t.isLt).2 (ix2 e j) = val_main_v20 (F := Ideal) (x m c) (g m c) (dp m c) (ix2 e (col t j)) := by
  have hN := lt_of_lt_of_eq t.isLt N_0
  rw [Pipeline.eq_sum_fin_of_reset_step_apply_of_flush (fun n h => (outsAt0 m c n h).2) 8 (fun _ => 0) _
    (fun t h j => by
      rw [outsAt0_A m c t h (by omega) (by omega)]; frame_out; pointwise [k0_pay2]; exact (zero_add _).symm)
    (fun t h j => by
      by_cases h7 : t.val % 8 = 7
      · rw [outsAt0_C m c t h (by omega) h7]; frame_out; pointwise [k0_pay3]; rw [(Memref.isWhole_whole cc0_scratch0).read_unread]
      · rw [outsAt0_B m c t h (by omega) h7]; frame_out; pointwise [k0_pay3]; rw [(Memref.isWhole_whole cc0_scratch0).read_unread])
    t ht _, zero_add, ref_at]
  refine Finset.sum_congr (M := EReal) rfl fun k _ => (zero_add (M := EReal) _).trans ((pay1_at m c _ e j).trans ?_)
  have h8 : (8 * (t.val / 8) + k.val) % 8 = k.val := by omega
  have h9 : (8 * (t.val / 8) + k.val) / 8 = t.val / 8 := by omega
  simp only [row, col, h8, h9]

theorem final2 : (dats m 0 c).arrAt 2 (cfgs 0).N = val_main_v20 (F := Ideal) (x m c) (g m c) (dp m c) := by
  refine (dats m 0 c).arrAt_eq_of_covers 2 _ (by decide +kernel) fun t hf y => ?_
  blk_simp
  have ht : t.val % 8 = 7 := (flush0_2 t).mp hf
  rw [after0_2]
  idx_vars y
  refine Eq.trans ?_ (congrArg (val_main_v20 (F := Ideal) (x m c) (g m c) (dp m c)) (show ix2 y0 (col t y1) = _ by blk_ext [idx t]))
  rw [← acc_at m c t ht, outsAt0_C m c t (by omega) (by omega) ht]
  frame_out
  pointwise [k0_pay4]

end Cert.Kernel6Ideal.WeightGrad

end
-- ==== Proof.WeightGradClaim.lean ====
/- The gradient of the input projection's weights: the value claim. -/
module

public import proofs.«01_k».proof.Defs
public import proofs.«01_k».proof.Proof.WeightGrad
public import proofs.«01_k».proof.Proof.Gen.Kernel6Ideal.Value
public import proofs.«01_k».proof.Proof.Gen.Reference6Ideal.Run
public import Idealize.ShloMosaic.Adequacy
public import Idealize.ShloMosaic.Init

@[expose] public section

set_option maxRecDepth 16384

noncomputable section

namespace Cert.Kernel6Ideal.WeightGrad

open Idealize.ShloMosaic Idealize.SL.Sem Cert.Kernel6Ideal

theorem algebraic : Cert.algebraic_Kernel6Ideal_Reference6Ideal := by
  pair_intro
  · run_from Cert.Kernel6Ideal.Value.run_blocks m g
  · refine (θ_run _ _ _).mono (fun r h c => ?_) (Cert.Reference6Ideal.Value.run m' g')
    obtain ⟨a0, a1, a2⟩ := hagree c
    obtain ⟨h0, hr⟩ := h c
    refine ⟨h0.trans ?_, hr⟩
    refine (Cert.Reference6Ideal.Read.val_main_v20_eq _ _ _).trans ?_
    rw [a0, a1, a2]
    exact (final2 m c).symm

end Cert.Kernel6Ideal.WeightGrad

end
-- ==== Proof.Rope.lean ====
/- The rotary tables' kernel at `F := Ideal`: each block's angles beside the reference's, then the two arrays. -/
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.Rope

open Cert.Kernel7Ideal Cert.Kernel7Ideal.Gen Cert.Reference7Ideal.Read

variable (m : (ℓ : Loc nD τ sig) → Buf (Elt Ideal) ℓ) (c : Dev nD)

/-- The block every window shows at grid step `t`: block `t` of the positions and of the tables' rows. -/
theorem idx : ∀ t : Fin cfg0.N, win0_0.index t = ![0, t.val] ∧ win0_1.index t = ![0, 0] ∧ win0_2.index t = ![t.val, 0]
    ∧ win0_3.index t = ![t.val, 0] :=
  (by decide +kernel : ∀ t : Fin grid0.N, _)

/-- The positions, at their own type. -/
abbrev pos : IVec Cert.Reference7Ideal.S4x2048 32 := m ((c : Thread nD τ).loc main_arg0)

/-- Row `r` of step `t` in the tables, with its sequence and its token. -/
abbrev row (t : Fin cfg0.N) (r : Fin 256) : Fin 8192 := ⟨256 * t.val + r.val, by have := lt_of_lt_of_eq t.isLt N_0; omega⟩
abbrev seq (t : Fin cfg0.N) (r : Fin 256) : Fin 4 :=
  ⟨(256 * t.val + r.val) / 2048, by have := lt_of_lt_of_eq t.isLt N_0; omega⟩
abbrev tok (t : Fin cfg0.N) (r : Fin 256) : Fin 2048 := ⟨(256 * t.val + r.val) % 2048, by omega⟩

theorem block0_at (t : Fin cfg0.N) (r : Fin 256) : iblk m c 0 t (ix2 0 r) = pos m c (ix2 (seq t r) (tok t r)) := by
  have h : V m c main_v14 (ix2 0 (row t r)) = pos m c (ix2 (seq t r) (tok t r)) := by
    entry_read; pointwise
  exact Eq.trans (by blk_ext [iblk, idx t]) h

/-- The column of frequencies repeats the reference's 32 frequencies. -/
theorem block1_at (t : Fin cfg0.N) (j : Fin 128) :
    iblk m c 1 t (ix2 j 0) = val_main_v9 (F := Ideal) (ix1 ⟨j.val % 32, by omega⟩) := by
  have h : (V m c main_v13 : FVec Ideal S128x1 .f32) (ix2 j 0) = val_main_v9 (F := Ideal) (ix1 ⟨j.val % 32, by omega⟩) := by
    unfold V
    simp only [StableHlo.after_cons, StableHlo.after_nil]
    after_results_simp
    pointwise [val_main_v9, val_main_v8, val_main_v7, val_main_v6, val_main_v5, val_main_v4, val_main_v3, val_main_v2,
      val_main_v1, val_main_v0, val_main_cst, val_main_cst_0, val_main_cst_1, val_main_cst_2]
  exact Eq.trans (by blk_ext [iblk, idx t]) h

/-- The body reads the column's first 32 rows. -/
theorem freq_at (t : Fin cfg0.N) (j : Fin 32) :
    View.ld (iblk m c 1 t) r0_0 (ix2 j 0) = val_main_v9 (F := Ideal) (ix1 j) := by
  have h : View.ld (iblk m c 1 t) r0_0 (ix2 j 0) = iblk m c 1 t (ix2 ⟨j.val, by omega⟩ 0) := by
    pointwise
  rw [h, block1_at]
  exact congrArg (fun i => val_main_v9 (F := Ideal) (ix1 i)) (Fin.ext (Nat.mod_eq_of_lt j.isLt))

/-- The step's angles are the reference's, with the row and the frequency exchanged. -/
theorem angle_at (t : Fin cfg0.N) (P0 : Vec Ideal S32x1 .f32) (P1 : Vec Ideal S1x256 .i32)
    (h0 : ∀ j : Fin 32, P0 (ix2 j 0) = val_main_v9 (F := Ideal) (ix1 j))
    (h1 : ∀ r : Fin 256, P1 (ix2 0 r) = pos m c (ix2 (seq t r) (tok t r))) (j : Fin 32) (r : Fin 256) :
    k0_pay1 P0 P1 (ix2 j r) = val_main_v15 (F := Ideal) (pos m c) (ix3 (seq t r) (tok t r) j) := by
  pointwise [k0_pay1, val_main_v15, val_main_v14, val_main_v13, val_main_v12, val_main_v11, val_main_v10, h0, h1]
  exact mul_comm (G := EReal) _ _

/-- The reference's four groups of 32 lanes hold the same values. -/
theorem quarters (f : EReal → EReal) (a : Fin 32 → EReal) (j : Fin 128) :
    (if h : j.val < 64 then f (if h' : j.val < 32 then a ⟨j.val, h'⟩ else a ⟨j.val - 32, by omega⟩)
      else f (if h' : j.val - 64 < 32 then a ⟨j.val - 64, h'⟩ else a ⟨j.val - 64 - 32, by omega⟩))
      = f (a ⟨j.val % 32, by omega⟩) := by
  split_ifs <;> exact congrArg (fun i => f (a i)) (Fin.ext (by dsimp only; omega))

/-- The kernel's four groups of 32 lanes hold the same values. -/
theorem groups (f : EReal → EReal) (a : Fin 32 → EReal) (j : Fin 128) :
    (if h : j.val < 32 then f (a ⟨j.val, h⟩) else if h : j.val - 32 < 32 then f (a ⟨j.val - 32, h⟩)
      else if h : j.val - 32 - 32 < 32 then f (a ⟨j.val - 32 - 32, h⟩) else f (a ⟨j.val - 32 - 32 - 32, by omega⟩))
      = f (a ⟨j.val % 32, by omega⟩) := by
  split_ifs <;> exact congrArg (fun i => f (a i)) (Fin.ext (by dsimp only; omega))

theorem final2 : (dats m 0 c).arrAt 2 (cfgs 0).N = val_main_v21 (F := Ideal) (pos m c) := by
  refine (dats m 0 c).arrAt_eq_of_covers 2 _ (by decide +kernel) fun t _ y => ?_
  blk_simp
  rw [after0_2]
  idx_vars y
  refine Eq.trans ?_ (congrArg (val_main_v21 (F := Ideal) (pos m c)) (show ix2 (row t y0) y1 = _ by blk_ext [idx t]))
  have hR : val_main_v21 (F := Ideal) (pos m c) (ix2 (row t y0) y1) = Ideal.cos
      (val_main_v15 (F := Ideal) (pos m c) (ix3 (seq t y0) (tok t y0) ⟨y1.val % 32, by omega⟩)) := by
    pointwise [val_main_v21, val_main_v18, val_main_v17, val_main_v16]
    exact quarters Ideal.cos (fun j => val_main_v15 (F := Ideal) (pos m c) (ix3 (seq t y0) (tok t y0) j)) y1
  frame_out
  rw [hR, ← angle_at m c t _ _ (freq_at m c t) (block0_at m c t)]
  pointwise [k0_pay2]
  exact groups Ideal.cos (fun j => k0_pay1 (View.ld (iblk m c 1 t) r0_0) (iblk m c 0 t) (ix2 j y0)) y1

theorem final3 : (dats m 0 c).arrAt 3 (cfgs 0).N = val_main_v22 (F := Ideal) (pos m c) := by
  refine (dats m 0 c).arrAt_eq_of_covers 3 _ (by decide +kernel) fun t _ y => ?_
  blk_simp
  rw [after0_3]
  idx_vars y
  refine Eq.trans ?_ (congrArg (val_main_v22 (F := Ideal) (pos m c)) (show ix2 (row t y0) y1 = _ by blk_ext [idx t]))
  have hR : val_main_v22 (F := Ideal) (pos m c) (ix2 (row t y0) y1) = Ideal.sin
      (val_main_v15 (F := Ideal) (pos m c) (ix3 (seq t y0) (tok t y0) ⟨y1.val % 32, by omega⟩)) := by
    pointwise [val_main_v22, val_main_v20, val_main_v19, val_main_v16]
    exact quarters Ideal.sin (fun j => val_main_v15 (F := Ideal) (pos m c) (ix3 (seq t y0) (tok t y0) j)) y1
  frame_out
  rw [hR, ← angle_at m c t _ _ (freq_at m c t) (block0_at m c t)]
  pointwise [k0_pay3]
  exact groups Ideal.sin (fun j => k0_pay1 (View.ld (iblk m c 1 t) r0_0) (iblk m c 0 t) (ix2 j y0)) y1

end Cert.Kernel7Ideal.Rope

end
-- ==== Proof.RopeClaim.lean ====
/- The rotary tables' kernel: the value claim. -/
module

public import proofs.«01_k».proof.Defs
public import proofs.«01_k».proof.Proof.Rope
public import proofs.«01_k».proof.Proof.Gen.Kernel7Ideal.Value
public import proofs.«01_k».proof.Proof.Gen.Reference7Ideal.Run
public import Idealize.ShloMosaic.Adequacy
public import Idealize.ShloMosaic.Init

@[expose] public section

set_option maxRecDepth 16384

noncomputable section

namespace Cert.Kernel7Ideal.Rope

open Idealize.ShloMosaic Idealize.SL.Sem Cert.Kernel7Ideal

theorem algebraic : Cert.algebraic_Kernel7Ideal_Reference7Ideal := by
  pair_intro
  · run_from Cert.Kernel7Ideal.Value.run_blocks m g
  · run_from Cert.Reference7Ideal.Value.run m' g'
    all_goals have a0 := hagree c
    · refine (Cert.Reference7Ideal.Read.val_main_v21_eq _).trans ?_
      rw [a0]
      exact (final2 m c).symm
    · refine (Cert.Reference7Ideal.Read.val_main_v22_eq _).trans ?_
      rw [a0]
      exact (final3 m c).symm

end Cert.Kernel7Ideal.Rope

end
-- ==== Proof.LatRun.lean ====
/- The latent projections' body (`fwd_b`) at one grid point, run once on any buffers. -/
module

public import proofs.«01_k».proof.Proof.Gen.Kernel8Ideal.Launch
public import proofs.«01_k».proof.Proof.Gen.Kernel8Ideal.Skeleton
public import proofs.«01_k».proof.Proof.Gen.Kernel8Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel8Ideal.Lat

open Idealize.ShloMosaic Idealize.ShloMosaic.TcCoe Idealize.ShloMosaic.Tactic Cert.Kernel8Ideal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A whole buffer of the vector memory. -/
structure Whole (s : Shape) (e : EltTy) where
  at' : Memref sig .tc .vmem s e
  whole : at'.IsWhole

/-- The body's buffers: the latent columns, the recurrence's columns with the eight rows before them, the rotary tables, the
    twelve weights, and the ten results. -/
structure Bufs where
  pm : Whole S256x512 .f32
  prw : Whole S256x1664 .f32
  halo : Whole S8x1664 .f32
  cos : Whole S256x128 .f32
  sin : Whole S256x128 .f32
  qg : Whole S1x256 .f32
  wqn : Whole S256x512 .f32
  wqr : Whole S256x512 .f32
  kvg : Whole S1x128 .f32
  wkv : Whole S128x1024 .f32
  mu : Whole S1x1664 .f32
  w0 : Whole S1x512 .f32
  w2 : Whole S128x512 .f32
  a0 : Whole S1x512 .f32
  a2 : Whole S128x512 .f32
  kk : Whole S1x512 .f32
  ka : Whole S1x512 .f32
  qn' : Whole S256x512 .bf16
  qr' : Whole S256x512 .bf16
  kv' : Whole S256x1024 .bf16
  kr' : Whole S256x128 .bf16
  r' : Whole S256x512 .f32
  dec' : Whole S256x512 .f32
  k' : Whole S256x512 .f32
  v' : Whole S256x512 .f32
  nkk' : Whole S256x512 .f32
  kka' : Whole S256x512 .f32

/-- The contents of the seventeen inputs. -/
structure Ins (F : FTy → Type) where
  pm : Vec F S256x512 .f32
  prw : Vec F S256x1664 .f32
  halo : Vec F S8x1664 .f32
  cos : Vec F S256x128 .f32
  sin : Vec F S256x128 .f32
  qg : Vec F S1x256 .f32
  wqn : Vec F S256x512 .f32
  wqr : Vec F S256x512 .f32
  kvg : Vec F S1x128 .f32
  wkv : Vec F S128x1024 .f32
  mu : Vec F S1x1664 .f32
  w0 : Vec F S1x512 .f32
  w2 : Vec F S128x512 .f32
  a0 : Vec F S1x512 .f32
  a2 : Vec F S128x512 .f32
  kk : Vec F S1x512 .f32
  ka : Vec F S1x512 .f32

/-- The pieces stored into each of the ten results. -/
structure Outs (F : FTy → Type) where
  qn : List (View.Piece (Elt F) S256x512 .bf16)
  qr : List (View.Piece (Elt F) S256x512 .bf16)
  kv : List (View.Piece (Elt F) S256x1024 .bf16)
  kr : List (View.Piece (Elt F) S256x128 .bf16)
  r : List (View.Piece (Elt F) S256x512 .f32)
  dec : List (View.Piece (Elt F) S256x512 .f32)
  k : List (View.Piece (Elt F) S256x512 .f32)
  v : List (View.Piece (Elt F) S256x512 .f32)
  nkk : List (View.Piece (Elt F) S256x512 .f32)
  kka : List (View.Piece (Elt F) S256x512 .f32)

/-- A buffer at the contents `x`; at anything; and after the stores `L`. -/
def has (c : Dev nD) {s : Shape} {e : EltTy} (b : Whole s e) (x : Vec F s e) : sProp 𝕄 :=
  b.at'.view.loc (c : Thread nD τ) ↦[b.at'.view.set]{fullShare} b.whole.unread x
def spare (c : Dev nD) {s : Shape} {e : EltTy} (b : Whole s e) : sProp 𝕄 :=
  iprop(∃ f, b.at'.view.loc (c : Thread nD τ) ↦[b.at'.view.set]{fullShare} f)
def wrote (c : Dev nD) {s : Shape} {e : EltTy} (b : Whole s e) (L : List (View.Piece (Elt F) s e)) : sProp 𝕄 :=
  iprop(∃ f, b.at'.view.loc (c : Thread nD τ) ↦[b.at'.view.set]{fullShare} b.at'.view.writes (Elt F) f L)

theorem has_of_owns (c : Dev nD) {s : Shape} {e : EltTy} (b : Whole s e) (x : Vec F s e) :
    (owns (c : Thread nD τ) b.at' fullShare x : sProp 𝕄) ⊢ has c b x := by
  unfold has owns
  iintro ⟨%f, %hf, H⟩
  obtain rfl := b.whole.eq_unread hf
  iexact H

theorem owns_of_has (c : Dev nD) {s : Shape} {e : EltTy} (b : Whole s e) (x : Vec F s e) :
    has c b x ⊢ (owns (c : Thread nD τ) b.at' fullShare x : sProp 𝕄) := by
  unfold has owns
  iintro H
  iexists _; isplitr; · ipureintro; exact b.whole.read_unread _
  iexact H

theorem spare_of_owns (c : Dev nD) {s : Shape} {e : EltTy} (b : Whole s e) :
    iprop(∃ d : Vec F s e, owns (c : Thread nD τ) b.at' fullShare d) ⊢ (spare c b : sProp 𝕄) := by
  unfold spare owns
  iintro ⟨%d, %f, -, H⟩
  iexists _; iexact H

theorem owns_of_wrote (c : Dev nD) {s : Shape} {e : EltTy} (b : Whole s e) (L : List (View.Piece (Elt F) s e))
    (h : ∀ y, ∃ pc ∈ L, y ∈ pc.1.set) : wrote c b L ⊢ (owns (c : Thread nD τ) b.at' fullShare (View.canon L) : sProp 𝕄) := by
  unfold wrote owns
  iintro ⟨%f, H⟩
  iexists _; isplitr
  swap; · iexact H
  ipureintro; exact View.read_writes_eq_canon _ _ _ h

/-- The inputs' buffers at their contents, the results' buffers at anything, and the results' buffers after their stores. -/
def held (c : Dev nD) (b : Bufs) (x : Ins F) : sProp 𝕄 :=
  iprop(has c b.pm x.pm ∗ has c b.prw x.prw ∗ has c b.halo x.halo ∗ has c b.cos x.cos ∗ has c b.sin x.sin ∗ has c b.qg x.qg
    ∗ has c b.wqn x.wqn ∗ has c b.wqr x.wqr ∗ has c b.kvg x.kvg ∗ has c b.wkv x.wkv ∗ has c b.mu x.mu ∗ has c b.w0 x.w0
    ∗ has c b.w2 x.w2 ∗ has c b.a0 x.a0 ∗ has c b.a2 x.a2 ∗ has c b.kk x.kk ∗ has c b.ka x.ka)
def room (c : Dev nD) (b : Bufs) : sProp 𝕄 :=
  iprop(spare c b.qn' ∗ spare c b.qr' ∗ spare c b.kv' ∗ spare c b.kr' ∗ spare c b.r' ∗ spare c b.dec' ∗ spare c b.k'
    ∗ spare c b.v' ∗ spare c b.nkk' ∗ spare c b.kka')
def done (c : Dev nD) (b : Bufs) (L : Outs F) : sProp 𝕄 :=
  iprop(wrote c b.qn' L.qn ∗ wrote c b.qr' L.qr ∗ wrote c b.kv' L.kv ∗ wrote c b.kr' L.kr ∗ wrote c b.r' L.r
    ∗ wrote c b.dec' L.dec ∗ wrote c b.k' L.k ∗ wrote c b.v' L.v ∗ wrote c b.nkk' L.nkk ∗ wrote c b.kka' L.kka)

/-- The body on the buffers `b`. -/
abbrev bodyOn (i : grid0.Coords) (b : Bufs) : Prog (TpuEff nD τ sig (Elt F) Λ₀ .tc) PUnit :=
  cc0_fwd_b i b.pm.1 b.pm.2 b.prw.1 b.prw.2 b.halo.1 b.halo.2 b.cos.1 b.cos.2 b.sin.1 b.sin.2 b.qg.1 b.qg.2 b.wqn.1 b.wqn.2
    b.wqr.1 b.wqr.2 b.kvg.1 b.kvg.2 b.wkv.1 b.wkv.2 b.mu.1 b.mu.2 b.w0.1 b.w0.2 b.w2.1 b.w2.2 b.a0.1 b.a0.2 b.a2.1 b.a2.2
    b.kk.1 b.kk.2 b.ka.1 b.ka.2 b.qn'.1 b.qn'.2 b.qr'.1 b.qr'.2 b.kv'.1 b.kv'.2 b.kr'.1 b.kr'.2 b.r'.1 b.r'.2
    b.dec'.1 b.dec'.2 b.k'.1 b.k'.2 b.v'.1 b.v'.2 b.nkk'.1 b.nkk'.2 b.kka'.1 b.kka'.2

/-- The body runs from the inputs at `x`, leaves them, and stores the pieces `L`. -/
def Runs (c : Dev nD) (i : grid0.Coords) (b : Bufs) (x : Ins F) (L : Outs F) : Prop :=
  ∀ (E : Set ℕ) (K : PUnit → sProp 𝕄),
    iprop(held c b x ∗ room c b ∗ (iprop(held c b x ∗ done c b L) -∗ K ⟨⟩))
      ⊢ wp Idealize.ShloMosaic.frame (wpE (defs₀ (F := F)) Variants.none c none) E (bodyOn i b) K

set_option maxHeartbeats 4000000 in
/-- The run. -/
def run (c : Dev nD) (i : grid0.Coords) (b : Bufs) (x : Ins F) : { L : Outs F // Runs c i b x L } := by
  refine ⟨⟨?_, ?_, ?_, ?_, ?_, ?_, ?_, ?_, ?_, ?_⟩, fun E K => ?_⟩
  rotate_left 10
  unfold bodyOn held room done
  simp only [cc0_fwd_b_eq_skeleton]; unfold cc0_fwd_b_skel
  simp only [k0_part1_eq_skeleton, k0_part2_eq_skeleton, k0_part3_eq_skeleton, k0_part4_eq_skeleton, k0_part5_eq_skeleton,
    k0_part6_eq_skeleton]
  unfold has spare wrote
  iintro ⟨⟨H0, H1, H2, H3, H4, H5, H6, H7, H8, H9, H10, H11, H12, H13, H14, H15, H16⟩,
    ⟨⟨%f0, R0⟩, ⟨%f1, R1⟩, ⟨%f2, R2⟩, ⟨%f3, R3⟩, ⟨%f4, R4⟩, ⟨%f5, R5⟩, ⟨%f6, R6⟩, ⟨%f7, R7⟩, ⟨%f8, R8⟩, ⟨%f9, R9⟩⟩, Hk⟩
  sl_exec
  sl_step
  iapply Hk
  isplitl [H0 H1 H2 H3 H4 H5 H6 H7 H8 H9 H10 H11 H12 H13 H14 H15 H16]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  isplitl [R0]; · iexists _; iexact R0
  isplitl [R1]; · iexists _; iexact R1
  isplitl [R2]; · iexists _; iexact R2
  isplitl [R3]; · iexists _; iexact R3
  isplitl [R4]; · iexists _; iexact R4
  isplitl [R5]; · iexists _; iexact R5
  isplitl [R6]; · iexists _; iexact R6
  isplitl [R7]; · iexists _; iexact R7
  isplitl [R8]; · iexists _; iexact R8
  iexists _; iexact R9

end Cert.Kernel8Ideal.Lat

end
-- ==== Proof.LatData.lean ====
/- `fwd_b`: the arrays the call finds, and the pipeline's proof data. -/
module

public import proofs.«01_k».proof.Proof.LatRun
public import Idealize.ShloMosaic.Lib.Claim

@[expose] public section

set_option maxRecDepth 16384

noncomputable section

namespace Cert.Kernel8Ideal.Lat

open Idealize.ShloMosaic Idealize.ShloMosaic.TcCoe Idealize.ShloMosaic.Tactic Cert.Kernel8Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before the call -/

/-- Core `c`'s buffers as the call finds them: after the host's lines. -/
abbrev V (c : Dev nD) (b : Ref sig .tc) : Buf (Elt F) ((c : Thread nD τ).loc b) :=
  StableHlo.after hostOps0 (fun b => m (c, b)) b

theorem host_fresh : (hostOps0 : List (HloOp τ sig (Elt F))).Forall fun op => op.fresh = ∅ := by
  simp only [List.Forall]; repeat' constructor

set_option maxHeartbeats 800000 in
theorem upToCall : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub host_fresh main_chain

/-- The program's arguments. -/
abbrev args : List (Ref sig .tc) := [main_arg0, main_arg1, main_arg2, main_arg3, main_arg4, main_arg5, main_arg6, main_arg7,
  main_arg8, main_arg9, main_arg10, main_arg11, main_arg12, main_arg13, main_arg14]

set_option maxHeartbeats 1600000 in
/-- No host line writes an argument. -/
theorem V_arg (c : Dev nD) (b : Ref sig .tc) (hb : b ∈ args) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by rintro rfl; revert hb; decide)))

/-! ## The windows -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffers the body is called with at a point. -/
def bufs (t : Fin cfg0.N) : Bufs where
  pm := ⟨win0_0.stage (cfg0.slots t 0), hstage0_0 ((cfg0.slots t 0).cast nbuf0_0)⟩
  prw := ⟨win0_1.stage (cfg0.slots t 1), hstage0_1 ((cfg0.slots t 1).cast nbuf0_1)⟩
  halo := ⟨win0_2.stage (cfg0.slots t 2), hstage0_2 ((cfg0.slots t 2).cast nbuf0_2)⟩
  cos := ⟨win0_3.stage (cfg0.slots t 3), hstage0_3 ((cfg0.slots t 3).cast nbuf0_3)⟩
  sin := ⟨win0_4.stage (cfg0.slots t 4), hstage0_4 ((cfg0.slots t 4).cast nbuf0_4)⟩
  qg := ⟨win0_5.stage (cfg0.slots t 5), hstage0_5 ((cfg0.slots t 5).cast nbuf0_5)⟩
  wqn := ⟨win0_6.stage (cfg0.slots t 6), hstage0_6 ((cfg0.slots t 6).cast nbuf0_6)⟩
  wqr := ⟨win0_7.stage (cfg0.slots t 7), hstage0_7 ((cfg0.slots t 7).cast nbuf0_7)⟩
  kvg := ⟨win0_8.stage (cfg0.slots t 8), hstage0_8 ((cfg0.slots t 8).cast nbuf0_8)⟩
  wkv := ⟨win0_9.stage (cfg0.slots t 9), hstage0_9 ((cfg0.slots t 9).cast nbuf0_9)⟩
  mu := ⟨win0_10.stage (cfg0.slots t 10), hstage0_10 ((cfg0.slots t 10).cast nbuf0_10)⟩
  w0 := ⟨win0_11.stage (cfg0.slots t 11), hstage0_11 ((cfg0.slots t 11).cast nbuf0_11)⟩
  w2 := ⟨win0_12.stage (cfg0.slots t 12), hstage0_12 ((cfg0.slots t 12).cast nbuf0_12)⟩
  a0 := ⟨win0_13.stage (cfg0.slots t 13), hstage0_13 ((cfg0.slots t 13).cast nbuf0_13)⟩
  a2 := ⟨win0_14.stage (cfg0.slots t 14), hstage0_14 ((cfg0.slots t 14).cast nbuf0_14)⟩
  kk := ⟨win0_15.stage (cfg0.slots t 15), hstage0_15 ((cfg0.slots t 15).cast nbuf0_15)⟩
  ka := ⟨win0_16.stage (cfg0.slots t 16), hstage0_16 ((cfg0.slots t 16).cast nbuf0_16)⟩
  qn' := ⟨win0_17.stage (cfg0.slots t 17), hstage0_17 ((cfg0.slots t 17).cast nbuf0_17)⟩
  qr' := ⟨win0_18.stage (cfg0.slots t 18), hstage0_18 ((cfg0.slots t 18).cast nbuf0_18)⟩
  kv' := ⟨win0_19.stage (cfg0.slots t 19), hstage0_19 ((cfg0.slots t 19).cast nbuf0_19)⟩
  kr' := ⟨win0_20.stage (cfg0.slots t 20), hstage0_20 ((cfg0.slots t 20).cast nbuf0_20)⟩
  r' := ⟨win0_21.stage (cfg0.slots t 21), hstage0_21 ((cfg0.slots t 21).cast nbuf0_21)⟩
  dec' := ⟨win0_22.stage (cfg0.slots t 22), hstage0_22 ((cfg0.slots t 22).cast nbuf0_22)⟩
  k' := ⟨win0_23.stage (cfg0.slots t 23), hstage0_23 ((cfg0.slots t 23).cast nbuf0_23)⟩
  v' := ⟨win0_24.stage (cfg0.slots t 24), hstage0_24 ((cfg0.slots t 24).cast nbuf0_24)⟩
  nkk' := ⟨win0_25.stage (cfg0.slots t 25), hstage0_25 ((cfg0.slots t 25).cast nbuf0_25)⟩
  kka' := ⟨win0_26.stage (cfg0.slots t 26), hstage0_26 ((cfg0.slots t 26).cast nbuf0_26)⟩

/-- The inputs' blocks at a point. -/
def ins (c : Dev nD) (t : Fin cfg0.N) : Ins F where
  pm := iblk m c 0 t
  prw := iblk m c 1 t
  halo := iblk m c 2 t
  cos := iblk m c 3 t
  sin := iblk m c 4 t
  qg := iblk m c 5 t
  wqn := iblk m c 6 t
  wqr := iblk m c 7 t
  kvg := iblk m c 8 t
  wkv := iblk m c 9 t
  mu := iblk m c 10 t
  w0 := iblk m c 11 t
  w2 := iblk m c 12 t
  a0 := iblk m c 13 t
  a2 := iblk m c 14 t
  kk := iblk m c 15 t
  ka := iblk m c 16 t

/-- The pieces the body stores at a point. -/
@[irreducible] def outs (c : Dev nD) (t : Fin cfg0.N) : Outs F := (run c (grid0.coords t) (bufs t) (ins m c t)).1

theorem runs_outs (c : Dev nD) (t : Fin cfg0.N) : Runs c (grid0.coords t) (bufs t) (ins m c t) (outs m c t) := by
  unfold outs; exact (run c (grid0.coords t) (bufs t) (ins m c t)).2

/-- Each input stays at its block, each result is left at what the body stores. -/
def dats (_ : Fin 1) (c : Dev nD) : Dat τ (Elt F) Unit ℕ (UR sig nD τ) ℕ cfg0 c where
  A w := V m c (Pipeline.arrRef spec0 w)
  after w t := match w with
    | ⟨17, _⟩ => View.canon (outs m c t).qn
    | ⟨18, _⟩ => View.canon (outs m c t).qr
    | ⟨19, _⟩ => View.canon (outs m c t).kv
    | ⟨20, _⟩ => View.canon (outs m c t).kr
    | ⟨21, _⟩ => View.canon (outs m c t).r
    | ⟨22, _⟩ => View.canon (outs m c t).dec
    | ⟨23, _⟩ => View.canon (outs m c t).k
    | ⟨24, _⟩ => View.canon (outs m c t).v
    | ⟨25, _⟩ => View.canon (outs m c t).nkk
    | ⟨26, _⟩ => View.canon (outs m c t).kka
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨n + 27, h⟩ => absurd h (Nat.not_lt.mpr (Nat.le_add_left 27 n))
  Φ _ := Pipeline.ΦA spec0 c
  q := Pipeline.shareOf spec0
  owed _ := 0

theorem A_eq (c : Dev nD) (w : Fin cfg0.W) : (dats m 0 c).A w = V m c (Pipeline.arrRef spec0 w) := by dsimp only [dats]

/-- Input window `w`. -/
abbrev inW (w : Fin 17) : Fin cfg0.W := ⟨w.val, lt_trans w.isLt (by decide)⟩

set_option maxHeartbeats 1600000 in
/-- The body finds an input where it leaves it, at its block, fetched at this point or not. -/
theorem before_inW (c : Dev nD) (w : Fin 17) (t : Fin cfg0.N) (d) : (dats m 0 c).before (inW w) t d = (dats m 0 c).after (inW w) t := by
  revert d
  fin_cases w <;> intro d <;>
    exact ((dats m 0 c).before_in_eq_fetched _ rfl (fun _ => rfl) (fun _ _ _ => rfl) (fun _ => rfl) t d).trans rfl

/-! ## The body's obligation -/

/-- What the body is handed of window `w`, and what it hands back. -/
abbrev At (c : Dev nD) (t : Fin cfg0.N) (w : Fin cfg0.W) : sProp 𝕄 :=
  iprop(∃ d, owns (c : Thread nD τ) ((cfg0.win w).stage (cfg0.slots t w)) fullShare ((dats m 0 c).before w t d))
abbrev Now (c : Dev nD) (t : Fin cfg0.N) (w : Fin cfg0.W) : sProp 𝕄 :=
  owns (c : Thread nD τ) ((cfg0.win w).stage (cfg0.slots t w)) fullShare ((dats m 0 c).after w t)

theorem found (c : Dev nD) (w : Fin cfg0.W) (hw : w.val < 17) (t : Fin cfg0.N) : At m c t w ⊢ Now m c t w := by
  iintro ⟨%d, H⟩
  rw [show (dats m 0 c).before w t d = (dats m 0 c).after w t from before_inW m c ⟨w.val, hw⟩ t d]
  iexact H

theorem roomy (c : Dev nD) (w : Fin cfg0.W) (t : Fin cfg0.N) :
    At m c t w ⊢ iprop(∃ d, owns (c : Thread nD τ) ((cfg0.win w).stage (cfg0.slots t w)) fullShare d) := by
  iintro ⟨%d, H⟩
  iexists _; iexact H

end Cert.Kernel8Ideal.Lat

end
-- ==== Proof.LatFrame.lean ====
/- The frame of `fwd_b`: the body's obligation, and the run of the whole program. -/
module

public import proofs.«01_k».proof.Proof.LatData
public import Idealize.ShloMosaic.Lib.Claim

@[expose] public section

set_option maxRecDepth 16384

noncomputable section

namespace Cert.Kernel8Ideal.Lat

open Idealize.ShloMosaic Idealize.ShloMosaic.TcCoe Idealize.ShloMosaic.Tactic Cert.Kernel8Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of each result cover its block. -/
def Covered (L : Outs F) : Prop :=
  (∀ y, ∃ pc ∈ L.qn, y ∈ pc.1.set) ∧ (∀ y, ∃ pc ∈ L.qr, y ∈ pc.1.set) ∧ (∀ y, ∃ pc ∈ L.kv, y ∈ pc.1.set)
    ∧ (∀ y, ∃ pc ∈ L.kr, y ∈ pc.1.set) ∧ (∀ y, ∃ pc ∈ L.r, y ∈ pc.1.set) ∧ (∀ y, ∃ pc ∈ L.dec, y ∈ pc.1.set)
    ∧ (∀ y, ∃ pc ∈ L.k, y ∈ pc.1.set) ∧ (∀ y, ∃ pc ∈ L.v, y ∈ pc.1.set) ∧ (∀ y, ∃ pc ∈ L.nkk, y ∈ pc.1.set)
    ∧ (∀ y, ∃ pc ∈ L.kka, y ∈ pc.1.set)

theorem covers (c : Dev nD) (i : grid0.Coords) (b : Bufs) (x : Ins F) : Covered (run c i b x).1 :=
  ⟨View.cover_of_tiledL (run c i b x).1.qn S256x512.size (by sl_kernel_rfl), View.cover_of_tiledL (run c i b x).1.qr S256x512.size (by sl_kernel_rfl),
    View.cover_of_tiledL (run c i b x).1.kv S256x1024.size (by sl_kernel_rfl), View.cover_of_tiledL (run c i b x).1.kr S256x128.size (by sl_kernel_rfl),
    View.cover_of_tiledL (run c i b x).1.r S256x512.size (by sl_kernel_rfl), View.cover_of_tiledL (run c i b x).1.dec S256x512.size (by sl_kernel_rfl),
    View.cover_of_tiledL (run c i b x).1.k S256x512.size (by sl_kernel_rfl), View.cover_of_tiledL (run c i b x).1.v S256x512.size (by sl_kernel_rfl),
    View.cover_of_tiledL (run c i b x).1.nkk S256x512.size (by sl_kernel_rfl), View.cover_of_tiledL (run c i b x).1.kka S256x512.size (by sl_kernel_rfl)⟩

theorem covers_outs (c : Dev nD) (t : Fin cfg0.N) : Covered (outs m c t) := by
  unfold outs; exact covers c (grid0.coords t) (bufs t) (ins m c t)

/-! Each result at its window's buffer, as the proof data has it. -/

theorem left_qn (c : Dev nD) (t : Fin cfg0.N) : wrote c (bufs t).qn' (outs m c t).qn ⊢ Now m c t 17 :=
  owns_of_wrote c (bufs t).qn' (outs m c t).qn (covers_outs m c t).1

theorem left_qr (c : Dev nD) (t : Fin cfg0.N) : wrote c (bufs t).qr' (outs m c t).qr ⊢ Now m c t 18 :=
  owns_of_wrote c (bufs t).qr' (outs m c t).qr (covers_outs m c t).2.1

theorem left_kv (c : Dev nD) (t : Fin cfg0.N) : wrote c (bufs t).kv' (outs m c t).kv ⊢ Now m c t 19 :=
  owns_of_wrote c (bufs t).kv' (outs m c t).kv (covers_outs m c t).2.2.1

theorem left_kr (c : Dev nD) (t : Fin cfg0.N) : wrote c (bufs t).kr' (outs m c t).kr ⊢ Now m c t 20 :=
  owns_of_wrote c (bufs t).kr' (outs m c t).kr (covers_outs m c t).2.2.2.1

theorem left_r (c : Dev nD) (t : Fin cfg0.N) : wrote c (bufs t).r' (outs m c t).r ⊢ Now m c t 21 :=
  owns_of_wrote c (bufs t).r' (outs m c t).r (covers_outs m c t).2.2.2.2.1

theorem left_dec (c : Dev nD) (t : Fin cfg0.N) : wrote c (bufs t).dec' (outs m c t).dec ⊢ Now m c t 22 :=
  owns_of_wrote c (bufs t).dec' (outs m c t).dec (covers_outs m c t).2.2.2.2.2.1

theorem left_k (c : Dev nD) (t : Fin cfg0.N) : wrote c (bufs t).k' (outs m c t).k ⊢ Now m c t 23 :=
  owns_of_wrote c (bufs t).k' (outs m c t).k (covers_outs m c t).2.2.2.2.2.2.1

theorem left_v (c : Dev nD) (t : Fin cfg0.N) : wrote c (bufs t).v' (outs m c t).v ⊢ Now m c t 24 :=
  owns_of_wrote c (bufs t).v' (outs m c t).v (covers_outs m c t).2.2.2.2.2.2.2.1

theorem left_nkk (c : Dev nD) (t : Fin cfg0.N) : wrote c (bufs t).nkk' (outs m c t).nkk ⊢ Now m c t 25 :=
  owns_of_wrote c (bufs t).nkk' (outs m c t).nkk (covers_outs m c t).2.2.2.2.2.2.2.2.1

theorem left_kka (c : Dev nD) (t : Fin cfg0.N) : wrote c (bufs t).kka' (outs m c t).kka ⊢ Now m c t 26 :=
  owns_of_wrote c (bufs t).kka' (outs m c t).kka (covers_outs m c t).2.2.2.2.2.2.2.2.2

/-- All ten. -/
theorem left (c : Dev nD) (t : Fin cfg0.N) : done c (bufs t) (outs m c t) ⊢
    iprop(Now m c t 17 ∗ Now m c t 18 ∗ Now m c t 19 ∗ Now m c t 20 ∗ Now m c t 21 ∗ Now m c t 22 ∗ Now m c t 23
      ∗ Now m c t 24 ∗ Now m c t 25 ∗ Now m c t 26) := by
  unfold done
  iintro ⟨H0, H1, H2, H3, H4, H5, H6, H7, H8, H9⟩
  isplitl [H0]; · iapply (left_qn m c t); iexact H0
  isplitl [H1]; · iapply (left_qr m c t); iexact H1
  isplitl [H2]; · iapply (left_kv m c t); iexact H2
  isplitl [H3]; · iapply (left_kr m c t); iexact H3
  isplitl [H4]; · iapply (left_r m c t); iexact H4
  isplitl [H5]; · iapply (left_dec m c t); iexact H5
  isplitl [H6]; · iapply (left_k m c t); iexact H6
  isplitl [H7]; · iapply (left_v m c t); iexact H7
  isplitl [H8]; · iapply (left_nkk m c t); iexact H8
  iapply (left_kka m c t); iexact H9

set_option maxHeartbeats 4000000 in
/-- The body at a point: its buffers hold the inputs' blocks, so the run applies. -/
theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyOn (grid0.coords t) (bufs t) by
    unfold defs₀; rw [Defs.onTc_tc]; rfl]
  rw [show (dats m 0 c).Φ t.succ = (dats m 0 c).Φ t.castSucc from rfl,
    show (dats m 0 c).owesAt () t.succ = (dats m 0 c).owesAt () t.castSucc from rfl]
  iintro ⟨HΦ, Ho, H0, H1, H2, H3, H4, H5, H6, H7, H8, H9, H10, H11, H12, H13, H14, H15, H16, R0, R1, R2, R3, R4, R5, R6, R7, R8, R9⟩
  iapply (runs_outs m c t Set.univ _)
  isplitl [H0 H1 H2 H3 H4 H5 H6 H7 H8 H9 H10 H11 H12 H13 H14 H15 H16]
  · unfold held
    isplitl [H0]; · iapply (show At m c t 0 ⊢ has c (bufs t).pm (ins m c t).pm from (found m c 0 (by decide) t).trans (has_of_owns c (bufs t).pm (ins m c t).pm)); iexact H0
    isplitl [H1]; · iapply (show At m c t 1 ⊢ has c (bufs t).prw (ins m c t).prw from (found m c 1 (by decide) t).trans (has_of_owns c (bufs t).prw (ins m c t).prw)); iexact H1
    isplitl [H2]; · iapply (show At m c t 2 ⊢ has c (bufs t).halo (ins m c t).halo from (found m c 2 (by decide) t).trans (has_of_owns c (bufs t).halo (ins m c t).halo)); iexact H2
    isplitl [H3]; · iapply (show At m c t 3 ⊢ has c (bufs t).cos (ins m c t).cos from (found m c 3 (by decide) t).trans (has_of_owns c (bufs t).cos (ins m c t).cos)); iexact H3
    isplitl [H4]; · iapply (show At m c t 4 ⊢ has c (bufs t).sin (ins m c t).sin from (found m c 4 (by decide) t).trans (has_of_owns c (bufs t).sin (ins m c t).sin)); iexact H4
    isplitl [H5]; · iapply (show At m c t 5 ⊢ has c (bufs t).qg (ins m c t).qg from (found m c 5 (by decide) t).trans (has_of_owns c (bufs t).qg (ins m c t).qg)); iexact H5
    isplitl [H6]; · iapply (show At m c t 6 ⊢ has c (bufs t).wqn (ins m c t).wqn from (found m c 6 (by decide) t).trans (has_of_owns c (bufs t).wqn (ins m c t).wqn)); iexact H6
    isplitl [H7]; · iapply (show At m c t 7 ⊢ has c (bufs t).wqr (ins m c t).wqr from (found m c 7 (by decide) t).trans (has_of_owns c (bufs t).wqr (ins m c t).wqr)); iexact H7
    isplitl [H8]; · iapply (show At m c t 8 ⊢ has c (bufs t).kvg (ins m c t).kvg from (found m c 8 (by decide) t).trans (has_of_owns c (bufs t).kvg (ins m c t).kvg)); iexact H8
    isplitl [H9]; · iapply (show At m c t 9 ⊢ has c (bufs t).wkv (ins m c t).wkv from (found m c 9 (by decide) t).trans (has_of_owns c (bufs t).wkv (ins m c t).wkv)); iexact H9
    isplitl [H10]; · iapply (show At m c t 10 ⊢ has c (bufs t).mu (ins m c t).mu from (found m c 10 (by decide) t).trans (has_of_owns c (bufs t).mu (ins m c t).mu)); iexact H10
    isplitl [H11]; · iapply (show At m c t 11 ⊢ has c (bufs t).w0 (ins m c t).w0 from (found m c 11 (by decide) t).trans (has_of_owns c (bufs t).w0 (ins m c t).w0)); iexact H11
    isplitl [H12]; · iapply (show At m c t 12 ⊢ has c (bufs t).w2 (ins m c t).w2 from (found m c 12 (by decide) t).trans (has_of_owns c (bufs t).w2 (ins m c t).w2)); iexact H12
    isplitl [H13]; · iapply (show At m c t 13 ⊢ has c (bufs t).a0 (ins m c t).a0 from (found m c 13 (by decide) t).trans (has_of_owns c (bufs t).a0 (ins m c t).a0)); iexact H13
    isplitl [H14]; · iapply (show At m c t 14 ⊢ has c (bufs t).a2 (ins m c t).a2 from (found m c 14 (by decide) t).trans (has_of_owns c (bufs t).a2 (ins m c t).a2)); iexact H14
    isplitl [H15]; · iapply (show At m c t 15 ⊢ has c (bufs t).kk (ins m c t).kk from (found m c 15 (by decide) t).trans (has_of_owns c (bufs t).kk (ins m c t).kk)); iexact H15
    iapply (show At m c t 16 ⊢ has c (bufs t).ka (ins m c t).ka from (found m c 16 (by decide) t).trans (has_of_owns c (bufs t).ka (ins m c t).ka)); iexact H16
  isplitl [R0 R1 R2 R3 R4 R5 R6 R7 R8 R9]
  · unfold room
    isplitl [R0]; · iapply (show At m c t 17 ⊢ spare c (bufs t).qn' from (roomy m c 17 t).trans (spare_of_owns c (bufs t).qn')); iexact R0
    isplitl [R1]; · iapply (show At m c t 18 ⊢ spare c (bufs t).qr' from (roomy m c 18 t).trans (spare_of_owns c (bufs t).qr')); iexact R1
    isplitl [R2]; · iapply (show At m c t 19 ⊢ spare c (bufs t).kv' from (roomy m c 19 t).trans (spare_of_owns c (bufs t).kv')); iexact R2
    isplitl [R3]; · iapply (show At m c t 20 ⊢ spare c (bufs t).kr' from (roomy m c 20 t).trans (spare_of_owns c (bufs t).kr')); iexact R3
    isplitl [R4]; · iapply (show At m c t 21 ⊢ spare c (bufs t).r' from (roomy m c 21 t).trans (spare_of_owns c (bufs t).r')); iexact R4
    isplitl [R5]; · iapply (show At m c t 22 ⊢ spare c (bufs t).dec' from (roomy m c 22 t).trans (spare_of_owns c (bufs t).dec')); iexact R5
    isplitl [R6]; · iapply (show At m c t 23 ⊢ spare c (bufs t).k' from (roomy m c 23 t).trans (spare_of_owns c (bufs t).k')); iexact R6
    isplitl [R7]; · iapply (show At m c t 24 ⊢ spare c (bufs t).v' from (roomy m c 24 t).trans (spare_of_owns c (bufs t).v')); iexact R7
    isplitl [R8]; · iapply (show At m c t 25 ⊢ spare c (bufs t).nkk' from (roomy m c 25 t).trans (spare_of_owns c (bufs t).nkk')); iexact R8
    iapply (show At m c t 26 ⊢ spare c (bufs t).kka' from (roomy m c 26 t).trans (spare_of_owns c (bufs t).kka')); iexact R9
  iintro ⟨H, R⟩
  ihave R := (left m c t) $$ R
  unfold held
  icases H with ⟨H0, H1, H2, H3, H4, H5, H6, H7, H8, H9, H10, H11, H12, H13, H14, H15, H16⟩
  isplitl [HΦ]; · iexact HΦ
  isplitl [Ho]; · iexact Ho
  isplitl [H0]; · iapply (show has c (bufs t).pm (ins m c t).pm ⊢ Now m c t 0 from owns_of_has c (bufs t).pm (ins m c t).pm); iexact H0
  isplitl [H1]; · iapply (show has c (bufs t).prw (ins m c t).prw ⊢ Now m c t 1 from owns_of_has c (bufs t).prw (ins m c t).prw); iexact H1
  isplitl [H2]; · iapply (show has c (bufs t).halo (ins m c t).halo ⊢ Now m c t 2 from owns_of_has c (bufs t).halo (ins m c t).halo); iexact H2
  isplitl [H3]; · iapply (show has c (bufs t).cos (ins m c t).cos ⊢ Now m c t 3 from owns_of_has c (bufs t).cos (ins m c t).cos); iexact H3
  isplitl [H4]; · iapply (show has c (bufs t).sin (ins m c t).sin ⊢ Now m c t 4 from owns_of_has c (bufs t).sin (ins m c t).sin); iexact H4
  isplitl [H5]; · iapply (show has c (bufs t).qg (ins m c t).qg ⊢ Now m c t 5 from owns_of_has c (bufs t).qg (ins m c t).qg); iexact H5
  isplitl [H6]; · iapply (show has c (bufs t).wqn (ins m c t).wqn ⊢ Now m c t 6 from owns_of_has c (bufs t).wqn (ins m c t).wqn); iexact H6
  isplitl [H7]; · iapply (show has c (bufs t).wqr (ins m c t).wqr ⊢ Now m c t 7 from owns_of_has c (bufs t).wqr (ins m c t).wqr); iexact H7
  isplitl [H8]; · iapply (show has c (bufs t).kvg (ins m c t).kvg ⊢ Now m c t 8 from owns_of_has c (bufs t).kvg (ins m c t).kvg); iexact H8
  isplitl [H9]; · iapply (show has c (bufs t).wkv (ins m c t).wkv ⊢ Now m c t 9 from owns_of_has c (bufs t).wkv (ins m c t).wkv); iexact H9
  isplitl [H10]; · iapply (show has c (bufs t).mu (ins m c t).mu ⊢ Now m c t 10 from owns_of_has c (bufs t).mu (ins m c t).mu); iexact H10
  isplitl [H11]; · iapply (show has c (bufs t).w0 (ins m c t).w0 ⊢ Now m c t 11 from owns_of_has c (bufs t).w0 (ins m c t).w0); iexact H11
  isplitl [H12]; · iapply (show has c (bufs t).w2 (ins m c t).w2 ⊢ Now m c t 12 from owns_of_has c (bufs t).w2 (ins m c t).w2); iexact H12
  isplitl [H13]; · iapply (show has c (bufs t).a0 (ins m c t).a0 ⊢ Now m c t 13 from owns_of_has c (bufs t).a0 (ins m c t).a0); iexact H13
  isplitl [H14]; · iapply (show has c (bufs t).a2 (ins m c t).a2 ⊢ Now m c t 14 from owns_of_has c (bufs t).a2 (ins m c t).a2); iexact H14
  isplitl [H15]; · iapply (show has c (bufs t).kk (ins m c t).kk ⊢ Now m c t 15 from owns_of_has c (bufs t).kk (ins m c t).kk); iexact H15
  isplitl [H16]; · iapply (show has c (bufs t).ka (ins m c t).ka ⊢ Now m c t 16 from owns_of_has c (bufs t).ka (ins m c t).ka); iexact H16
  iexact R

/-! ## The run and the frame -/

set_option backward.isDefEq.respectTransparency.types false in
set_option maxHeartbeats 1600000 in
/-- The program runs, leaves each of the pipeline's arrays at what its proof data says, and every counter at zero. -/
theorem run_quiescent : θ_run defs (onTc (τ := τ) (main (F := F))) (s₀ m ρ) (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := upToCall m) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- An argument which is no window's array ends as it was, and so does one which is an input window's array. -/
theorem kept (c : Dev nD) (r) (h : Pipeline.FramePost cfgs (dats (F := F) m) 0 (V m) r) (b : Ref sig .tc) (hb : b ∈ args)
    (hr : b ∈ Pipeline.restRefs sig spec0) : r.2.mem ((c.tc : Thread nD τ).loc b) = m ((c.tc : Thread nD τ).loc b) :=
  ((h c).2 b hr).trans (V_arg m c b hb)

theorem kept_in (c : Dev nD) (r) (h : Pipeline.FramePost cfgs (dats (F := F) m) 0 (V m) r) (w : Fin cfg0.W)
    (hw : (cfg0.win w).isOut = false) (hb : Pipeline.arrRef spec0 w ∈ args) :
    r.2.mem ((c.tc : Thread nD τ).loc (Pipeline.arrRef spec0 w)) = m ((c.tc : Thread nD τ).loc (Pipeline.arrRef spec0 w)) :=
  ((h c).1 w).trans (((dats m 0 c).arrAt_in w hw _).trans ((A_eq m c w).trans (V_arg m c _ hb)))

set_option maxHeartbeats 1600000 in
/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c => ⟨kept m c r h.1 main_arg0 (by decide) (Pipeline.mem_restRefs_of main_arg0 (by decide) (by decide)),
    kept m c r h.1 main_arg1 (by decide) (Pipeline.mem_restRefs_of main_arg1 (by decide) (by decide)),
    kept m c r h.1 main_arg2 (by decide) (Pipeline.mem_restRefs_of main_arg2 (by decide) (by decide)),
    kept m c r h.1 main_arg3 (by decide) (Pipeline.mem_restRefs_of main_arg3 (by decide) (by decide)),
    kept_in m c r h.1 5 rfl (by decide),
    kept m c r h.1 main_arg5 (by decide) (Pipeline.mem_restRefs_of main_arg5 (by decide) (by decide)),
    kept_in m c r h.1 8 rfl (by decide),
    kept m c r h.1 main_arg7 (by decide) (Pipeline.mem_restRefs_of main_arg7 (by decide) (by decide)),
    kept_in m c r h.1 10 rfl (by decide),
    kept_in m c r h.1 11 rfl (by decide),
    kept m c r h.1 main_arg10 (by decide) (Pipeline.mem_restRefs_of main_arg10 (by decide) (by decide)),
    kept_in m c r h.1 13 rfl (by decide),
    kept m c r h.1 main_arg12 (by decide) (Pipeline.mem_restRefs_of main_arg12 (by decide) (by decide)),
    kept_in m c r h.1 15 rfl (by decide),
    kept_in m c r h.1 16 rfl (by decide)⟩, h.2⟩) (run_quiescent m ρ)

end Cert.Kernel8Ideal.Lat

end
-- ==== Proof.LatBits.lean ====
/- The frame of the latent projections' forward call at the machine's floats, from the frame of its printing for the ideal
   reading: the two programs are one. -/
module

public import proofs.«01_k».proof.Proof.LatFrame
public import proofs.«01_k».proof.Proof.Gen.Kernel8
public import Idealize.ShloMosaic.PureOps.BitExact

@[expose] public section

set_option maxRecDepth 16384

noncomputable section

namespace Cert.Kernel8.Lat

open Idealize.ShloMosaic Idealize.ShloMosaic.TcCoe Idealize.ShloMosaic.Tactic Idealize.SL.Sem

theorem frame (m : (ℓ : Loc Cert.Kernel8.nD Cert.Kernel8.τ Cert.Kernel8.sig) → Buf (Elt Bits) ℓ) (ρ : Dev Cert.Kernel8.nD → PrngReg) :
    θ_run (Cert.Kernel8.defs (F := Bits)) (onTc (τ := Cert.Kernel8.τ) (Cert.Kernel8.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) := by
  have h := Cert.Kernel8Ideal.Lat.frame (F := Bits) m ρ
  refine Eq.mp ?_ h
  sl_kernel_rfl

end Cert.Kernel8.Lat

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.NormClaim
public import proofs.«01_k».proof.Proof.AttnClaim
public import proofs.«01_k».proof.Proof.FwdBits
public import proofs.«01_k».proof.Proof.FwdClaim
public import proofs.«01_k».proof.Proof.PreNormClaim
public import proofs.«01_k».proof.Proof.AdamClaim
public import proofs.«01_k».proof.Proof.WeightGradClaim
public import proofs.«01_k».proof.Proof.RopeClaim
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Reference8Ideal
public import proofs.«01_k».proof.Proof.Gen.Reference8Ideal.Run
public import proofs.«01_k».proof.Proof.Gen.Reference8Ideal.Read
public import proofs.«01_k».proof.Proof.LatFrame
public import proofs.«01_k».proof.Proof.LatBits
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Pre_finite3
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3.Loops
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Loops
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal := by
  intro m g _
  exact (θ_run Cert.ReferenceIdeal.defs _ _).mono (fun r h => ⟨fun c => (h c).2.2.2, sem_eq_zero_of_no_sems (by decide) r.2⟩)
    (Cert.ReferenceIdeal.Value.run m g)

theorem frame_reference2 : Cert.quiescent_Reference2Ideal := by
  intro m g _
  exact (θ_run Cert.Reference2Ideal.defs _ _).mono (fun r h => ⟨fun c => (h c).2.2.2.2, sem_eq_zero_of_no_sems (by decide) r.2⟩)
    (Cert.Reference2Ideal.Value.run m g)

theorem frame_reference3 : Cert.quiescent_Reference3Ideal := by
  intro m g _
  exact (θ_run Cert.Reference3Ideal.defs _ _).mono (fun r h => ⟨fun c => (h c).2.2, sem_eq_zero_of_no_sems (by decide) r.2⟩)
    (Cert.Reference3Ideal.Value.run m g)

theorem frame_reference4 : Cert.quiescent_Reference4Ideal := by
  intro m g _
  exact (θ_run Cert.Reference4Ideal.defs _ _).mono (fun r h => ⟨fun c => (h c).2.2.2.2, sem_eq_zero_of_no_sems (by decide) r.2⟩)
    (Cert.Reference4Ideal.Value.run m g)

theorem frame_reference5 : Cert.quiescent_Reference5Ideal := by
  intro m g _
  exact (θ_run Cert.Reference5Ideal.defs _ _).mono (fun r h => ⟨fun c => (h c).2.2.2.2, sem_eq_zero_of_no_sems (by decide) r.2⟩)
    (Cert.Reference5Ideal.Value.run m g)

theorem frame_reference6 : Cert.quiescent_Reference6Ideal := by
  intro m g _
  exact (θ_run Cert.Reference6Ideal.defs _ _).mono (fun r h => ⟨fun c => (h c).2, sem_eq_zero_of_no_sems (by decide) r.2⟩)
    (Cert.Reference6Ideal.Value.run m g)

theorem frame_reference7 : Cert.quiescent_Reference7Ideal := by
  intro m g _
  exact (θ_run Cert.Reference7Ideal.defs _ _).mono (fun r h => ⟨fun c => (h c).2.2, sem_eq_zero_of_no_sems (by decide) r.2⟩)
    (Cert.Reference7Ideal.Value.run m g)

theorem frame_reference8 : Cert.quiescent_Reference8Ideal := by
  intro m g _
  exact (θ_run Cert.Reference8Ideal.defs _ _).mono (fun r h => ⟨fun c => (h c).2.2.2.2.2.2.2.2.2.2, sem_eq_zero_of_no_sems (by decide) r.2⟩)
    (Cert.Reference8Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.Gen.facts, Cert.Pre_finite2.Gen.facts, Cert.Pre_finite3.Gen.facts,
  fun m g _ => Cert.Kernel.Gen.frame m g, fun m g _ => Cert.KernelIdeal.Gen.frame m g,
  fun m g _ => Cert.KernelIdeal.Gen.frame m g, frame_reference, fun m g _ => frame_reference m g trivial,
  fun m g _ => Cert.Kernel2.Gen.frame m g, fun m g _ => Cert.Kernel2Ideal.Gen.frame m g, fun m g _ => Cert.Kernel2Ideal.Gen.frame m g,
  frame_reference2, fun m g _ => frame_reference2 m g trivial,
  fun m g _ => Cert.Kernel3.Fwd.frame m g, fun m g _ => Cert.Kernel3Ideal.Fwd.frame m g,
  fun m g _ => Cert.Kernel3Ideal.Fwd.frame m g, frame_reference3, fun m g _ => frame_reference3 m g trivial,
  fun m g _ => Cert.Kernel4.Gen.frame m g, fun m g _ => Cert.Kernel4Ideal.Gen.frame m g, frame_reference4,
  fun m g _ => Cert.Kernel5.Gen.frame m g, fun m g _ => Cert.Kernel5Ideal.Gen.frame m g, frame_reference5,
  fun m g _ => Cert.Kernel6.Gen.frame m g, fun m g _ => Cert.Kernel6Ideal.Gen.frame m g, frame_reference6,
  fun m g _ => Cert.Kernel7.Gen.frame m g, fun m g _ => Cert.Kernel7Ideal.Gen.frame m g, frame_reference7,
  fun m g _ => Cert.Kernel8.Lat.frame m g, fun m g _ => Cert.Kernel8Ideal.Lat.frame m g, frame_reference8, trivial,
  Cert.KernelIdeal.NormBwd.algebraic, trivial, Cert.Kernel2Ideal.Attn.algebraic,
  IdealRules.named_const.statement Cert.Kernel3Ideal.κ "mask" .f32 0xF149F2CA#32 ⊥ rfl,
  Cert.Kernel3Ideal.Fwd.algebraic, trivial, Cert.Kernel4Ideal.PreNorm.algebraic, trivial, Cert.Kernel5Ideal.Adam.algebraic,
  trivial, Cert.Kernel6Ideal.WeightGrad.algebraic, trivial, Cert.Kernel7Ideal.Rope.algebraic, trivial⟩

end Cert.Proof

end
